-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  IdealRules.named_const.Statement Cert.KernelIdeal.κ "qk_scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v52) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v41_0)) (v1 : (c : Dev Cert.Kernel5Ideal.nD) → Buf (Elt Ideal) ((c.tc : Thread Cert.Kernel5Ideal.nD Cert.Kernel5Ideal.τ).loc Cert.Kernel5Ideal.main_v41_1)) (v2 : (c : Dev Cert.Kernel5Ideal.nD) → Buf (Elt Ideal) ((c.tc : Thread Cert.Kernel5Ideal.nD Cert.Kernel5Ideal.τ).loc Cert.Kernel5Ideal.main_v41_2)) (v3 : (c : Dev Cert.Kernel5Ideal.nD) → Buf (Elt Ideal) ((c.tc : Thread Cert.Kernel5Ideal.nD Cert.Kernel5Ideal.τ).loc Cert.Kernel5Ideal.main_v41_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v41_0) = v0 c
          ∧ r.2.mem ((c.tc : Thread Cert.Kernel5Ideal.nD Cert.Kernel5Ideal.τ).loc Cert.Kernel5Ideal.main_v41_1) = v1 c
          ∧ r.2.mem ((c.tc : Thread Cert.Kernel5Ideal.nD Cert.Kernel5Ideal.τ).loc Cert.Kernel5Ideal.main_v41_2) = v2 c
          ∧ r.2.mem ((c.tc : Thread Cert.Kernel5Ideal.nD Cert.Kernel5Ideal.τ).loc Cert.Kernel5Ideal.main_v41_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v147) = v0 c
          ∧ r.2.mem ((c.tc : Thread Cert.Reference5Ideal.nD Cert.Reference5Ideal.τ).loc Cert.Reference5Ideal.main_v148) = v1 c
          ∧ r.2.mem ((c.tc : Thread Cert.Reference5Ideal.nD Cert.Reference5Ideal.τ).loc Cert.Reference5Ideal.main_v150) = v2 c
          ∧ r.2.mem ((c.tc : Thread Cert.Reference5Ideal.nD Cert.Reference5Ideal.τ).loc Cert.Reference5Ideal.main_v152) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_v40) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v44) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v52) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)) (v3 : (c : Dev Cert.Kernel9Ideal.nD) → Buf (Elt Ideal) ((c.tc : Thread Cert.Kernel9Ideal.nD Cert.Kernel9Ideal.τ).loc Cert.Kernel9Ideal.main_v4_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_v4_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v32) = v0 c
          ∧ r.2.mem ((c.tc : Thread Cert.Reference9Ideal.nD Cert.Reference9Ideal.τ).loc Cert.Reference9Ideal.main_v34) = v1 c
          ∧ r.2.mem ((c.tc : Thread Cert.Reference9Ideal.nD Cert.Reference9Ideal.τ).loc Cert.Reference9Ideal.main_v36) = v2 c
          ∧ r.2.mem ((c.tc : Thread Cert.Reference9Ideal.nD Cert.Reference9Ideal.τ).loc Cert.Reference9Ideal.main_v38) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v7_0)) (v1 : (c : Dev Cert.Kernel10Ideal.nD) → Buf (Elt Ideal) ((c.tc : Thread Cert.Kernel10Ideal.nD Cert.Kernel10Ideal.τ).loc Cert.Kernel10Ideal.main_v7_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7_0) = v0 c
          ∧ r.2.mem ((c.tc : Thread Cert.Kernel10Ideal.nD Cert.Kernel10Ideal.τ).loc Cert.Kernel10Ideal.main_v7_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v34) = v0 c
          ∧ r.2.mem ((c.tc : Thread Cert.Reference10Ideal.nD Cert.Reference10Ideal.τ).loc Cert.Reference10Ideal.main_v35) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S8x4096x512 : Shape := ⟨3, ![8, 4096, 512]⟩
abbrev S8x256x512 : Shape := ⟨3, ![8, 256, 512]⟩
abbrev S1x4x64 : Shape := ⟨3, ![1, 4, 64]⟩
abbrev S1x128 : Shape := ⟨2, ![1, 128]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x256x512 : S_.BroadcastsInDim S8x256x512 (![] : Fin 0 → Fin S8x256x512.rank)
  reducesTo_S8x256x512_S_d0_1_2 : S8x256x512.ReducesTo [0, 1, 2] S_
  bcast_S_S1x4x64 : S_.BroadcastsInDim S1x4x64 (![] : Fin 0 → Fin S1x4x64.rank)
  reducesTo_S1x4x64_S_d0_1_2 : S1x4x64.ReducesTo [0, 1, 2] S_

variable [Facts]

def fn_part1 {F : FTy → Type} [FloatOps F] (main_arg4 : FVec F S8x4096x512 .f32) (main_arg5 : FVec F S1x4x64 .f32) (main_v13 : IVec S_ 1) (main_v16 : IVec S8x256x512 1) : IVec S_ 1 :=
  let main_c_5 : IVec S_ 1 := constantI S_ 1 1#1
  let main_v17 : IVec S_ 1 := (fun x v => Host.reduce IntOp.andi x v reducesTo_S8x256x512_S_d0_1_2 h_S_) main_v16 main_c_5
  let main_v18 : IVec S_ 1 := andi main_v13 main_v17
  let main_v19 : FVec F S8x4096x512 .f32 := Host.absf main_arg4
  let main_cst_6 : FVec F S_ .f32 := constant S_ .f32 0x7F800000#32
  let main_v20 : FVec F S8x4096x512 .f32 := broadcastInDim S8x4096x512 ![] bcast_S_S8x4096x512 main_cst_6
  let main_v21 : IVec S8x4096x512 1 := cmpf .olt main_v19 main_v20
  let main_c_7 : IVec S_ 1 := constantI S_ 1 1#1
  let main_v22 : IVec S_ 1 := (fun x v => Host.reduce IntOp.andi x v reducesTo_S8x4096x512_S_d0_1_2 h_S_) main_v21 main_c_7
  let main_v23 : IVec S_ 1 := andi main_v18 main_v22
  let main_v24 : FVec F S1x4x64 .f32 := Host.absf main_arg5
  let main_cst_8 : FVec F S_ .f32 := constant S_ .f32 0x7F800000#32
  let main_v25 : FVec F S1x4x64 .f32 := broadcastInDim S1x4x64 ![] bcast_S_S1x4x64 main_cst_8
  let main_v26 : IVec S1x4x64 1 := cmpf .olt main_v24 main_v25
  let main_c_9 : IVec S_ 1 := constantI S_ 1 1#1
  let main_v27 : IVec S_ 1 := (fun x v => Host.reduce IntOp.andi x v reducesTo_S1x4x64_S_d0_1_2 h_S_) main_v26 main_c_9
  let main_v28 : IVec S_ 1 := andi main_v23 main_v27
  main_v28

def fn {F : FTy → Type} [FloatOps F] (main_arg0 : FVec F S8x4096x512 .f32) (main_arg1 : FVec F S8x256x512 .f32) (main_arg2 : FVec F S8x4096x512 .f32) (main_arg3 : FVec F S8x256x512 .f32) (main_arg4 : FVec F S8x4096x512 .f32) (main_arg5 : FVec F S1x4x64 .f32) (main_arg6 : FVec F S1x128 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x256x512 .f32 := Host.absf main_arg1
  let main_cst_0 : FVec F S_ .f32 := constant S_ .f32 0x7F800000#32
  let main_v5 : FVec F S8x256x512 .f32 := broadcastInDim S8x256x512 ![] bcast_S_S8x256x512 main_cst_0
  let main_v6 : IVec S8x256x512 1 := cmpf .olt main_v4 main_v5
  let main_c_1 : IVec S_ 1 := constantI S_ 1 1#1
  let main_v7 : IVec S_ 1 := (fun x v => Host.reduce IntOp.andi x v reducesTo_S8x256x512_S_d0_1_2 h_S_) main_v6 main_c_1
  let main_v8 : IVec S_ 1 := andi main_v3 main_v7
  let main_v9 : FVec F S8x4096x512 .f32 := Host.absf main_arg2
  let main_cst_2 : FVec F S_ .f32 := constant S_ .f32 0x7F800000#32
  let main_v10 : FVec F S8x4096x512 .f32 := broadcastInDim S8x4096x512 ![] bcast_S_S8x4096x512 main_cst_2
  let main_v11 : IVec S8x4096x512 1 := cmpf .olt main_v9 main_v10
  let main_c_3 : IVec S_ 1 := constantI S_ 1 1#1
  let main_v12 : IVec S_ 1 := (fun x v => Host.reduce IntOp.andi x v reducesTo_S8x4096x512_S_d0_1_2 h_S_) main_v11 main_c_3
  let main_v13 : IVec S_ 1 := andi main_v8 main_v12
  let main_v14 : FVec F S8x256x512 .f32 := Host.absf main_arg3
  let main_cst_4 : FVec F S_ .f32 := constant S_ .f32 0x7F800000#32
  let main_v15 : FVec F S8x256x512 .f32 := broadcastInDim S8x256x512 ![] bcast_S_S8x256x512 main_cst_4
  let main_v16 : IVec S8x256x512 1 := cmpf .olt main_v14 main_v15
  fn_part1 (F := F) main_arg4 main_arg5 main_v13 main_v16
-- ==== Kernel.lean ====
abbrev S8x4096x512 : Shape := ⟨3, ![8, 4096, 512]⟩
abbrev S8x256x512 : Shape := ⟨3, ![8, 256, 512]⟩
abbrev S1x4x64 : Shape := ⟨3, ![1, 4, 64]⟩
abbrev S1x128 : Shape := ⟨2, ![1, 128]⟩
abbrev S4x64 : Shape := ⟨2, ![4, 64]⟩
abbrev S128 : Shape := ⟨1, ![128]⟩
abbrev S1x512x128 : Shape := ⟨3, ![1, 512, 128]⟩
abbrev S1x256x128 : Shape := ⟨3, ![1, 256, 128]⟩
abbrev S1x4096x128 : Shape := ⟨3, ![1, 4096, 128]⟩
abbrev S512x128 : Shape := ⟨2, ![512, 128]⟩
abbrev S256x128 : Shape := ⟨2, ![256, 128]⟩
abbrev S512x256 : Shape := ⟨2, ![512, 256]⟩
abbrev S4096x128 : Shape := ⟨2, ![4096, 128]⟩
abbrev S512x4096 : Shape := ⟨2, ![512, 4096]⟩
abbrev S512 : Shape := ⟨1, ![512]⟩
abbrev S512x1 : Shape := ⟨2, ![512, 1]⟩
abbrev S1x64 : Shape := ⟨2, ![1, 64]⟩
abbrev S1 : Shape := ⟨1, ![1]⟩
abbrev S1x1 : Shape := ⟨2, ![1, 1]⟩

abbrev nBuf : Space → Nat
  | .hbm => 15
  | .vmem => 14
  | .smem => 0
  | _ => 0

abbrev bufTy : (tb : Table) → Fin (tcTables nBuf tb) → BufTy
  | .hbm, ⟨0, _⟩ => ⟨S8x4096x512, .f32⟩
  | .hbm, ⟨1, _⟩ => ⟨S8x256x512, .f32⟩
  | .hbm, ⟨2, _⟩ => ⟨S8x4096x512, .f32⟩
  | .hbm, ⟨3, _⟩ => ⟨S8x256x512, .f32⟩
  | .hbm, ⟨4, _⟩ => ⟨S8x4096x512, .f32⟩
  | .hbm, ⟨5, _⟩ => ⟨S1x4x64, .f32⟩
  | .hbm, ⟨6, _⟩ => ⟨S1x128, .f32⟩
  | .hbm, ⟨7, _⟩ => ⟨S8x256x512, .bf16⟩
  | .hbm, ⟨8, _⟩ => ⟨S8x4096x512, .bf16⟩
  | .hbm, ⟨9, _⟩ => ⟨S8x256x512, .bf16⟩
  | .hbm, ⟨10, _⟩ => ⟨S8x4096x512, .bf16⟩
  | .hbm, ⟨11, _⟩ => ⟨S4x64, .f32⟩
  | .hbm, ⟨12, _⟩ => ⟨S128, .f32⟩
  | .hbm, ⟨13, _⟩ => ⟨S1x128, .f32⟩
  | .hbm, ⟨14, _⟩ => ⟨S8x4096x512, .bf16⟩
  | .local _ .vmem, ⟨0, _⟩ => ⟨S4x64, .f32⟩
  | .local _ .vmem, ⟨1, _⟩ => ⟨S1x128, .f32⟩
  | .local _ .vmem, ⟨2, _⟩ => ⟨S1x512x128, .f32⟩
  | .local _ .vmem, ⟨3, _⟩ => ⟨S1x512x128, .f32⟩
  | .local _ .vmem, ⟨4, _⟩ => ⟨S1x256x128, .bf16⟩
  | .local _ .vmem, ⟨5, _⟩ => ⟨S1x256x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x512x128, .bf16⟩
  | .local _ .vmem, ⟨13, _⟩ => ⟨S1x512x128, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "qk_scale" => some (((1 / 8) * (Real.log 2)⁻¹ : ℝ) : EReal)
  | _ => none
-- ==== ReferenceIdeal.lean ====
abbrev S8x4096x512 : Shape := ⟨3, ![8, 4096, 512]⟩
abbrev S8x256x512 : Shape := ⟨3, ![8, 256, 512]⟩
abbrev S1x4x64 : Shape := ⟨3, ![1, 4, 64]⟩
abbrev S1x128 : Shape := ⟨2, ![1, 128]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S8x4096x4x2x64 : Shape := ⟨5, ![8, 4096, 4, 2, 64]⟩
abbrev S8x256x4x2x64 : Shape := ⟨5, ![8, 256, 4, 2, 64]⟩
abbrev S8x4352x4x2x64 : Shape := ⟨5, ![8, 4352, 4, 2, 64]⟩
abbrev S8x256x4x128 : Shape := ⟨4, ![8, 256, 4, 128]⟩
abbrev S8x4096x4x128 : Shape := ⟨4, ![8, 4096, 4, 128]⟩
abbrev S8x4352x4x128 : Shape := ⟨4, ![8, 4352, 4, 128]⟩
abbrev S8x4x2x4096x4352 : Shape := ⟨5, ![8, 4, 2, 4096, 4352]⟩
abbrev S8x4x2x4096 : Shape := ⟨4, ![8, 4, 2, 4096]⟩
abbrev S8x4x2x4096x1 : Shape := ⟨5, ![8, 4, 2, 4096, 1]⟩
abbrev S8x4x1x4096x4352 : Shape := ⟨5, ![8, 4, 1, 4096, 4352]⟩
abbrev S8x4x4096x4352 : Shape := ⟨4, ![8, 4, 4096, 4352]⟩
abbrev S8x4x128x4096 : Shape := ⟨4, ![8, 4, 128, 4096]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩

abbrev nBuf : Space → Nat
  | .hbm => 83
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x256x512, .f32⟩
  | .hbm, ⟨2, _⟩ => ⟨S8x4096x512, .f32⟩
  | .hbm, ⟨3, _⟩ => ⟨S8x256x512, .f32⟩
  | .hbm, ⟨4, _⟩ => ⟨S8x4096x512, .f32⟩
  | .hbm, ⟨5, _⟩ => ⟨S1x4x64, .f32⟩
  | .hbm, ⟨6, _⟩ => ⟨S1x128, .f32⟩
  | .hbm, ⟨7, _⟩ => ⟨S4x64, .f32⟩
  | .hbm, ⟨8, _⟩ => ⟨S128, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x4096x4x2x64, .f32⟩
  | .hbm, ⟨29, _⟩ => ⟨S8x256x4x2x64, .f32⟩
  | .hbm, ⟨30, _⟩ => ⟨S8x4096x4x2x64, .f32⟩
  | .hbm, ⟨31, _⟩ => ⟨S8x4352x4x2x64, .f32⟩
  | .hbm, ⟨32, _⟩ => ⟨S8x256x4x128, .f32⟩
  | .hbm, ⟨33, _⟩ => ⟨S8x4096x4x128, .f32⟩
  | .hbm, ⟨34, _⟩ => ⟨S8x4352x4x128, .f32⟩
  | .hbm, ⟨35, _⟩ => ⟨S8x4x2x4096x4352, .f32⟩
  | .hbm, ⟨36, _⟩ => ⟨S_, .f32⟩
  | .hbm, ⟨37, _⟩ => ⟨S8x4x2x4096x4352, .f32⟩
  | .hbm, ⟨38, _⟩ => ⟨S8x4x2x4096x4352, .f32⟩
  | .hbm, ⟨39, _⟩ => ⟨S_, .f32⟩
  | .hbm, ⟨40, _⟩ => ⟨S8x4x2x4096, .f32⟩
  | .hbm, ⟨41, _⟩ => ⟨S_, .f32⟩
  | .hbm, ⟨42, _⟩ => ⟨S8x4x2x4096, .f32⟩
  | .hbm, ⟨43, _⟩ => ⟨S8x4x2x4096, .f32⟩
  | .hbm, ⟨44, _⟩ => ⟨S8x4x2x4096x1, .f32⟩
  | .hbm, ⟨45, _⟩ => ⟨S8x4x2x4096x4352, .f32⟩
  | .hbm, ⟨46, _⟩ => ⟨S8x4x2x4096x4352, .f32⟩
  | .hbm, ⟨47, _⟩ => ⟨S8x4x2x4096x4352, .f32⟩
  | .hbm, ⟨48, _⟩ => ⟨S_, .f32⟩
  | .hbm, ⟨49, _⟩ => ⟨S8x4x2x4096, .f32⟩
  | .hbm, ⟨50, _⟩ => ⟨S8x4x2x4096x1, .f32⟩
  | .hbm, ⟨51, _⟩ => ⟨S8x4x2x4096x4352, .f32⟩
  | .hbm, ⟨52, _⟩ => ⟨S8x4x2x4096x4352, .f32⟩
  | .hbm, ⟨53, _⟩ => ⟨S8x4x1x4096x4352, .f32⟩
  | .hbm, ⟨54, _⟩ => ⟨S8x4x4096x4352, .f32⟩
  | .hbm, ⟨55, _⟩ => ⟨S8x4x1x4096x4352, .f32⟩
  | .hbm, ⟨56, _⟩ => ⟨S8x4x4096x4352, .f32⟩
  | .hbm, ⟨57, _⟩ => ⟨S8x4x4096x4352, .f32⟩
  | .hbm, ⟨58, _⟩ => ⟨S8x4x4096x4352, .f32⟩
  | .hbm, ⟨59, _⟩ => ⟨S8x4x4096x4352, .f32⟩
  | .hbm, ⟨60, _⟩ => ⟨S8x4x128x4096, .f32⟩
  | .hbm, ⟨61, _⟩ => ⟨S8x4096x4x128, .f32⟩
  | .hbm, ⟨62, _⟩ => ⟨S8x4096x4x128, .f32⟩
  | .hbm, ⟨63, _⟩ => ⟨S_, .f32⟩
  | .hbm, ⟨64, _⟩ => ⟨S8x4096x4, .f32⟩
  | .hbm, ⟨65, _⟩ => ⟨S8x4096x4x1, .f32⟩
  | .hbm, ⟨66, _⟩ => ⟨S_, .f32⟩
  | .hbm, ⟨67, _⟩ => ⟨S8x4096x4x1, .f32⟩
  | .hbm, ⟨68, _⟩ => ⟨S8x4096x4x1, .f32⟩
  | .hbm, ⟨69, _⟩ => ⟨S_, .f32⟩
  | .hbm, ⟨70, _⟩ => ⟨S8x4096x4x1, .f32⟩
  | .hbm, ⟨71, _⟩ => ⟨S8x4096x4x1, .f32⟩
  | .hbm, ⟨72, _⟩ => ⟨S8x4096x4x1, .f32⟩
  | .hbm, ⟨73, _⟩ => ⟨S8x4096x4x128, .f32⟩
  | .hbm, ⟨74, _⟩ => ⟨S8x4096x4x128, .f32⟩
  | .hbm, ⟨75, _⟩ => ⟨S1x1x1x128, .f32⟩
  | .hbm, ⟨76, _⟩ => ⟨S8x4096x4x128, .f32⟩
  | .hbm, ⟨77, _⟩ => ⟨S8x4096x4x128, .f32⟩
  | .hbm, ⟨78, _⟩ => ⟨S_, .f32⟩
  | .hbm, ⟨79, _⟩ => ⟨S8x4096x4x128, .f32⟩
  | .hbm, ⟨80, _⟩ => ⟨S8x4096x4x128, .f32⟩
  | .hbm, ⟨81, _⟩ => ⟨S8x4096x512, .f32⟩
  | .hbm, ⟨82, _⟩ => ⟨S8x4096x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Kernel2.lean ====
abbrev S8x4096x1024 : Shape := ⟨3, ![8, 4096, 1024]⟩
abbrev S9x9x1024 : Shape := ⟨3, ![9, 9, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1x1024x1024 : Shape := ⟨3, ![1, 1024, 1024]⟩
abbrev S1024 : Shape := ⟨1, ![1024]⟩
abbrev S1024x1024 : Shape := ⟨2, ![1024, 1024]⟩
abbrev S1x3x1024 : Shape := ⟨3, ![1, 3, 1024]⟩
abbrev S3x1024 : Shape := ⟨2, ![3, 1024]⟩
abbrev S1x1024 : Shape := ⟨2, ![1, 1024]⟩
abbrev S1x512x1024 : Shape := ⟨3, ![1, 512, 1024]⟩
abbrev S1x9x1024 : Shape := ⟨3, ![1, 9, 1024]⟩
abbrev S1x1x1024x2816 : Shape := ⟨4, ![1, 1, 1024, 2816]⟩
abbrev S1x1x2816x1024 : Shape := ⟨4, ![1, 1, 2816, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 19
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S9x9x1024, .f32⟩
  | .hbm, ⟨2, _⟩ => ⟨S2x3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S8x4096x1024, .f32⟩
  | .hbm, ⟨7, _⟩ => ⟨S1x1024x1024, .f32⟩
  | .hbm, ⟨8, _⟩ => ⟨S1024, .f32⟩
  | .hbm, ⟨9, _⟩ => ⟨S2x2x1024x2816, .bf16⟩
  | .hbm, ⟨10, _⟩ => ⟨S2x2x1024x2816, .bf16⟩
  | .hbm, ⟨11, _⟩ => ⟨S2x2x2816x1024, .bf16⟩
  | .hbm, ⟨12, _⟩ => ⟨S1024x1024, .f32⟩
  | .hbm, ⟨13, _⟩ => ⟨S1024x1024, .bf16⟩
  | .hbm, ⟨14, _⟩ => ⟨S1x3x1024, .f32⟩
  | .hbm, ⟨15, _⟩ => ⟨S3x1024, .f32⟩
  | .hbm, ⟨16, _⟩ => ⟨S8x4096x1024, .bf16⟩
  | .hbm, ⟨17, _⟩ => ⟨S1x1024, .f32⟩
  | .hbm, ⟨18, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1x1x1024x2816, .bf16⟩
  | .local _ .vmem, ⟨6, _⟩ => ⟨S1x1x1024x2816, .bf16⟩
  | .local _ .vmem, ⟨7, _⟩ => ⟨S1x1x2816x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S8x4096x1024 : Shape := ⟨3, ![8, 4096, 1024]⟩
abbrev S9x9x1024 : Shape := ⟨3, ![9, 9, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1x1024x1024 : Shape := ⟨3, ![1, 1024, 1024]⟩
abbrev S1024 : Shape := ⟨1, ![1024]⟩
abbrev S8x9x1024 : Shape := ⟨3, ![8, 9, 1024]⟩
abbrev S8x9x1x1024 : Shape := ⟨4, ![8, 9, 1, 1024]⟩
abbrev S1024x1024 : Shape := ⟨2, ![1024, 1024]⟩
abbrev S8x1x1x1024 : Shape := ⟨4, ![8, 1, 1, 1024]⟩
abbrev S8x1x1024 : Shape := ⟨3, ![8, 1, 1024]⟩
abbrev S1x1x1024 : Shape := ⟨3, ![1, 1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S8x4096x2816 : Shape := ⟨3, ![8, 4096, 2816]⟩

abbrev nBuf : Space → Nat
  | .hbm => 90
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S9x9x1024, .f32⟩
  | .hbm, ⟨2, _⟩ => ⟨S2x3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S8x4096x1024, .f32⟩
  | .hbm, ⟨7, _⟩ => ⟨S1x1024x1024, .f32⟩
  | .hbm, ⟨8, _⟩ => ⟨S1024, .f32⟩
  | .hbm, ⟨9, _⟩ => ⟨S8x9x1024, .f32⟩
  | .hbm, ⟨10, _⟩ => ⟨S8x9x1x1024, .f32⟩
  | .hbm, ⟨11, _⟩ => ⟨S1024x1024, .f32⟩
  | .hbm, ⟨12, _⟩ => ⟨S8x4096x1024, .f32⟩
  | .hbm, ⟨13, _⟩ => ⟨S8x1x1x1024, .f32⟩
  | .hbm, ⟨14, _⟩ => ⟨S8x1x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S1024, .f32⟩
  | .hbm, ⟨20, _⟩ => ⟨S1x1x1024x2816, .f32⟩
  | .hbm, ⟨21, _⟩ => ⟨S1024x2816, .f32⟩
  | .hbm, ⟨22, _⟩ => ⟨S1x1x1024x2816, .f32⟩
  | .hbm, ⟨23, _⟩ => ⟨S1024x2816, .f32⟩
  | .hbm, ⟨24, _⟩ => ⟨S1x1x2816x1024, .f32⟩
  | .hbm, ⟨25, _⟩ => ⟨S2816x1024, .f32⟩
  | .hbm, ⟨26, _⟩ => ⟨S8x1x1x1024, .f32⟩
  | .hbm, ⟨27, _⟩ => ⟨S8x1x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x4096x1024, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S8x4096x1, .f32⟩
  | .hbm, ⟨42, _⟩ => ⟨S8x4096x1024, .f32⟩
  | .hbm, ⟨43, _⟩ => ⟨S8x4096x1024, .f32⟩
  | .hbm, ⟨44, _⟩ => ⟨S1x1x1024, .f32⟩
  | .hbm, ⟨45, _⟩ => ⟨S8x4096x1024, .f32⟩
  | .hbm, ⟨46, _⟩ => ⟨S8x4096x1024, .f32⟩
  | .hbm, ⟨47, _⟩ => ⟨S8x1x1x1024, .f32⟩
  | .hbm, ⟨48, _⟩ => ⟨S8x1x1024, .f32⟩
  | .hbm, ⟨49, _⟩ => ⟨S_, .f32⟩
  | .hbm, ⟨50, _⟩ => ⟨S8x1x1024, .f32⟩
  | .hbm, ⟨51, _⟩ => ⟨S8x1x1024, .f32⟩
  | .hbm, ⟨52, _⟩ => ⟨S8x4096x1024, .f32⟩
  | .hbm, ⟨53, _⟩ => ⟨S8x4096x1024, .f32⟩
  | .hbm, ⟨54, _⟩ => ⟨S8x1x1x1024, .f32⟩
  | .hbm, ⟨55, _⟩ => ⟨S8x1x1024, .f32⟩
  | .hbm, ⟨56, _⟩ => ⟨S8x4096x1024, .f32⟩
  | .hbm, ⟨57, _⟩ => ⟨S8x4096x1024, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S_, .f32⟩
  | .hbm, ⟨62, _⟩ => ⟨S8x4096x2816, .f32⟩
  | .hbm, ⟨63, _⟩ => ⟨S8x4096x2816, .f32⟩
  | .hbm, ⟨64, _⟩ => ⟨S_, .f32⟩
  | .hbm, ⟨65, _⟩ => ⟨S8x4096x2816, .f32⟩
  | .hbm, ⟨66, _⟩ => ⟨S8x4096x2816, .f32⟩
  | .hbm, ⟨67, _⟩ => ⟨S8x4096x2816, .f32⟩
  | .hbm, ⟨68, _⟩ => ⟨S8x4096x2816, .f32⟩
  | .hbm, ⟨69, _⟩ => ⟨S8x4096x2816, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | .hbm, ⟨75, _⟩ => ⟨S_, .f32⟩
  | .hbm, ⟨76, _⟩ => ⟨S8x4096, .f32⟩
  | .hbm, ⟨77, _⟩ => ⟨S8x4096x1, .f32⟩
  | .hbm, ⟨78, _⟩ => ⟨S_, .f32⟩
  | .hbm, ⟨79, _⟩ => ⟨S8x4096x1, .f32⟩
  | .hbm, ⟨80, _⟩ => ⟨S8x4096x1, .f32⟩
  | .hbm, ⟨81, _⟩ => ⟨S_, .f32⟩
  | .hbm, ⟨82, _⟩ => ⟨S8x4096x1, .f32⟩
  | .hbm, ⟨83, _⟩ => ⟨S8x4096x1, .f32⟩
  | .hbm, ⟨84, _⟩ => ⟨S8x4096x1, .f32⟩
  | .hbm, ⟨85, _⟩ => ⟨S8x4096x1024, .f32⟩
  | .hbm, ⟨86, _⟩ => ⟨S8x4096x1024, .f32⟩
  | .hbm, ⟨87, _⟩ => ⟨S1x1x1024, .f32⟩
  | .hbm, ⟨88, _⟩ => ⟨S8x4096x1024, .f32⟩
  | .hbm, ⟨89, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_4 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]
-- ==== Kernel3.lean ====
abbrev S8x4096x1024 : Shape := ⟨3, ![8, 4096, 1024]⟩
abbrev S9x9x1024 : Shape := ⟨3, ![9, 9, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1x3x1024 : Shape := ⟨3, ![1, 3, 1024]⟩
abbrev S3x1024 : Shape := ⟨2, ![3, 1024]⟩
abbrev S1x512x1024 : Shape := ⟨3, ![1, 512, 1024]⟩
abbrev S1x9x1024 : Shape := ⟨3, ![1, 9, 1024]⟩
abbrev S1x1x1024x2816 : Shape := ⟨4, ![1, 1, 1024, 2816]⟩
abbrev S1x1x2816x1024 : Shape := ⟨4, ![1, 1, 2816, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S9x9x1024, .f32⟩
  | .hbm, ⟨2, _⟩ => ⟨S2x3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S2x2x1024x2816, .bf16⟩
  | .hbm, ⟨7, _⟩ => ⟨S2x2x1024x2816, .bf16⟩
  | .hbm, ⟨8, _⟩ => ⟨S2x2x2816x1024, .bf16⟩
  | .hbm, ⟨9, _⟩ => ⟨S1x3x1024, .f32⟩
  | .hbm, ⟨10, _⟩ => ⟨S3x1024, .f32⟩
  | .hbm, ⟨11, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1x1x1024x2816, .bf16⟩
  | .local _ .vmem, ⟨6, _⟩ => ⟨S1x1x1024x2816, .bf16⟩
  | .local _ .vmem, ⟨7, _⟩ => ⟨S1x1x2816x1024, .bf16⟩
  | .local _ .vmem, ⟨8, _⟩ => ⟨S1x512x1024, .f32⟩
  | .local _ .vmem, ⟨9, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8x4096x1024 : Shape := ⟨3, ![8, 4096, 1024]⟩
abbrev S9x9x1024 : Shape := ⟨3, ![9, 9, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S8x9x1024 : Shape := ⟨3, ![8, 9, 1024]⟩
abbrev S8x9x1x1024 : Shape := ⟨4, ![8, 9, 1, 1024]⟩
abbrev S1x1x1024 : Shape := ⟨3, ![1, 1, 1024]⟩
abbrev S1024 : Shape := ⟨1, ![1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S8x1x1x1024 : Shape := ⟨4, ![8, 1, 1, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S8x4096x2816 : Shape := ⟨3, ![8, 4096, 2816]⟩

abbrev nBuf : Space → Nat
  | .hbm => 64
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S9x9x1024, .f32⟩
  | .hbm, ⟨2, _⟩ => ⟨S2x3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S8x9x1024, .f32⟩
  | .hbm, ⟨7, _⟩ => ⟨S8x9x1x1024, .f32⟩
  | .hbm, ⟨8, _⟩ => ⟨S1x1x1024, .f32⟩
  | .hbm, ⟨9, _⟩ => ⟨S1024, .f32⟩
  | .hbm, ⟨10, _⟩ => ⟨S1x1x1024x2816, .f32⟩
  | .hbm, ⟨11, _⟩ => ⟨S1024x2816, .f32⟩
  | .hbm, ⟨12, _⟩ => ⟨S1x1x1024x2816, .f32⟩
  | .hbm, ⟨13, _⟩ => ⟨S1024x2816, .f32⟩
  | .hbm, ⟨14, _⟩ => ⟨S1x1x2816x1024, .f32⟩
  | .hbm, ⟨15, _⟩ => ⟨S2816x1024, .f32⟩
  | .hbm, ⟨16, _⟩ => ⟨S8x1x1x1024, .f32⟩
  | .hbm, ⟨17, _⟩ => ⟨S8x1x1024, .f32⟩
  | .hbm, ⟨18, _⟩ => ⟨S_, .f32⟩
  | .hbm, ⟨19, _⟩ => ⟨S8x1x1024, .f32⟩
  | .hbm, ⟨20, _⟩ => ⟨S8x1x1024, .f32⟩
  | .hbm, ⟨21, _⟩ => ⟨S8x4096x1024, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S1x1x1024, .f32⟩
  | .hbm, ⟨35, _⟩ => ⟨S8x4096x1024, .f32⟩
  | .hbm, ⟨36, _⟩ => ⟨S8x4096x1024, .f32⟩
  | .hbm, ⟨37, _⟩ => ⟨S8x1x1x1024, .f32⟩
  | .hbm, ⟨38, _⟩ => ⟨S8x1x1024, .f32⟩
  | .hbm, ⟨39, _⟩ => ⟨S_, .f32⟩
  | .hbm, ⟨40, _⟩ => ⟨S8x1x1024, .f32⟩
  | .hbm, ⟨41, _⟩ => ⟨S8x1x1024, .f32⟩
  | .hbm, ⟨42, _⟩ => ⟨S8x4096x1024, .f32⟩
  | .hbm, ⟨43, _⟩ => ⟨S8x4096x1024, .f32⟩
  | .hbm, ⟨44, _⟩ => ⟨S8x1x1x1024, .f32⟩
  | .hbm, ⟨45, _⟩ => ⟨S8x1x1024, .f32⟩
  | .hbm, ⟨46, _⟩ => ⟨S8x4096x1024, .f32⟩
  | .hbm, ⟨47, _⟩ => ⟨S8x4096x1024, .f32⟩
  | .hbm, ⟨48, _⟩ => ⟨S8x4096x2816, .f32⟩
  | .hbm, ⟨49, _⟩ => ⟨S8x4096x2816, .f32⟩
  | .hbm, ⟨50, _⟩ => ⟨S8x4096x2816, .f32⟩
  | .hbm, ⟨51, _⟩ => ⟨S_, .f32⟩
  | .hbm, ⟨52, _⟩ => ⟨S8x4096x2816, .f32⟩
  | .hbm, ⟨53, _⟩ => ⟨S8x4096x2816, .f32⟩
  | .hbm, ⟨54, _⟩ => ⟨S_, .f32⟩
  | .hbm, ⟨55, _⟩ => ⟨S8x4096x2816, .f32⟩
  | .hbm, ⟨56, _⟩ => ⟨S8x4096x2816, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Kernel4.lean ====
abbrev S8x4096x1024 : Shape := ⟨3, ![8, 4096, 1024]⟩
abbrev S9x9x1024 : Shape := ⟨3, ![9, 9, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S8x4096x512 : Shape := ⟨3, ![8, 4096, 512]⟩
abbrev S1x1024x1024 : Shape := ⟨3, ![1, 1024, 1024]⟩
abbrev S1024x1024 : Shape := ⟨2, ![1024, 1024]⟩
abbrev S1x3x1024 : Shape := ⟨3, ![1, 3, 1024]⟩
abbrev S3x1024 : Shape := ⟨2, ![3, 1024]⟩
abbrev S1x512x1024 : Shape := ⟨3, ![1, 512, 1024]⟩
abbrev S1x9x1024 : Shape := ⟨3, ![1, 9, 1024]⟩
abbrev S1x1x1024x2816 : Shape := ⟨4, ![1, 1, 1024, 2816]⟩
abbrev S1x1x2816x1024 : Shape := ⟨4, ![1, 1, 2816, 1024]⟩
abbrev S1x512x512 : Shape := ⟨3, ![1, 512, 512]⟩
abbrev S512x1024 : Shape := ⟨2, ![512, 1024]⟩
abbrev S512x512 : Shape := ⟨2, ![512, 512]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 19
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S9x9x1024, .f32⟩
  | .hbm, ⟨2, _⟩ => ⟨S2x3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S8x4096x512, .f32⟩
  | .hbm, ⟨7, _⟩ => ⟨S8x4096x512, .f32⟩
  | .hbm, ⟨8, _⟩ => ⟨S1x1024x1024, .f32⟩
  | .hbm, ⟨9, _⟩ => ⟨S2x2x1024x2816, .bf16⟩
  | .hbm, ⟨10, _⟩ => ⟨S2x2x1024x2816, .bf16⟩
  | .hbm, ⟨11, _⟩ => ⟨S2x2x2816x1024, .bf16⟩
  | .hbm, ⟨12, _⟩ => ⟨S1024x1024, .f32⟩
  | .hbm, ⟨13, _⟩ => ⟨S1024x1024, .bf16⟩
  | .hbm, ⟨14, _⟩ => ⟨S1x3x1024, .f32⟩
  | .hbm, ⟨15, _⟩ => ⟨S3x1024, .f32⟩
  | .hbm, ⟨16, _⟩ => ⟨S8x4096x512, .bf16⟩
  | .hbm, ⟨17, _⟩ => ⟨S8x4096x512, .bf16⟩
  | .hbm, ⟨18, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1x1x1024x2816, .bf16⟩
  | .local _ .vmem, ⟨6, _⟩ => ⟨S1x1x1024x2816, .bf16⟩
  | .local _ .vmem, ⟨7, _⟩ => ⟨S1x1x2816x1024, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1024x1024, .bf16⟩
  | .local _ .vmem, ⟨13, _⟩ => ⟨S1x512x1024, .f32⟩
  | .local _ .vmem, ⟨14, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S8x4096x1024 : Shape := ⟨3, ![8, 4096, 1024]⟩
abbrev S9x9x1024 : Shape := ⟨3, ![9, 9, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S8x4096x512 : Shape := ⟨3, ![8, 4096, 512]⟩
abbrev S1x1024x1024 : Shape := ⟨3, ![1, 1024, 1024]⟩
abbrev S8x9x1024 : Shape := ⟨3, ![8, 9, 1024]⟩
abbrev S8x9x1x1024 : Shape := ⟨4, ![8, 9, 1, 1024]⟩
abbrev S1024x1024 : Shape := ⟨2, ![1024, 1024]⟩
abbrev S8x1x1x1024 : Shape := ⟨4, ![8, 1, 1, 1024]⟩
abbrev S8x1x1024 : Shape := ⟨3, ![8, 1, 1024]⟩
abbrev S1x1x1024 : Shape := ⟨3, ![1, 1, 1024]⟩
abbrev S1024 : Shape := ⟨1, ![1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S8x4096x2816 : Shape := ⟨3, ![8, 4096, 2816]⟩

abbrev nBuf : Space → Nat
  | .hbm => 75
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S9x9x1024, .f32⟩
  | .hbm, ⟨2, _⟩ => ⟨S2x3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S8x4096x512, .f32⟩
  | .hbm, ⟨7, _⟩ => ⟨S8x4096x512, .f32⟩
  | .hbm, ⟨8, _⟩ => ⟨S1x1024x1024, .f32⟩
  | .hbm, ⟨9, _⟩ => ⟨S8x9x1024, .f32⟩
  | .hbm, ⟨10, _⟩ => ⟨S8x9x1x1024, .f32⟩
  | .hbm, ⟨11, _⟩ => ⟨S8x4096x1024, .f32⟩
  | .hbm, ⟨12, _⟩ => ⟨S1024x1024, .f32⟩
  | .hbm, ⟨13, _⟩ => ⟨S8x4096x1024, .f32⟩
  | .hbm, ⟨14, _⟩ => ⟨S8x1x1x1024, .f32⟩
  | .hbm, ⟨15, _⟩ => ⟨S8x1x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S1024, .f32⟩
  | .hbm, ⟨21, _⟩ => ⟨S1x1x1024x2816, .f32⟩
  | .hbm, ⟨22, _⟩ => ⟨S1024x2816, .f32⟩
  | .hbm, ⟨23, _⟩ => ⟨S1x1x1024x2816, .f32⟩
  | .hbm, ⟨24, _⟩ => ⟨S1024x2816, .f32⟩
  | .hbm, ⟨25, _⟩ => ⟨S1x1x2816x1024, .f32⟩
  | .hbm, ⟨26, _⟩ => ⟨S2816x1024, .f32⟩
  | .hbm, ⟨27, _⟩ => ⟨S8x1x1x1024, .f32⟩
  | .hbm, ⟨28, _⟩ => ⟨S8x1x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x4096x1024, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1, .f32⟩
  | .hbm, ⟨43, _⟩ => ⟨S8x4096x1024, .f32⟩
  | .hbm, ⟨44, _⟩ => ⟨S8x4096x1024, .f32⟩
  | .hbm, ⟨45, _⟩ => ⟨S1x1x1024, .f32⟩
  | .hbm, ⟨46, _⟩ => ⟨S8x4096x1024, .f32⟩
  | .hbm, ⟨47, _⟩ => ⟨S8x4096x1024, .f32⟩
  | .hbm, ⟨48, _⟩ => ⟨S8x1x1x1024, .f32⟩
  | .hbm, ⟨49, _⟩ => ⟨S8x1x1024, .f32⟩
  | .hbm, ⟨50, _⟩ => ⟨S_, .f32⟩
  | .hbm, ⟨51, _⟩ => ⟨S8x1x1024, .f32⟩
  | .hbm, ⟨52, _⟩ => ⟨S8x1x1024, .f32⟩
  | .hbm, ⟨53, _⟩ => ⟨S8x4096x1024, .f32⟩
  | .hbm, ⟨54, _⟩ => ⟨S8x4096x1024, .f32⟩
  | .hbm, ⟨55, _⟩ => ⟨S8x1x1x1024, .f32⟩
  | .hbm, ⟨56, _⟩ => ⟨S8x1x1024, .f32⟩
  | .hbm, ⟨57, _⟩ => ⟨S8x4096x1024, .f32⟩
  | .hbm, ⟨58, _⟩ => ⟨S8x4096x1024, .f32⟩
  | .hbm, ⟨59, _⟩ => ⟨S8x4096x2816, .f32⟩
  | .hbm, ⟨60, _⟩ => ⟨S8x4096x2816, .f32⟩
  | .hbm, ⟨61, _⟩ => ⟨S8x4096x2816, .f32⟩
  | .hbm, ⟨62, _⟩ => ⟨S_, .f32⟩
  | .hbm, ⟨63, _⟩ => ⟨S8x4096x2816, .f32⟩
  | .hbm, ⟨64, _⟩ => ⟨S8x4096x2816, .f32⟩
  | .hbm, ⟨65, _⟩ => ⟨S_, .f32⟩
  | .hbm, ⟨66, _⟩ => ⟨S8x4096x2816, .f32⟩
  | .hbm, ⟨67, _⟩ => ⟨S8x4096x2816, .f32⟩
  | .hbm, ⟨68, _⟩ => ⟨S8x4096x2816, .f32⟩
  | .hbm, ⟨69, _⟩ => ⟨S8x4096x2816, .f32⟩
  | .hbm, ⟨70, _⟩ => ⟨S8x4096x2816, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Kernel5.lean ====
abbrev S8x4096x1024 : Shape := ⟨3, ![8, 4096, 1024]⟩
abbrev S9x9x1024 : Shape := ⟨3, ![9, 9, 1024]⟩
abbrev S2x3x1024 : Shape := ⟨3, ![2, 3, 1024]⟩
abbrev S1x1024x3072 : Shape := ⟨3, ![1, 1024, 3072]⟩
abbrev S1024x3072 : Shape := ⟨2, ![1024, 3072]⟩
abbrev S1x3x1024 : Shape := ⟨3, ![1, 3, 1024]⟩
abbrev S3x1024 : Shape := ⟨2, ![3, 1024]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x8x64 : Shape := ⟨4, ![1, 4096, 8, 64]⟩
abbrev S4096x512 : Shape := ⟨2, ![4096, 512]⟩
abbrev S512x4096 : Shape := ⟨2, ![512, 4096]⟩
abbrev S8x4096x512 : Shape := ⟨3, ![8, 4096, 512]⟩
abbrev S8x4096x1536 : Shape := ⟨3, ![8, 4096, 1536]⟩
abbrev S1x512x1024 : Shape := ⟨3, ![1, 512, 1024]⟩
abbrev S1x9x1024 : Shape := ⟨3, ![1, 9, 1024]⟩
abbrev S512x512 : Shape := ⟨2, ![512, 512]⟩
abbrev S1x512x512 : Shape := ⟨3, ![1, 512, 512]⟩
abbrev S1x512x1536 : Shape := ⟨3, ![1, 512, 1536]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S1024x1536 : Shape := ⟨2, ![1024, 1536]⟩
abbrev S512x1536 : Shape := ⟨2, ![512, 1536]⟩

abbrev nBuf : Space → Nat
  | .hbm => 89
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S9x9x1024, .f32⟩
  | .hbm, ⟨2, _⟩ => ⟨S2x3x1024, .f32⟩
  | .hbm, ⟨3, _⟩ => ⟨S1x1024x3072, .f32⟩
  | .hbm, ⟨4, _⟩ => ⟨S1024x3072, .f32⟩
  | .hbm, ⟨5, _⟩ => ⟨S1024x3072, .bf16⟩
  | .hbm, ⟨6, _⟩ => ⟨S1x3x1024, .f32⟩
  | .hbm, ⟨7, _⟩ => ⟨S3x1024, .f32⟩
  | .hbm, ⟨8, _⟩ => ⟨S4096, .i32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i1⟩
  | .hbm, ⟨49, _⟩ => ⟨S_, .i32⟩
  | .hbm, ⟨50, _⟩ => ⟨S_, .i1⟩
  | .hbm, ⟨51, _⟩ => ⟨S4096, .i1⟩
  | .hbm, ⟨52, _⟩ => ⟨S4096, .i1⟩
  | .hbm, ⟨53, _⟩ => ⟨S4096, .i1⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S4096, .f32⟩
  | .hbm, ⟨58, _⟩ => ⟨S4096x1, .f32⟩
  | .hbm, ⟨59, _⟩ => ⟨S1x16, .f32⟩
  | .hbm, ⟨60, _⟩ => ⟨S4096x16, .f32⟩
  | .hbm, ⟨61, _⟩ => ⟨S4096x16, .f32⟩
  | .hbm, ⟨62, _⟩ => ⟨S4096x16, .f32⟩
  | .hbm, ⟨63, _⟩ => ⟨S4096x16, .f32⟩
  | .hbm, ⟨64, _⟩ => ⟨S4096x16, .f32⟩
  | .hbm, ⟨65, _⟩ => ⟨S4096x16, .f32⟩
  | .hbm, ⟨66, _⟩ => ⟨S4096, .f32⟩
  | .hbm, ⟨67, _⟩ => ⟨S4096x1, .f32⟩
  | .hbm, ⟨68, _⟩ => ⟨S1x16, .f32⟩
  | .hbm, ⟨69, _⟩ => ⟨S4096x16, .f32⟩
  | .hbm, ⟨70, _⟩ => ⟨S4096x16, .f32⟩
  | .hbm, ⟨71, _⟩ => ⟨S4096x16, .f32⟩
  | .hbm, ⟨72, _⟩ => ⟨S4096x16, .f32⟩
  | .hbm, ⟨73, _⟩ => ⟨S4096x16, .f32⟩
  | .hbm, ⟨74, _⟩ => ⟨S4096x16, .f32⟩
  | .hbm, ⟨75, _⟩ => ⟨S4096x64, .f32⟩
  | .hbm, ⟨76, _⟩ => ⟨S1x4096x1x64, .f32⟩
  | .hbm, ⟨77, _⟩ => ⟨S1x4096x8x64, .f32⟩
  | .hbm, ⟨78, _⟩ => ⟨S4096x512, .f32⟩
  | .hbm, ⟨79, _⟩ => ⟨S4096x64, .f32⟩
  | .hbm, ⟨80, _⟩ => ⟨S1x4096x1x64, .f32⟩
  | .hbm, ⟨81, _⟩ => ⟨S1x4096x8x64, .f32⟩
  | .hbm, ⟨82, _⟩ => ⟨S4096x512, .f32⟩
  | .hbm, ⟨83, _⟩ => ⟨S512x4096, .f32⟩
  | .hbm, ⟨84, _⟩ => ⟨S512x4096, .f32⟩
  | .hbm, ⟨85, _⟩ => ⟨S8x4096x512, .bf16⟩
  | .hbm, ⟨86, _⟩ => ⟨S8x4096x512, .bf16⟩
  | .hbm, ⟨87, _⟩ => ⟨S8x4096x512, .bf16⟩
  | .hbm, ⟨88, _⟩ => ⟨S8x4096x1536, .bf16⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1024x3072, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x1536, .bf16⟩
  | .local _ .vmem, ⟨21, _⟩ => ⟨S1x512x1536, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v11 : Ref sig .tc := ⟨.hbm, 34, rfl⟩
abbrev main_c_1 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41_0 : Ref sig .tc := ⟨.hbm, 85, rfl⟩
abbrev main_v41_1 : Ref sig .tc := ⟨.hbm, 86, rfl⟩
abbrev main_v41_2 : Ref sig .tc := ⟨.hbm, 87, rfl⟩
abbrev main_v41_3 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference5Ideal.lean ====
abbrev S8x4096x1024 : Shape := ⟨3, ![8, 4096, 1024]⟩
abbrev S9x9x1024 : Shape := ⟨3, ![9, 9, 1024]⟩
abbrev S2x3x1024 : Shape := ⟨3, ![2, 3, 1024]⟩
abbrev S1x1024x3072 : Shape := ⟨3, ![1, 1024, 3072]⟩
abbrev S8x9x1024 : Shape := ⟨3, ![8, 9, 1024]⟩
abbrev S8x9x1x1024 : Shape := ⟨4, ![8, 9, 1, 1024]⟩
abbrev S1x1x1024 : Shape := ⟨3, ![1, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S8x1x1x1024 : Shape := ⟨4, ![8, 1, 1, 1024]⟩
abbrev S8x1x1024 : Shape := ⟨3, ![8, 1, 1024]⟩
abbrev S1024x3072 : Shape := ⟨2, ![1024, 3072]⟩
abbrev S8x4096x3072 : Shape := ⟨3, ![8, 4096, 3072]⟩
abbrev S8x4096x512 : Shape := ⟨3, ![8, 4096, 512]⟩
abbrev S8x4096x4x2x64 : Shape := ⟨5, ![8, 4096, 4, 2, 64]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x1x1x16 : Shape := ⟨5, ![1, 4096, 1, 1, 16]⟩
abbrev S8x4096x4x2x32 : Shape := ⟨5, ![8, 4096, 4, 2, 32]⟩
abbrev S8x4096x4x2x16 : Shape := ⟨5, ![8, 4096, 4, 2, 16]⟩
abbrev S8x4096x1536 : Shape := ⟨3, ![8, 4096, 1536]⟩

abbrev nBuf : Space → Nat
  | .hbm => 241
  | .vmem => 0
  | .smem => 0
  | _ => 0

abbrev hbmTy0_0 (i : Nat) : BufTy := match i % 128 with
  | 0 => ⟨S8x4096x1024, .f32⟩
  | 1 => ⟨S9x9x1024, .f32⟩
  | 2 => ⟨S2x3x1024, .f32⟩
  | 3 => ⟨S1x1024x3072, .f32⟩
  | 4 => ⟨S8x9x1024, .f32⟩
  | 5 => ⟨S8x9x1x1024, .f32⟩
  | 6 => ⟨S1x1x1024, .f32⟩
  | 7 => ⟨S1024, .f32⟩
  | 8 => ⟨S8x4096x1024, .f32⟩
  | 9 => ⟨S_, .f32⟩
  | 10 => ⟨S8x4096, .f32⟩
  | 11 => ⟨S8x4096x1, .f32⟩
  | 12 => ⟨S_, .f32⟩
  | 13 => ⟨S8x4096x1, .f32⟩
  | 14 => ⟨S8x4096x1, .f32⟩
  | 15 => ⟨S_, .f32⟩
  | 16 => ⟨S8x4096x1, .f32⟩
  | 17 => ⟨S8x4096x1, .f32⟩
  | 18 => ⟨S8x4096x1, .f32⟩
  | 19 => ⟨S8x4096x1024, .f32⟩
  | 20 => ⟨S8x4096x1024, .f32⟩
  | 21 => ⟨S1x1x1024, .f32⟩
  | 22 => ⟨S8x4096x1024, .f32⟩
  | 23 => ⟨S8x4096x1024, .f32⟩
  | 24 => ⟨S8x1x1x1024, .f32⟩
  | 25 => ⟨S8x1x1024, .f32⟩
  | 26 => ⟨S_, .f32⟩
  | 27 => ⟨S8x1x1024, .f32⟩
  | 28 => ⟨S8x1x1024, .f32⟩
  | 29 => ⟨S8x4096x1024, .f32⟩
  | 30 => ⟨S8x4096x1024, .f32⟩
  | 31 => ⟨S8x1x1x1024, .f32⟩
  | 32 => ⟨S8x1x1024, .f32⟩
  | 33 => ⟨S8x4096x1024, .f32⟩
  | 34 => ⟨S8x4096x1024, .f32⟩
  | 35 => ⟨S1024x3072, .f32⟩
  | 36 => ⟨S8x4096x3072, .f32⟩
  | 37 => ⟨S8x4096x512, .f32⟩
  | 38 => ⟨S8x4096x4x2x64, .f32⟩
  | 39 => ⟨S4096, .i32⟩
  | 40 => ⟨S_, .i32⟩
  | 41 => ⟨S_, .i32⟩
  | 42 => ⟨S4096, .i32⟩
  | 43 => ⟨S4096, .i32⟩
  | 44 => ⟨S4096, .i32⟩
  | 45 => ⟨S_, .i32⟩
  | 46 => ⟨S4096, .i32⟩
  | 47 => ⟨S4096, .i1⟩
  | 48 => ⟨S4096, .i32⟩
  | 49 => ⟨S4096, .i32⟩
  | 50 => ⟨S_, .i32⟩
  | 51 => ⟨S4096, .i32⟩
  | 52 => ⟨S4096, .i1⟩
  | 53 => ⟨S4096, .i1⟩
  | 54 => ⟨S_, .i32⟩
  | 55 => ⟨S4096, .i32⟩
  | 56 => ⟨S4096, .i32⟩
  | 57 => ⟨S4096, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S4096, .i32⟩
  | 65 => ⟨S4096, .i32⟩
  | 66 => ⟨S_, .i32⟩
  | 67 => ⟨S4096, .i32⟩
  | 68 => ⟨S4096, .i1⟩
  | 69 => ⟨S_, .i32⟩
  | 70 => ⟨S4096, .i32⟩
  | 71 => ⟨S4096, .i1⟩
  | 72 => ⟨S_, .i32⟩
  | 73 => ⟨S_, .i1⟩
  | 74 => ⟨S4096, .i1⟩
  | 75 => ⟨S4096, .i1⟩
  | 76 => ⟨S4096, .i1⟩
  | 77 => ⟨S4096, .i32⟩
  | 78 => ⟨S4096, .i32⟩
  | 79 => ⟨S4096, .i32⟩
  | 80 => ⟨S16, .f32⟩
  | 81 => ⟨S16, .f32⟩
  | 82 => ⟨S_, .f32⟩
  | 83 => ⟨S16, .f32⟩
  | 84 => ⟨S16, .f32⟩
  | 85 => ⟨S_, .f32⟩
  | 86 => ⟨S16, .f32⟩
  | 87 => ⟨S16, .f32⟩
  | 88 => ⟨S4096, .f32⟩
  | 89 => ⟨S4096x1, .f32⟩
  | 90 => ⟨S1x16, .f32⟩
  | 91 => ⟨S4096x16, .f32⟩
  | 92 => ⟨S4096x16, .f32⟩
  | 93 => ⟨S4096x16, .f32⟩
  | 94 => ⟨S4096x16, .f32⟩
  | 95 => ⟨S1x4096x1x1x16, .f32⟩
  | 96 => ⟨S4096x16, .f32⟩
  | 97 => ⟨S1x4096x1x1x16, .f32⟩
  | 98 => ⟨S8x4096x4x2x32, .f32⟩
  | 99 => ⟨S8x4096x4x2x16, .f32⟩
  | 100 => ⟨S8x4096x4x2x16, .f32⟩
  | 101 => ⟨S8x4096x4x2x16, .f32⟩
  | 102 => ⟨S8x4096x4x2x16, .f32⟩
  | 103 => ⟨S8x4096x4x2x16, .f32⟩
  | 104 => ⟨S8x4096x4x2x16, .f32⟩
  | 105 => ⟨S8x4096x4x2x16, .f32⟩
  | 106 => ⟨S8x4096x4x2x16, .f32⟩
  | 107 => ⟨S8x4096x4x2x16, .f32⟩
  | 108 => ⟨S8x4096x4x2x16, .f32⟩
  | 109 => ⟨S8x4096x4x2x16, .f32⟩
  | 110 => ⟨S8x4096x4x2x16, .f32⟩
  | 111 => ⟨S4096, .f32⟩
  | 112 => ⟨S4096x1, .f32⟩
  | 113 => ⟨S1x16, .f32⟩
  | 114 => ⟨S4096x16, .f32⟩
  | 115 => ⟨S4096x16, .f32⟩
  | 116 => ⟨S4096x16, .f32⟩
  | 117 => ⟨S4096x16, .f32⟩
  | 118 => ⟨S1x4096x1x1x16, .f32⟩
  | 119 => ⟨S4096x16, .f32⟩
  | 120 => ⟨S1x4096x1x1x16, .f32⟩
  | 121 => ⟨S8x4096x4x2x32, .f32⟩
  | 122 => ⟨S8x4096x4x2x16, .f32⟩
  | 123 => ⟨S8x4096x4x2x16, .f32⟩
  | 124 => ⟨S8x4096x4x2x16, .f32⟩
  | 125 => ⟨S8x4096x4x2x16, .f32⟩
  | 126 => ⟨S8x4096x4x2x16, .f32⟩
  | 127 => ⟨S8x4096x4x2x16, .f32⟩
  | _ => ⟨S8x4096x1024, .f32⟩

abbrev hbmTy0_1 (i : Nat) : BufTy := match i % 128 with
  | 0 => ⟨S8x4096x4x2x16, .f32⟩
  | 1 => ⟨S8x4096x4x2x16, .f32⟩
  | 2 => ⟨S8x4096x4x2x16, .f32⟩
  | 3 => ⟨S8x4096x4x2x16, .f32⟩
  | 4 => ⟨S8x4096x4x2x16, .f32⟩
  | 5 => ⟨S8x4096x4x2x16, .f32⟩
  | 6 => ⟨S8x4096x4x2x64, .f32⟩
  | 7 => ⟨S8x4096x512, .f32⟩
  | 8 => ⟨S8x4096x512, .f32⟩
  | 9 => ⟨S8x4096x4x2x64, .f32⟩
  | 10 => ⟨S4096, .i32⟩
  | 11 => ⟨S_, .i32⟩
  | 12 => ⟨S_, .i32⟩
  | 13 => ⟨S4096, .i32⟩
  | 14 => ⟨S4096, .i32⟩
  | 15 => ⟨S4096, .i32⟩
  | 16 => ⟨S_, .i32⟩
  | 17 => ⟨S4096, .i32⟩
  | 18 => ⟨S4096, .i1⟩
  | 19 => ⟨S4096, .i32⟩
  | 20 => ⟨S4096, .i32⟩
  | 21 => ⟨S_, .i32⟩
  | 22 => ⟨S4096, .i32⟩
  | 23 => ⟨S4096, .i1⟩
  | 24 => ⟨S4096, .i1⟩
  | 25 => ⟨S_, .i32⟩
  | 26 => ⟨S4096, .i32⟩
  | 27 => ⟨S4096, .i32⟩
  | 28 => ⟨S4096, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S4096, .i32⟩
  | 36 => ⟨S4096, .i32⟩
  | 37 => ⟨S_, .i32⟩
  | 38 => ⟨S4096, .i32⟩
  | 39 => ⟨S4096, .i1⟩
  | 40 => ⟨S_, .i32⟩
  | 41 => ⟨S4096, .i32⟩
  | 42 => ⟨S4096, .i1⟩
  | 43 => ⟨S_, .i32⟩
  | 44 => ⟨S_, .i1⟩
  | 45 => ⟨S4096, .i1⟩
  | 46 => ⟨S4096, .i1⟩
  | 47 => ⟨S4096, .i1⟩
  | 48 => ⟨S4096, .i32⟩
  | 49 => ⟨S4096, .i32⟩
  | 50 => ⟨S4096, .i32⟩
  | 51 => ⟨S16, .f32⟩
  | 52 => ⟨S16, .f32⟩
  | 53 => ⟨S_, .f32⟩
  | 54 => ⟨S16, .f32⟩
  | 55 => ⟨S16, .f32⟩
  | 56 => ⟨S_, .f32⟩
  | 57 => ⟨S16, .f32⟩
  | 58 => ⟨S16, .f32⟩
  | 59 => ⟨S4096, .f32⟩
  | 60 => ⟨S4096x1, .f32⟩
  | 61 => ⟨S1x16, .f32⟩
  | 62 => ⟨S4096x16, .f32⟩
  | 63 => ⟨S4096x16, .f32⟩
  | 64 => ⟨S4096x16, .f32⟩
  | 65 => ⟨S4096x16, .f32⟩
  | 66 => ⟨S1x4096x1x1x16, .f32⟩
  | 67 => ⟨S4096x16, .f32⟩
  | 68 => ⟨S1x4096x1x1x16, .f32⟩
  | 69 => ⟨S8x4096x4x2x32, .f32⟩
  | 70 => ⟨S8x4096x4x2x16, .f32⟩
  | 71 => ⟨S8x4096x4x2x16, .f32⟩
  | 72 => ⟨S8x4096x4x2x16, .f32⟩
  | 73 => ⟨S8x4096x4x2x16, .f32⟩
  | 74 => ⟨S8x4096x4x2x16, .f32⟩
  | 75 => ⟨S8x4096x4x2x16, .f32⟩
  | 76 => ⟨S8x4096x4x2x16, .f32⟩
  | 77 => ⟨S8x4096x4x2x16, .f32⟩
  | 78 => ⟨S8x4096x4x2x16, .f32⟩
  | 79 => ⟨S8x4096x4x2x16, .f32⟩
  | 80 => ⟨S8x4096x4x2x16, .f32⟩
  | 81 => ⟨S8x4096x4x2x16, .f32⟩
  | 82 => ⟨S4096, .f32⟩
  | 83 => ⟨S4096x1, .f32⟩
  | 84 => ⟨S1x16, .f32⟩
  | 85 => ⟨S4096x16, .f32⟩
  | 86 => ⟨S4096x16, .f32⟩
  | 87 => ⟨S4096x16, .f32⟩
  | 88 => ⟨S4096x16, .f32⟩
  | 89 => ⟨S1x4096x1x1x16, .f32⟩
  | 90 => ⟨S4096x16, .f32⟩
  | 91 => ⟨S1x4096x1x1x16, .f32⟩
  | 92 => ⟨S8x4096x4x2x32, .f32⟩
  | 93 => ⟨S8x4096x4x2x16, .f32⟩
  | 94 => ⟨S8x4096x4x2x16, .f32⟩
  | 95 => ⟨S8x4096x4x2x16, .f32⟩
  | 96 => ⟨S8x4096x4x2x16, .f32⟩
  | 97 => ⟨S8x4096x4x2x16, .f32⟩
  | 98 => ⟨S8x4096x4x2x16, .f32⟩
  | 99 => ⟨S8x4096x4x2x16, .f32⟩
  | 100 => ⟨S8x4096x4x2x16, .f32⟩
  | 101 => ⟨S8x4096x4x2x16, .f32⟩
  | 102 => ⟨S8x4096x4x2x16, .f32⟩
  | 103 => ⟨S8x4096x4x2x16, .f32⟩
  | 104 => ⟨S8x4096x4x2x16, .f32⟩
  | 105 => ⟨S8x4096x4x2x64, .f32⟩
  | 106 => ⟨S8x4096x512, .f32⟩
  | 107 => ⟨S8x4096x512, .bf16⟩
  | 108 => ⟨S8x4096x512, .bf16⟩
  | 109 => ⟨S8x4096x512, .f32⟩
  | 110 => ⟨S8x4096x512, .bf16⟩
  | 111 => ⟨S8x4096x1536, .f32⟩
  | 112 => ⟨S8x4096x1536, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_c : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_0 : Ref sig .tc := ⟨.hbm, 54, rfl⟩
abbrev main_call0_v12 : Ref sig .tc := ⟨.hbm, 55, rfl⟩
abbrev main_call0_v13 : Ref sig .tc := ⟨.hbm, 56, rfl⟩
abbrev main_v32 : Ref sig .tc := ⟨.hbm, 57, rfl⟩
abbrev main_c_3 : Ref sig .tc := ⟨.hbm, 58, rfl⟩
abbrev main_call1_v0 : Ref sig .tc := ⟨.hbm, 59, rfl⟩
abbrev main_call1_c : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_c_1 : Ref sig .tc := ⟨.hbm, 66, rfl⟩
abbrev main_call1_v5 : Ref sig .tc := ⟨.hbm, 67, rfl⟩
abbrev main_call1_v6 : Ref sig .tc := ⟨.hbm, 68, rfl⟩
abbrev main_call1_c_2 : Ref sig .tc := ⟨.hbm, 69, rfl⟩
abbrev main_call1_v7 : Ref sig .tc := ⟨.hbm, 70, rfl⟩
abbrev main_call1_v8 : Ref sig .tc := ⟨.hbm, 71, rfl⟩
abbrev main_call1_c_3 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_cst_4 : Ref sig .tc := ⟨.hbm, 82, rfl⟩
abbrev main_v36 : Ref sig .tc := ⟨.hbm, 83, rfl⟩
abbrev main_v37 : Ref sig .tc := ⟨.hbm, 84, rfl⟩
abbrev main_cst_5 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_c_6 : Ref sig .tc := ⟨.hbm, 139, rfl⟩
abbrev main_call2_v0 : Ref sig .tc := ⟨.hbm, 140, rfl⟩
abbrev main_call2_v1 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_call2_v5 : Ref sig .tc := ⟨.hbm, 145, rfl⟩
abbrev main_call2_v6 : Ref sig .tc := ⟨.hbm, 146, rfl⟩
abbrev main_call2_v7 : Ref sig .tc := ⟨.hbm, 147, rfl⟩
abbrev main_call2_v8 : Ref sig .tc := ⟨.hbm, 148, rfl⟩
abbrev main_call2_c : Ref sig .tc := ⟨.hbm, 149, rfl⟩
abbrev main_call2_v9 : Ref sig .tc := ⟨.hbm, 150, rfl⟩
abbrev main_call2_v10 : Ref sig .tc := ⟨.hbm, 151, rfl⟩
abbrev main_call2_v11 : Ref sig .tc := ⟨.hbm, 152, rfl⟩
abbrev main_call2_c_0 : Ref sig .tc := ⟨.hbm, 153, rfl⟩
abbrev main_call2_v12 : Ref sig .tc := ⟨.hbm, 154, rfl⟩
abbrev main_call2_v13 : Ref sig .tc := ⟨.hbm, 155, rfl⟩
abbrev main_v91 : Ref sig .tc := ⟨.hbm, 156, rfl⟩
abbrev main_c_7 : Ref sig .tc := ⟨.hbm, 157, rfl⟩
abbrev main_call3_v0 : Ref sig .tc := ⟨.hbm, 158, rfl⟩
abbrev main_call3_c : Ref sig .tc := ⟨.hbm, 159, rfl⟩
abbrev main_call3_v1 : Ref sig .tc := ⟨.hbm, 160, rfl⟩
abbrev main_call3_c_0 : Ref sig .tc := ⟨.hbm, 161, rfl⟩
abbrev main_call3_v2 : Ref sig .tc := ⟨.hbm, 162, rfl⟩
abbrev main_call3_v3 : Ref sig .tc := ⟨.hbm, 163, rfl⟩
abbrev main_call3_v4 : Ref sig .tc := ⟨.hbm, 164, rfl⟩
abbrev main_call3_c_1 : Ref sig .tc := ⟨.hbm, 165, rfl⟩
abbrev main_call3_v5 : Ref sig .tc := ⟨.hbm, 166, rfl⟩
abbrev main_call3_v6 : Ref sig .tc := ⟨.hbm, 167, rfl⟩
abbrev main_call3_c_2 : Ref sig .tc := ⟨.hbm, 168, rfl⟩
abbrev main_call3_v7 : Ref sig .tc := ⟨.hbm, 169, rfl⟩
abbrev main_call3_v8 : Ref sig .tc := ⟨.hbm, 170, rfl⟩
abbrev main_call3_c_3 : Ref sig .tc := ⟨.hbm, 171, rfl⟩
abbrev main_call3_v9 : Ref sig .tc := ⟨.hbm, 172, rfl⟩
abbrev main_call3_v10 : Ref sig .tc := ⟨.hbm, 173, rfl⟩
abbrev main_call3_v11 : Ref sig .tc := ⟨.hbm, 174, rfl⟩
abbrev main_call3_v12 : Ref sig .tc := ⟨.hbm, 175, rfl⟩
abbrev main_call3_v13 : Ref sig .tc := ⟨.hbm, 176, rfl⟩
abbrev main_call3_v14 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_cst_8 : Ref sig .tc := ⟨.hbm, 181, rfl⟩
abbrev main_v95 : Ref sig .tc := ⟨.hbm, 182, rfl⟩
abbrev main_v96 : Ref sig .tc := ⟨.hbm, 183, rfl⟩
abbrev main_cst_9 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩

abbrev nD : Nat := 1
abbrev τ : Topo := Topo.v7x

variable {F : FTy → Type} [FloatOps F]
-- ==== Kernel6.lean ====
abbrev S8x4096x1024 : Shape := ⟨3, ![8, 4096, 1024]⟩
abbrev S9x9x1024 : Shape := ⟨3, ![9, 9, 1024]⟩
abbrev S2x3x1024 : Shape := ⟨3, ![2, 3, 1024]⟩
abbrev S1x1024x3072 : Shape := ⟨3, ![1, 1024, 3072]⟩
abbrev S1024x3072 : Shape := ⟨2, ![1024, 3072]⟩
abbrev S1x3x1024 : Shape := ⟨3, ![1, 3, 1024]⟩
abbrev S3x1024 : Shape := ⟨2, ![3, 1024]⟩
abbrev S1024x1024 : Shape := ⟨2, ![1024, 1024]⟩
abbrev S2048x1024 : Shape := ⟨2, ![2048, 1024]⟩
abbrev S8x8x1024x512 : Shape := ⟨4, ![8, 8, 1024, 512]⟩
abbrev S8x32x1024x128 : Shape := ⟨4, ![8, 32, 1024, 128]⟩
abbrev S1x512x1024 : Shape := ⟨3, ![1, 512, 1024]⟩
abbrev S1x9x1024 : Shape := ⟨3, ![1, 9, 1024]⟩
abbrev S1x1x1024x512 : Shape := ⟨4, ![1, 1, 1024, 512]⟩
abbrev S1x4x1024x128 : Shape := ⟨4, ![1, 4, 1024, 128]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S1024x128 : Shape := ⟨2, ![1024, 128]⟩
abbrev S1x1x1024x128 : Shape := ⟨4, ![1, 1, 1024, 128]⟩

abbrev nBuf : Space → Nat
  | .hbm => 16
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S9x9x1024, .f32⟩
  | .hbm, ⟨2, _⟩ => ⟨S2x3x1024, .f32⟩
  | .hbm, ⟨3, _⟩ => ⟨S1x1024x3072, .f32⟩
  | .hbm, ⟨4, _⟩ => ⟨S1024x3072, .f32⟩
  | .hbm, ⟨5, _⟩ => ⟨S1024x3072, .bf16⟩
  | .hbm, ⟨6, _⟩ => ⟨S1x3x1024, .f32⟩
  | .hbm, ⟨7, _⟩ => ⟨S3x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S2048x1024, .bf16⟩
  | .hbm, ⟨13, _⟩ => ⟨S8x8x1024x512, .bf16⟩
  | .hbm, ⟨14, _⟩ => ⟨S8x4096x1024, .bf16⟩
  | .hbm, ⟨15, _⟩ => ⟨S8x32x1024x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1024x3072, .bf16⟩
  | .local _ .vmem, ⟨6, _⟩ => ⟨S2048x1024, .bf16⟩
  | .local _ .vmem, ⟨7, _⟩ => ⟨S1x1x1024x512, .bf16⟩
  | .local _ .vmem, ⟨8, _⟩ => ⟨S1x1x1024x512, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x4x1024x128, .bf16⟩
  | .local _ .vmem, ⟨12, _⟩ => ⟨S1x4x1024x128, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S8x4096x1024 : Shape := ⟨3, ![8, 4096, 1024]⟩
abbrev S9x9x1024 : Shape := ⟨3, ![9, 9, 1024]⟩
abbrev S2x3x1024 : Shape := ⟨3, ![2, 3, 1024]⟩
abbrev S1x1024x3072 : Shape := ⟨3, ![1, 1024, 3072]⟩
abbrev S8x9x1024 : Shape := ⟨3, ![8, 9, 1024]⟩
abbrev S8x9x1x1024 : Shape := ⟨4, ![8, 9, 1, 1024]⟩
abbrev S1x1x1024 : Shape := ⟨3, ![1, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S8x1x1x1024 : Shape := ⟨4, ![8, 1, 1, 1024]⟩
abbrev S8x1x1024 : Shape := ⟨3, ![8, 1, 1024]⟩
abbrev S1024x3072 : Shape := ⟨2, ![1024, 3072]⟩
abbrev S8x4096x3072 : Shape := ⟨3, ![8, 4096, 3072]⟩
abbrev S8x8x512x1024 : Shape := ⟨4, ![8, 8, 512, 1024]⟩
abbrev S8x8x1024x512 : Shape := ⟨4, ![8, 8, 1024, 512]⟩
abbrev S8x32x128x1024 : Shape := ⟨4, ![8, 32, 128, 1024]⟩
abbrev S8x32x1024x128 : Shape := ⟨4, ![8, 32, 1024, 128]⟩

abbrev nBuf : Space → Nat
  | .hbm => 50
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S9x9x1024, .f32⟩
  | .hbm, ⟨2, _⟩ => ⟨S2x3x1024, .f32⟩
  | .hbm, ⟨3, _⟩ => ⟨S1x1024x3072, .f32⟩
  | .hbm, ⟨4, _⟩ => ⟨S8x9x1024, .f32⟩
  | .hbm, ⟨5, _⟩ => ⟨S8x9x1x1024, .f32⟩
  | .hbm, ⟨6, _⟩ => ⟨S1x1x1024, .f32⟩
  | .hbm, ⟨7, _⟩ => ⟨S1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S8x1x1x1024, .f32⟩
  | .hbm, ⟨25, _⟩ => ⟨S8x1x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S8x1x1x1024, .f32⟩
  | .hbm, ⟨32, _⟩ => ⟨S8x1x1024, .f32⟩
  | .hbm, ⟨33, _⟩ => ⟨S8x4096x1024, .f32⟩
  | .hbm, ⟨34, _⟩ => ⟨S8x4096x1024, .f32⟩
  | .hbm, ⟨35, _⟩ => ⟨S1024x3072, .f32⟩
  | .hbm, ⟨36, _⟩ => ⟨S8x4096x3072, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096x1024, .f32⟩
  | .hbm, ⟨42, _⟩ => ⟨S8x4096x1024, .f32⟩
  | .hbm, ⟨43, _⟩ => ⟨S8x8x512x1024, .f32⟩
  | .hbm, ⟨44, _⟩ => ⟨S8x8x1024x512, .f32⟩
  | .hbm, ⟨45, _⟩ => ⟨S8x32x128x1024, .f32⟩
  | .hbm, ⟨46, _⟩ => ⟨S8x32x1024x128, .f32⟩
  | .hbm, ⟨47, _⟩ => ⟨S8x8x1024x512, .bf16⟩
  | .hbm, ⟨48, _⟩ => ⟨S8x4096x1024, .bf16⟩
  | .hbm, ⟨49, _⟩ => ⟨S8x32x1024x128, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== Kernel7.lean ====
abbrev S8x256x1024 : Shape := ⟨3, ![8, 256, 1024]⟩
abbrev S9x9x1024 : Shape := ⟨3, ![9, 9, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1x3x1024 : Shape := ⟨3, ![1, 3, 1024]⟩
abbrev S3x1024 : Shape := ⟨2, ![3, 1024]⟩
abbrev S1x256x1024 : Shape := ⟨3, ![1, 256, 1024]⟩
abbrev S1x9x1024 : Shape := ⟨3, ![1, 9, 1024]⟩
abbrev S1x1x1024x2816 : Shape := ⟨4, ![1, 1, 1024, 2816]⟩
abbrev S1x1x2816x1024 : Shape := ⟨4, ![1, 1, 2816, 1024]⟩
abbrev S256x1024 : Shape := ⟨2, ![256, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 12
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S9x9x1024, .f32⟩
  | .hbm, ⟨2, _⟩ => ⟨S2x3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S2x2x1024x2816, .bf16⟩
  | .hbm, ⟨7, _⟩ => ⟨S2x2x1024x2816, .bf16⟩
  | .hbm, ⟨8, _⟩ => ⟨S2x2x2816x1024, .bf16⟩
  | .hbm, ⟨9, _⟩ => ⟨S1x3x1024, .f32⟩
  | .hbm, ⟨10, _⟩ => ⟨S3x1024, .f32⟩
  | .hbm, ⟨11, _⟩ => ⟨S8x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x9x1024, .f32⟩
  | .local _ .vmem, ⟨3, _⟩ => ⟨S3x1024, .f32⟩
  | .local _ .vmem, ⟨4, _⟩ => ⟨S1x1x1024x2816, .bf16⟩
  | .local _ .vmem, ⟨5, _⟩ => ⟨S1x1x1024x2816, .bf16⟩
  | .local _ .vmem, ⟨6, _⟩ => ⟨S1x1x2816x1024, .bf16⟩
  | .local _ .vmem, ⟨7, _⟩ => ⟨S1x256x1024, .f32⟩
  | .local _ .vmem, ⟨8, _⟩ => ⟨S1x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S8x256x1024 : Shape := ⟨3, ![8, 256, 1024]⟩
abbrev S9x9x1024 : Shape := ⟨3, ![9, 9, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1x9x1024 : Shape := ⟨3, ![1, 9, 1024]⟩
abbrev S1x9x1x1024 : Shape := ⟨4, ![1, 9, 1, 1024]⟩
abbrev S1x1x1024 : Shape := ⟨3, ![1, 1, 1024]⟩
abbrev S1024 : Shape := ⟨1, ![1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S1x1x1x1024 : Shape := ⟨4, ![1, 1, 1, 1024]⟩
abbrev S_ : Shape := ⟨0, ![]⟩
abbrev S8x256 : Shape := ⟨2, ![8, 256]⟩
abbrev S8x256x1 : Shape := ⟨3, ![8, 256, 1]⟩
abbrev S8x256x2816 : Shape := ⟨3, ![8, 256, 2816]⟩

abbrev nBuf : Space → Nat
  | .hbm => 64
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S9x9x1024, .f32⟩
  | .hbm, ⟨2, _⟩ => ⟨S2x3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S1x9x1024, .f32⟩
  | .hbm, ⟨7, _⟩ => ⟨S1x9x1x1024, .f32⟩
  | .hbm, ⟨8, _⟩ => ⟨S1x1x1024, .f32⟩
  | .hbm, ⟨9, _⟩ => ⟨S1024, .f32⟩
  | .hbm, ⟨10, _⟩ => ⟨S1x1x1024x2816, .f32⟩
  | .hbm, ⟨11, _⟩ => ⟨S1024x2816, .f32⟩
  | .hbm, ⟨12, _⟩ => ⟨S1x1x1024x2816, .f32⟩
  | .hbm, ⟨13, _⟩ => ⟨S1024x2816, .f32⟩
  | .hbm, ⟨14, _⟩ => ⟨S1x1x2816x1024, .f32⟩
  | .hbm, ⟨15, _⟩ => ⟨S2816x1024, .f32⟩
  | .hbm, ⟨16, _⟩ => ⟨S1x1x1x1024, .f32⟩
  | .hbm, ⟨17, _⟩ => ⟨S1x1x1024, .f32⟩
  | .hbm, ⟨18, _⟩ => ⟨S_, .f32⟩
  | .hbm, ⟨19, _⟩ => ⟨S1x1x1024, .f32⟩
  | .hbm, ⟨20, _⟩ => ⟨S1x1x1024, .f32⟩
  | .hbm, ⟨21, _⟩ => ⟨S8x256x1024, .f32⟩
  | .hbm, ⟨22, _⟩ => ⟨S_, .f32⟩
  | .hbm, ⟨23, _⟩ => ⟨S8x256, .f32⟩
  | .hbm, ⟨24, _⟩ => ⟨S8x256x1, .f32⟩
  | .hbm, ⟨25, _⟩ => ⟨S_, .f32⟩
  | .hbm, ⟨26, _⟩ => ⟨S8x256x1, .f32⟩
  | .hbm, ⟨27, _⟩ => ⟨S8x256x1, .f32⟩
  | .hbm, ⟨28, _⟩ => ⟨S_, .f32⟩
  | .hbm, ⟨29, _⟩ => ⟨S8x256x1, .f32⟩
  | .hbm, ⟨30, _⟩ => ⟨S8x256x1, .f32⟩
  | .hbm, ⟨31, _⟩ => ⟨S8x256x1, .f32⟩
  | .hbm, ⟨32, _⟩ => ⟨S8x256x1024, .f32⟩
  | .hbm, ⟨33, _⟩ => ⟨S8x256x1024, .f32⟩
  | .hbm, ⟨34, _⟩ => ⟨S1x1x1024, .f32⟩
  | .hbm, ⟨35, _⟩ => ⟨S8x256x1024, .f32⟩
  | .hbm, ⟨36, _⟩ => ⟨S8x256x1024, .f32⟩
  | .hbm, ⟨37, _⟩ => ⟨S1x1x1x1024, .f32⟩
  | .hbm, ⟨38, _⟩ => ⟨S1x1x1024, .f32⟩
  | .hbm, ⟨39, _⟩ => ⟨S_, .f32⟩
  | .hbm, ⟨40, _⟩ => ⟨S1x1x1024, .f32⟩
  | .hbm, ⟨41, _⟩ => ⟨S1x1x1024, .f32⟩
  | .hbm, ⟨42, _⟩ => ⟨S8x256x1024, .f32⟩
  | .hbm, ⟨43, _⟩ => ⟨S8x256x1024, .f32⟩
  | .hbm, ⟨44, _⟩ => ⟨S1x1x1x1024, .f32⟩
  | .hbm, ⟨45, _⟩ => ⟨S1x1x1024, .f32⟩
  | .hbm, ⟨46, _⟩ => ⟨S8x256x1024, .f32⟩
  | .hbm, ⟨47, _⟩ => ⟨S8x256x1024, .f32⟩
  | .hbm, ⟨48, _⟩ => ⟨S8x256x2816, .f32⟩
  | .hbm, ⟨49, _⟩ => ⟨S8x256x2816, .f32⟩
  | .hbm, ⟨50, _⟩ => ⟨S8x256x2816, .f32⟩
  | .hbm, ⟨51, _⟩ => ⟨S_, .f32⟩
  | .hbm, ⟨52, _⟩ => ⟨S8x256x2816, .f32⟩
  | .hbm, ⟨53, _⟩ => ⟨S8x256x2816, .f32⟩
  | .hbm, ⟨54, _⟩ => ⟨S_, .f32⟩
  | .hbm, ⟨55, _⟩ => ⟨S8x256x2816, .f32⟩
  | .hbm, ⟨56, _⟩ => ⟨S8x256x2816, .f32⟩
  | .hbm, ⟨57, _⟩ => ⟨S8x256x2816, .f32⟩
  | .hbm, ⟨58, _⟩ => ⟨S8x256x2816, .f32⟩
  | .hbm, ⟨59, _⟩ => ⟨S8x256x2816, .f32⟩
  | .hbm, ⟨60, _⟩ => ⟨S8x256x1024, .f32⟩
  | .hbm, ⟨61, _⟩ => ⟨S8x256x1024, .f32⟩
  | .hbm, ⟨62, _⟩ => ⟨S8x256x1024, .f32⟩
  | .hbm, ⟨63, _⟩ => ⟨S8x256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Kernel8.lean ====
abbrev S8x256x1024 : Shape := ⟨3, ![8, 256, 1024]⟩
abbrev S9x9x1024 : Shape := ⟨3, ![9, 9, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S8x256x512 : Shape := ⟨3, ![8, 256, 512]⟩
abbrev S1x1024x1024 : Shape := ⟨3, ![1, 1024, 1024]⟩
abbrev S1024x1024 : Shape := ⟨2, ![1024, 1024]⟩
abbrev S1x3x1024 : Shape := ⟨3, ![1, 3, 1024]⟩
abbrev S3x1024 : Shape := ⟨2, ![3, 1024]⟩
abbrev S1x256x1024 : Shape := ⟨3, ![1, 256, 1024]⟩
abbrev S1x9x1024 : Shape := ⟨3, ![1, 9, 1024]⟩
abbrev S1x1x1024x2816 : Shape := ⟨4, ![1, 1, 1024, 2816]⟩
abbrev S1x1x2816x1024 : Shape := ⟨4, ![1, 1, 2816, 1024]⟩
abbrev S1x256x512 : Shape := ⟨3, ![1, 256, 512]⟩
abbrev S256x1024 : Shape := ⟨2, ![256, 1024]⟩
abbrev S256x512 : Shape := ⟨2, ![256, 512]⟩
abbrev S512x1024 : Shape := ⟨2, ![512, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 19
  | .vmem => 14
  | .smem => 0
  | _ => 0

abbrev bufTy : (tb : Table) → Fin (tcTables nBuf tb) → BufTy
  | .hbm, ⟨0, _⟩ => ⟨S8x256x1024, .f32⟩
  | .hbm, ⟨1, _⟩ => ⟨S9x9x1024, .f32⟩
  | .hbm, ⟨2, _⟩ => ⟨S2x3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S8x256x512, .f32⟩
  | .hbm, ⟨7, _⟩ => ⟨S8x256x512, .f32⟩
  | .hbm, ⟨8, _⟩ => ⟨S1x1024x1024, .f32⟩
  | .hbm, ⟨9, _⟩ => ⟨S2x2x1024x2816, .bf16⟩
  | .hbm, ⟨10, _⟩ => ⟨S2x2x1024x2816, .bf16⟩
  | .hbm, ⟨11, _⟩ => ⟨S2x2x2816x1024, .bf16⟩
  | .hbm, ⟨12, _⟩ => ⟨S1024x1024, .f32⟩
  | .hbm, ⟨13, _⟩ => ⟨S1024x1024, .bf16⟩
  | .hbm, ⟨14, _⟩ => ⟨S1x3x1024, .f32⟩
  | .hbm, ⟨15, _⟩ => ⟨S3x1024, .f32⟩
  | .hbm, ⟨16, _⟩ => ⟨S8x256x512, .bf16⟩
  | .hbm, ⟨17, _⟩ => ⟨S8x256x512, .bf16⟩
  | .hbm, ⟨18, _⟩ => ⟨S8x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x9x1024, .f32⟩
  | .local _ .vmem, ⟨3, _⟩ => ⟨S3x1024, .f32⟩
  | .local _ .vmem, ⟨4, _⟩ => ⟨S1x1x1024x2816, .bf16⟩
  | .local _ .vmem, ⟨5, _⟩ => ⟨S1x1x1024x2816, .bf16⟩
  | .local _ .vmem, ⟨6, _⟩ => ⟨S1x1x2816x1024, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1024x1024, .bf16⟩
  | .local _ .vmem, ⟨12, _⟩ => ⟨S1x256x1024, .f32⟩
  | .local _ .vmem, ⟨13, _⟩ => ⟨S1x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference8Ideal.lean ====
abbrev S8x256x1024 : Shape := ⟨3, ![8, 256, 1024]⟩
abbrev S9x9x1024 : Shape := ⟨3, ![9, 9, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S8x256x512 : Shape := ⟨3, ![8, 256, 512]⟩
abbrev S1x1024x1024 : Shape := ⟨3, ![1, 1024, 1024]⟩
abbrev S1x9x1024 : Shape := ⟨3, ![1, 9, 1024]⟩
abbrev S1x9x1x1024 : Shape := ⟨4, ![1, 9, 1, 1024]⟩
abbrev S1024x1024 : Shape := ⟨2, ![1024, 1024]⟩
abbrev S1x1x1x1024 : Shape := ⟨4, ![1, 1, 1, 1024]⟩
abbrev S1x1x1024 : Shape := ⟨3, ![1, 1, 1024]⟩
abbrev S1024 : Shape := ⟨1, ![1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S_ : Shape := ⟨0, ![]⟩
abbrev S8x256 : Shape := ⟨2, ![8, 256]⟩
abbrev S8x256x1 : Shape := ⟨3, ![8, 256, 1]⟩
abbrev S8x256x2816 : Shape := ⟨3, ![8, 256, 2816]⟩

abbrev nBuf : Space → Nat
  | .hbm => 75
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S9x9x1024, .f32⟩
  | .hbm, ⟨2, _⟩ => ⟨S2x3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S8x256x512, .f32⟩
  | .hbm, ⟨7, _⟩ => ⟨S8x256x512, .f32⟩
  | .hbm, ⟨8, _⟩ => ⟨S1x1024x1024, .f32⟩
  | .hbm, ⟨9, _⟩ => ⟨S1x9x1024, .f32⟩
  | .hbm, ⟨10, _⟩ => ⟨S1x9x1x1024, .f32⟩
  | .hbm, ⟨11, _⟩ => ⟨S8x256x1024, .f32⟩
  | .hbm, ⟨12, _⟩ => ⟨S1024x1024, .f32⟩
  | .hbm, ⟨13, _⟩ => ⟨S8x256x1024, .f32⟩
  | .hbm, ⟨14, _⟩ => ⟨S1x1x1x1024, .f32⟩
  | .hbm, ⟨15, _⟩ => ⟨S1x1x1024, .f32⟩
  | .hbm, ⟨16, _⟩ => ⟨S8x256x1024, .f32⟩
  | .hbm, ⟨17, _⟩ => ⟨S8x256x1024, .f32⟩
  | .hbm, ⟨18, _⟩ => ⟨S8x256x1024, .f32⟩
  | .hbm, ⟨19, _⟩ => ⟨S1x1x1024, .f32⟩
  | .hbm, ⟨20, _⟩ => ⟨S1024, .f32⟩
  | .hbm, ⟨21, _⟩ => ⟨S1x1x1024x2816, .f32⟩
  | .hbm, ⟨22, _⟩ => ⟨S1024x2816, .f32⟩
  | .hbm, ⟨23, _⟩ => ⟨S1x1x1024x2816, .f32⟩
  | .hbm, ⟨24, _⟩ => ⟨S1024x2816, .f32⟩
  | .hbm, ⟨25, _⟩ => ⟨S1x1x2816x1024, .f32⟩
  | .hbm, ⟨26, _⟩ => ⟨S2816x1024, .f32⟩
  | .hbm, ⟨27, _⟩ => ⟨S1x1x1x1024, .f32⟩
  | .hbm, ⟨28, _⟩ => ⟨S1x1x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S8x256x1024, .f32⟩
  | .hbm, ⟨33, _⟩ => ⟨S_, .f32⟩
  | .hbm, ⟨34, _⟩ => ⟨S8x256, .f32⟩
  | .hbm, ⟨35, _⟩ => ⟨S8x256x1, .f32⟩
  | .hbm, ⟨36, _⟩ => ⟨S_, .f32⟩
  | .hbm, ⟨37, _⟩ => ⟨S8x256x1, .f32⟩
  | .hbm, ⟨38, _⟩ => ⟨S8x256x1, .f32⟩
  | .hbm, ⟨39, _⟩ => ⟨S_, .f32⟩
  | .hbm, ⟨40, _⟩ => ⟨S8x256x1, .f32⟩
  | .hbm, ⟨41, _⟩ => ⟨S8x256x1, .f32⟩
  | .hbm, ⟨42, _⟩ => ⟨S8x256x1, .f32⟩
  | .hbm, ⟨43, _⟩ => ⟨S8x256x1024, .f32⟩
  | .hbm, ⟨44, _⟩ => ⟨S8x256x1024, .f32⟩
  | .hbm, ⟨45, _⟩ => ⟨S1x1x1024, .f32⟩
  | .hbm, ⟨46, _⟩ => ⟨S8x256x1024, .f32⟩
  | .hbm, ⟨47, _⟩ => ⟨S8x256x1024, .f32⟩
  | .hbm, ⟨48, _⟩ => ⟨S1x1x1x1024, .f32⟩
  | .hbm, ⟨49, _⟩ => ⟨S1x1x1024, .f32⟩
  | .hbm, ⟨50, _⟩ => ⟨S_, .f32⟩
  | .hbm, ⟨51, _⟩ => ⟨S1x1x1024, .f32⟩
  | .hbm, ⟨52, _⟩ => ⟨S1x1x1024, .f32⟩
  | .hbm, ⟨53, _⟩ => ⟨S8x256x1024, .f32⟩
  | .hbm, ⟨54, _⟩ => ⟨S8x256x1024, .f32⟩
  | .hbm, ⟨55, _⟩ => ⟨S1x1x1x1024, .f32⟩
  | .hbm, ⟨56, _⟩ => ⟨S1x1x1024, .f32⟩
  | .hbm, ⟨57, _⟩ => ⟨S8x256x1024, .f32⟩
  | .hbm, ⟨58, _⟩ => ⟨S8x256x1024, .f32⟩
  | .hbm, ⟨59, _⟩ => ⟨S8x256x2816, .f32⟩
  | .hbm, ⟨60, _⟩ => ⟨S8x256x2816, .f32⟩
  | .hbm, ⟨61, _⟩ => ⟨S8x256x2816, .f32⟩
  | .hbm, ⟨62, _⟩ => ⟨S_, .f32⟩
  | .hbm, ⟨63, _⟩ => ⟨S8x256x2816, .f32⟩
  | .hbm, ⟨64, _⟩ => ⟨S8x256x2816, .f32⟩
  | .hbm, ⟨65, _⟩ => ⟨S_, .f32⟩
  | .hbm, ⟨66, _⟩ => ⟨S8x256x2816, .f32⟩
  | .hbm, ⟨67, _⟩ => ⟨S8x256x2816, .f32⟩
  | .hbm, ⟨68, _⟩ => ⟨S8x256x2816, .f32⟩
  | .hbm, ⟨69, _⟩ => ⟨S8x256x2816, .f32⟩
  | .hbm, ⟨70, _⟩ => ⟨S8x256x2816, .f32⟩
  | .hbm, ⟨71, _⟩ => ⟨S8x256x1024, .f32⟩
  | .hbm, ⟨72, _⟩ => ⟨S8x256x1024, .f32⟩
  | .hbm, ⟨73, _⟩ => ⟨S8x256x1024, .f32⟩
  | .hbm, ⟨74, _⟩ => ⟨S8x256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Kernel9.lean ====
abbrev S8x256x1024 : Shape := ⟨3, ![8, 256, 1024]⟩
abbrev S9x9x1024 : Shape := ⟨3, ![9, 9, 1024]⟩
abbrev S2x3x1024 : Shape := ⟨3, ![2, 3, 1024]⟩
abbrev S1x1024x3072 : Shape := ⟨3, ![1, 1024, 3072]⟩
abbrev S1024x3072 : Shape := ⟨2, ![1024, 3072]⟩
abbrev S1x3x1024 : Shape := ⟨3, ![1, 3, 1024]⟩
abbrev S3x1024 : Shape := ⟨2, ![3, 1024]⟩
abbrev S8x256x512 : Shape := ⟨3, ![8, 256, 512]⟩
abbrev S8x256x1536 : Shape := ⟨3, ![8, 256, 1536]⟩
abbrev S1x256x1024 : Shape := ⟨3, ![1, 256, 1024]⟩
abbrev S1x9x1024 : Shape := ⟨3, ![1, 9, 1024]⟩
abbrev S1x256x512 : Shape := ⟨3, ![1, 256, 512]⟩
abbrev S1x256x1536 : Shape := ⟨3, ![1, 256, 1536]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1x1x1024 : Shape := ⟨3, ![1, 1, 1024]⟩
abbrev S1024x512 : Shape := ⟨2, ![1024, 512]⟩
abbrev S256x512 : Shape := ⟨2, ![256, 512]⟩
abbrev S1024x1536 : Shape := ⟨2, ![1024, 1536]⟩
abbrev S256x1536 : Shape := ⟨2, ![256, 1536]⟩

abbrev nBuf : Space → Nat
  | .hbm => 12
  | .vmem => 13
  | .smem => 0
  | _ => 0

abbrev bufTy : (tb : Table) → Fin (tcTables nBuf tb) → BufTy
  | .hbm, ⟨0, _⟩ => ⟨S8x256x1024, .f32⟩
  | .hbm, ⟨1, _⟩ => ⟨S9x9x1024, .f32⟩
  | .hbm, ⟨2, _⟩ => ⟨S2x3x1024, .f32⟩
  | .hbm, ⟨3, _⟩ => ⟨S1x1024x3072, .f32⟩
  | .hbm, ⟨4, _⟩ => ⟨S1024x3072, .f32⟩
  | .hbm, ⟨5, _⟩ => ⟨S1024x3072, .bf16⟩
  | .hbm, ⟨6, _⟩ => ⟨S1x3x1024, .f32⟩
  | .hbm, ⟨7, _⟩ => ⟨S3x1024, .f32⟩
  | .hbm, ⟨8, _⟩ => ⟨S8x256x512, .bf16⟩
  | .hbm, ⟨9, _⟩ => ⟨S8x256x512, .bf16⟩
  | .hbm, ⟨10, _⟩ => ⟨S8x256x512, .bf16⟩
  | .hbm, ⟨11, _⟩ => ⟨S8x256x1536, .bf16⟩
  | .local _ .vmem, ⟨0, _⟩ => ⟨S1x256x1024, .f32⟩
  | .local _ .vmem, ⟨1, _⟩ => ⟨S1x256x1024, .f32⟩
  | .local _ .vmem, ⟨2, _⟩ => ⟨S1x9x1024, .f32⟩
  | .local _ .vmem, ⟨3, _⟩ => ⟨S3x1024, .f32⟩
  | .local _ .vmem, ⟨4, _⟩ => ⟨S1024x3072, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x1536, .bf16⟩
  | .local _ .vmem, ⟨12, _⟩ => ⟨S1x256x1536, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference9Ideal.lean ====
abbrev S8x256x1024 : Shape := ⟨3, ![8, 256, 1024]⟩
abbrev S9x9x1024 : Shape := ⟨3, ![9, 9, 1024]⟩
abbrev S2x3x1024 : Shape := ⟨3, ![2, 3, 1024]⟩
abbrev S1x1024x3072 : Shape := ⟨3, ![1, 1024, 3072]⟩
abbrev S1x9x1024 : Shape := ⟨3, ![1, 9, 1024]⟩
abbrev S1x9x1x1024 : Shape := ⟨4, ![1, 9, 1, 1024]⟩
abbrev S1x1x1024 : Shape := ⟨3, ![1, 1, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1x1024 : Shape := ⟨4, ![1, 1, 1, 1024]⟩
abbrev S1024x3072 : Shape := ⟨2, ![1024, 3072]⟩
abbrev S8x256x3072 : Shape := ⟨3, ![8, 256, 3072]⟩
abbrev S8x256x512 : Shape := ⟨3, ![8, 256, 512]⟩
abbrev S8x256x1536 : Shape := ⟨3, ![8, 256, 1536]⟩

abbrev nBuf : Space → Nat
  | .hbm => 48
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S9x9x1024, .f32⟩
  | .hbm, ⟨2, _⟩ => ⟨S2x3x1024, .f32⟩
  | .hbm, ⟨3, _⟩ => ⟨S1x1024x3072, .f32⟩
  | .hbm, ⟨4, _⟩ => ⟨S1x9x1024, .f32⟩
  | .hbm, ⟨5, _⟩ => ⟨S1x9x1x1024, .f32⟩
  | .hbm, ⟨6, _⟩ => ⟨S1x1x1024, .f32⟩
  | .hbm, ⟨7, _⟩ => ⟨S1024, .f32⟩
  | .hbm, ⟨8, _⟩ => ⟨S8x256x1024, .f32⟩
  | .hbm, ⟨9, _⟩ => ⟨S_, .f32⟩
  | .hbm, ⟨10, _⟩ => ⟨S8x256, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S_, .f32⟩
  | .hbm, ⟨16, _⟩ => ⟨S8x256x1, .f32⟩
  | .hbm, ⟨17, _⟩ => ⟨S8x256x1, .f32⟩
  | .hbm, ⟨18, _⟩ => ⟨S8x256x1, .f32⟩
  | .hbm, ⟨19, _⟩ => ⟨S8x256x1024, .f32⟩
  | .hbm, ⟨20, _⟩ => ⟨S8x256x1024, .f32⟩
  | .hbm, ⟨21, _⟩ => ⟨S1x1x1024, .f32⟩
  | .hbm, ⟨22, _⟩ => ⟨S8x256x1024, .f32⟩
  | .hbm, ⟨23, _⟩ => ⟨S8x256x1024, .f32⟩
  | .hbm, ⟨24, _⟩ => ⟨S1x1x1x1024, .f32⟩
  | .hbm, ⟨25, _⟩ => ⟨S1x1x1024, .f32⟩
  | .hbm, ⟨26, _⟩ => ⟨S_, .f32⟩
  | .hbm, ⟨27, _⟩ => ⟨S1x1x1024, .f32⟩
  | .hbm, ⟨28, _⟩ => ⟨S1x1x1024, .f32⟩
  | .hbm, ⟨29, _⟩ => ⟨S8x256x1024, .f32⟩
  | .hbm, ⟨30, _⟩ => ⟨S8x256x1024, .f32⟩
  | .hbm, ⟨31, _⟩ => ⟨S1x1x1x1024, .f32⟩
  | .hbm, ⟨32, _⟩ => ⟨S1x1x1024, .f32⟩
  | .hbm, ⟨33, _⟩ => ⟨S8x256x1024, .f32⟩
  | .hbm, ⟨34, _⟩ => ⟨S8x256x1024, .f32⟩
  | .hbm, ⟨35, _⟩ => ⟨S1024x3072, .f32⟩
  | .hbm, ⟨36, _⟩ => ⟨S8x256x3072, .f32⟩
  | .hbm, ⟨37, _⟩ => ⟨S8x256x512, .f32⟩
  | .hbm, ⟨38, _⟩ => ⟨S_, .f32⟩
  | .hbm, ⟨39, _⟩ => ⟨S8x256x512, .f32⟩
  | .hbm, ⟨40, _⟩ => ⟨S8x256x512, .f32⟩
  | .hbm, ⟨41, _⟩ => ⟨S8x256x512, .bf16⟩
  | .hbm, ⟨42, _⟩ => ⟨S8x256x512, .f32⟩
  | .hbm, ⟨43, _⟩ => ⟨S8x256x512, .bf16⟩
  | .hbm, ⟨44, _⟩ => ⟨S8x256x512, .f32⟩
  | .hbm, ⟨45, _⟩ => ⟨S8x256x512, .bf16⟩
  | .hbm, ⟨46, _⟩ => ⟨S8x256x1536, .f32⟩
  | .hbm, ⟨47, _⟩ => ⟨S8x256x1536, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Kernel10.lean ====
abbrev S8x256x1024 : Shape := ⟨3, ![8, 256, 1024]⟩
abbrev S9x9x1024 : Shape := ⟨3, ![9, 9, 1024]⟩
abbrev S2x3x1024 : Shape := ⟨3, ![2, 3, 1024]⟩
abbrev S1x1024x3072 : Shape := ⟨3, ![1, 1024, 3072]⟩
abbrev S1024x3072 : Shape := ⟨2, ![1024, 3072]⟩
abbrev S1x3x1024 : Shape := ⟨3, ![1, 3, 1024]⟩
abbrev S3x1024 : Shape := ⟨2, ![3, 1024]⟩
abbrev S1024x2048 : Shape := ⟨2, ![1024, 2048]⟩
abbrev S1024x1024 : Shape := ⟨2, ![1024, 1024]⟩
abbrev S8x2x1024x128 : Shape := ⟨4, ![8, 2, 1024, 128]⟩
abbrev S1x256x1024 : Shape := ⟨3, ![1, 256, 1024]⟩
abbrev S1x9x1024 : Shape := ⟨3, ![1, 9, 1024]⟩
abbrev S1x2x1024x128 : Shape := ⟨4, ![1, 2, 1024, 128]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1x1x1024 : Shape := ⟨3, ![1, 1, 1024]⟩
abbrev S1024x256 : Shape := ⟨2, ![1024, 256]⟩
abbrev S1024x128 : Shape := ⟨2, ![1024, 128]⟩
abbrev S1x1x1024x128 : Shape := ⟨4, ![1, 1, 1024, 128]⟩

abbrev nBuf : Space → Nat
  | .hbm => 13
  | .vmem => 10
  | .smem => 0
  | _ => 0

abbrev bufTy : (tb : Table) → Fin (tcTables nBuf tb) → BufTy
  | .hbm, ⟨0, _⟩ => ⟨S8x256x1024, .f32⟩
  | .hbm, ⟨1, _⟩ => ⟨S9x9x1024, .f32⟩
  | .hbm, ⟨2, _⟩ => ⟨S2x3x1024, .f32⟩
  | .hbm, ⟨3, _⟩ => ⟨S1x1024x3072, .f32⟩
  | .hbm, ⟨4, _⟩ => ⟨S1024x3072, .f32⟩
  | .hbm, ⟨5, _⟩ => ⟨S1024x3072, .bf16⟩
  | .hbm, ⟨6, _⟩ => ⟨S1x3x1024, .f32⟩
  | .hbm, ⟨7, _⟩ => ⟨S3x1024, .f32⟩
  | .hbm, ⟨8, _⟩ => ⟨S1024x2048, .bf16⟩
  | .hbm, ⟨9, _⟩ => ⟨S1024x1024, .bf16⟩
  | .hbm, ⟨10, _⟩ => ⟨S1024x1024, .bf16⟩
  | .hbm, ⟨11, _⟩ => ⟨S8x256x1024, .bf16⟩
  | .hbm, ⟨12, _⟩ => ⟨S8x2x1024x128, .bf16⟩
  | .local _ .vmem, ⟨0, _⟩ => ⟨S1x256x1024, .f32⟩
  | .local _ .vmem, ⟨1, _⟩ => ⟨S1x256x1024, .f32⟩
  | .local _ .vmem, ⟨2, _⟩ => ⟨S1x9x1024, .f32⟩
  | .local _ .vmem, ⟨3, _⟩ => ⟨S3x1024, .f32⟩
  | .local _ .vmem, ⟨4, _⟩ => ⟨S1024x2048, .bf16⟩
  | .local _ .vmem, ⟨5, _⟩ => ⟨S1024x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x2x1024x128, .bf16⟩
  | .local _ .vmem, ⟨9, _⟩ => ⟨S1x2x1024x128, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S8x256x1024 : Shape := ⟨3, ![8, 256, 1024]⟩
abbrev S9x9x1024 : Shape := ⟨3, ![9, 9, 1024]⟩
abbrev S2x3x1024 : Shape := ⟨3, ![2, 3, 1024]⟩
abbrev S1x1024x3072 : Shape := ⟨3, ![1, 1024, 3072]⟩
abbrev S1x9x1024 : Shape := ⟨3, ![1, 9, 1024]⟩
abbrev S1x9x1x1024 : Shape := ⟨4, ![1, 9, 1, 1024]⟩
abbrev S1x1x1024 : Shape := ⟨3, ![1, 1, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1x1024 : Shape := ⟨4, ![1, 1, 1, 1024]⟩
abbrev S1x1024x2048 : Shape := ⟨3, ![1, 1024, 2048]⟩
abbrev S1024x2048 : Shape := ⟨2, ![1024, 2048]⟩
abbrev S8x256x2048 : Shape := ⟨3, ![8, 256, 2048]⟩
abbrev S8x2x128x1024 : Shape := ⟨4, ![8, 2, 128, 1024]⟩
abbrev S8x2x1024x128 : Shape := ⟨4, ![8, 2, 1024, 128]⟩

abbrev nBuf : Space → Nat
  | .hbm => 44
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S9x9x1024, .f32⟩
  | .hbm, ⟨2, _⟩ => ⟨S2x3x1024, .f32⟩
  | .hbm, ⟨3, _⟩ => ⟨S1x1024x3072, .f32⟩
  | .hbm, ⟨4, _⟩ => ⟨S1x9x1024, .f32⟩
  | .hbm, ⟨5, _⟩ => ⟨S1x9x1x1024, .f32⟩
  | .hbm, ⟨6, _⟩ => ⟨S1x1x1024, .f32⟩
  | .hbm, ⟨7, _⟩ => ⟨S1024, .f32⟩
  | .hbm, ⟨8, _⟩ => ⟨S8x256x1024, .f32⟩
  | .hbm, ⟨9, _⟩ => ⟨S_, .f32⟩
  | .hbm, ⟨10, _⟩ => ⟨S8x256, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S_, .f32⟩
  | .hbm, ⟨16, _⟩ => ⟨S8x256x1, .f32⟩
  | .hbm, ⟨17, _⟩ => ⟨S8x256x1, .f32⟩
  | .hbm, ⟨18, _⟩ => ⟨S8x256x1, .f32⟩
  | .hbm, ⟨19, _⟩ => ⟨S8x256x1024, .f32⟩
  | .hbm, ⟨20, _⟩ => ⟨S8x256x1024, .f32⟩
  | .hbm, ⟨21, _⟩ => ⟨S1x1x1024, .f32⟩
  | .hbm, ⟨22, _⟩ => ⟨S8x256x1024, .f32⟩
  | .hbm, ⟨23, _⟩ => ⟨S8x256x1024, .f32⟩
  | .hbm, ⟨24, _⟩ => ⟨S1x1x1x1024, .f32⟩
  | .hbm, ⟨25, _⟩ => ⟨S1x1x1024, .f32⟩
  | .hbm, ⟨26, _⟩ => ⟨S_, .f32⟩
  | .hbm, ⟨27, _⟩ => ⟨S1x1x1024, .f32⟩
  | .hbm, ⟨28, _⟩ => ⟨S1x1x1024, .f32⟩
  | .hbm, ⟨29, _⟩ => ⟨S8x256x1024, .f32⟩
  | .hbm, ⟨30, _⟩ => ⟨S8x256x1024, .f32⟩
  | .hbm, ⟨31, _⟩ => ⟨S1x1x1x1024, .f32⟩
  | .hbm, ⟨32, _⟩ => ⟨S1x1x1024, .f32⟩
  | .hbm, ⟨33, _⟩ => ⟨S8x256x1024, .f32⟩
  | .hbm, ⟨34, _⟩ => ⟨S8x256x1024, .f32⟩
  | .hbm, ⟨35, _⟩ => ⟨S1x1024x2048, .f32⟩
  | .hbm, ⟨36, _⟩ => ⟨S1024x2048, .f32⟩
  | .hbm, ⟨37, _⟩ => ⟨S8x256x2048, .f32⟩
  | .hbm, ⟨38, _⟩ => ⟨S8x256x1024, .f32⟩
  | .hbm, ⟨39, _⟩ => ⟨S8x256x1024, .f32⟩
  | .hbm, ⟨40, _⟩ => ⟨S8x2x128x1024, .f32⟩
  | .hbm, ⟨41, _⟩ => ⟨S8x2x1024x128, .f32⟩
  | .hbm, ⟨42, _⟩ => ⟨S8x256x1024, .bf16⟩
  | .hbm, ⟨43, _⟩ => ⟨S8x2x1024x128, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Proof.AttnSpec.lean ====
/-
  Differential attention for one query and one head, over the extended reals: the quantities the kernel forms (a query of
  128 lanes whose lower and upper 64 lanes give the two softmaxes, context keys and latent keys apart) and those of the
  reference (all 4352 keys in one softmax).
-/
module

public import Idealize.ShloMosaic.PureOps.Ideal
public import Idealize.ShloMosaic.PureOps.Ideal.Laws

@[expose] public section

noncomputable section

open Idealize.ShloMosaic

namespace Cert.Attn

/-- The factor on the queries: an eighth, and the change from base e to base 2. -/
def qkScale : EReal := (((1 / 8) * (Real.log 2)⁻¹ : ℝ) : EReal)

/-- The score of the first softmax: the lower 64 lanes of the scaled query with those of the key. -/
def scoreLo (q k : Fin 128 → EReal) : EReal := ∑ l : Fin 128, if l.val < 64 then q l * qkScale * k l else 0

/-- The score of the second softmax: the upper 64 lanes. -/
def scoreHi (q k : Fin 128 → EReal) : EReal := ∑ l : Fin 128, if 64 ≤ l.val then q l * qkScale * k l else 0

/-- The largest score over context and latent keys. -/
def top (sC : Fin 256 → EReal) (sL : Fin 4096 → EReal) : EReal :=
  max (Finset.univ.fold max (Ideal.ofBits .f32 0xFF800000#32) sC) (Finset.univ.fold max (Ideal.ofBits .f32 0xFF800000#32) sL)

/-- The values weighted by the base-2 softmax of the scores. -/
def weighted (sC : Fin 256 → EReal) (sL : Fin 4096 → EReal) (vC : Fin 256 → EReal) (vL : Fin 4096 → EReal) : EReal :=
  Ideal.div (∑ k, Ideal.exp2 (sC k - top sC sL) * vC k + ∑ k, Ideal.exp2 (sL k - top sC sL) * vL k)
    (∑ k, Ideal.exp2 (sC k - top sC sL) + ∑ k, Ideal.exp2 (sL k - top sC sL))

/-- The weight of the second softmax. -/
def lam (l0 l1 l2 l3 : Fin 64 → EReal) : EReal :=
  Ideal.exp (∑ x, l0 x * l1 x) - Ideal.exp (∑ x, l2 x * l3 x) + Ideal.ofBits .f32 0x3E4CCCCD#32

/-- One lane of the difference of the two attentions. -/
def mixed (q : Fin 128 → EReal) (kC : Fin 256 → Fin 128 → EReal) (kL : Fin 4096 → Fin 128 → EReal)
    (vC : Fin 256 → EReal) (vL : Fin 4096 → EReal) (w : EReal) : EReal :=
  weighted (fun k => scoreLo q (kC k)) (fun k => scoreLo q (kL k)) vC vL
    - w * weighted (fun k => scoreHi q (kC k)) (fun k => scoreHi q (kL k)) vC vL

/-- The head's norm, weight and factor. -/
def head (o w : Fin 128 → EReal) (d : Fin 128) : EReal :=
  o d * Ideal.rsqrt (Ideal.div (∑ x, o x * o x) (Ideal.ofBits .f32 0x43000000#32) + Ideal.ofBits .f32 0x358637BD#32)
    * w d * Ideal.ofBits .f32 0x3F4CCCCD#32

/-- The reference's score of half `u` of the lanes. -/
def refScore (u : Fin 2) (q k : Fin 128 → EReal) : EReal :=
  (∑ x : Fin 64, q ⟨u.val * 64 + x.val, by omega⟩ * k ⟨u.val * 64 + x.val, by omega⟩) * Ideal.ofBits .f32 0x3E000000#32

/-- The largest of the reference's scores. -/
def refTop (s : Fin 4352 → EReal) : EReal :=
  max (Ideal.ofBits .f32 0xFF800000#32) (Finset.univ.fold max (Ideal.ofBits .f32 0xFF800000#32) s)

/-- The reference's softmax. -/
def refWeight (s : Fin 4352 → EReal) (k : Fin 4352) : EReal :=
  Ideal.div (Ideal.exp (s k - refTop s)) (∑ x, Ideal.exp (s x - refTop s))

/-- The reference's value: the difference of the two softmaxes against the values, context keys first. -/
def refMixed (s0 s1 : Fin 4352 → EReal) (vC : Fin 256 → EReal) (vL : Fin 4096 → EReal) (w : EReal) : EReal :=
  ∑ x : Fin 256, vC x * (refWeight s0 ⟨x.val, by omega⟩ - w * refWeight s1 ⟨x.val, by omega⟩)
    + ∑ x : Fin 4096, vL x * (refWeight s0 ⟨256 + x.val, by omega⟩ - w * refWeight s1 ⟨256 + x.val, by omega⟩)

end Cert.Attn

end
-- ==== Proof.AttnBlock.lean ====
/-
  The attention call: what its body stores, row by row.
-/
module

public import proofs.«01_k».proof.Proof.AttnSpec
public import proofs.«01_k».proof.Proof.Gen.KernelIdeal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.Block

open Cert.KernelIdeal Cert.KernelIdeal.Gen

/-- The named factor is read as its value over the reals. -/
theorem named_scale : Named.named (F := Ideal) (φ := .f32) κ "qk_scale" 0x3E38AA3B#32 = Attn.qkScale :=
  IdealRules.named_const.ideal_named_scalar _ _ _ _ rfl

/-- A lane number below 64, as the body compares it. -/
theorem slt_lane (l : Fin 128) : IntOp.cmpi .slt (BitVec.ofNat 32 l.val) 64#32 = if l.val < 64 then 1#1 else 0#1 := by
  revert l; decide

/-- A lane number of at least 64, as the body compares it. -/
theorem sge_lane (l : Fin 128) : IntOp.cmpi .sge (BitVec.ofNat 32 l.val) 64#32 = if 64 ≤ l.val then 1#1 else 0#1 := by
  revert l; decide

/-- The greater of two arrays, read at an index. -/
theorem maximumf_read {s : Shape} (x y : FVec Ideal s .f32) (j : s.Idx) : (maximumf x y : s.Idx → EReal) j = max (x j : EReal) (y j) :=
  congrFun (congrFun Ideal.maximumf_eq_max _) _

/-- The largest entry of a row. -/
theorem rowMax {n w : Nat} (x : FVec Ideal ⟨2, ![n, w]⟩ .f32) (h : (⟨2, ![n, w]⟩ : Shape).Reduces [1] ⟨1, ![n]⟩) (hφ) (hacc) (r : Fin n) :
    (multiReduction .maximumf [1] ⟨1, ![n]⟩ x 0xFF800000#32 h hφ hacc : (⟨1, ![n]⟩ : Shape).Idx → EReal) (ix1 r)
      = Finset.univ.fold max (Ideal.ofBits .f32 0xFF800000#32) (fun k => (x (ix2 r k) : EReal)) := by
  rw [multiReduction_maximumf_eq_fold]
  exact h.fold_fiber_r2_a1 (ix1 r) _ _ _

/-- A column of row quantities, read at a row. -/
theorem column (x : FVec Ideal S512 .f32) (r : Fin 512) :
    (shapeCast S512x1 x shapeCasts_S512_S512x1 : S512x1.Idx → EReal) (ix2 r 0) = x (ix1 r) := by
  pointwise []

/-- The first softmax's scores against the context keys. -/
theorem scores_lo_ctx (x2 : FVec Ideal S1x512x128 .f32) (x3 : FVec Ideal S1x256x128 .bf16) (r : Fin 512) (k : Fin 256) :
    (k0_pay6 (F := Ideal) x2 x3 : S512x256.Idx → EReal) (ix2 r k)
      = Attn.scoreLo (fun l => x2 (ix3 0 r l)) (fun l => x3 (ix3 0 k l)) := by
  pointwise [k0_pay6, k0_pay4, k0_pay2, k0_pay3]
  simp only [named_scale, slt_lane, Attn.scoreLo]
  exact Finset.sum_congr rfl fun l _ => by split_ifs <;> rfl

/-- The first softmax's scores against the latent keys. -/
theorem scores_lo_lat (x2 : FVec Ideal S1x512x128 .f32) (x4 : FVec Ideal S1x4096x128 .bf16) (r : Fin 512) (k : Fin 4096) :
    (k0_pay7 (F := Ideal) x2 x4 : S512x4096.Idx → EReal) (ix2 r k)
      = Attn.scoreLo (fun l => x2 (ix3 0 r l)) (fun l => x4 (ix3 0 k l)) := by
  pointwise [k0_pay7, k0_pay4, k0_pay2, k0_pay3]
  simp only [named_scale, slt_lane, Attn.scoreLo]
  exact Finset.sum_congr rfl fun l _ => by split_ifs <;> rfl

/-- The second softmax's scores against the context keys. -/
theorem scores_hi_ctx (x2 : FVec Ideal S1x512x128 .f32) (x3 : FVec Ideal S1x256x128 .bf16) (r : Fin 512) (k : Fin 256) :
    (k0_pay8 (F := Ideal) x2 x3 : S512x256.Idx → EReal) (ix2 r k)
      = Attn.scoreHi (fun l => x2 (ix3 0 r l)) (fun l => x3 (ix3 0 k l)) := by
  pointwise [k0_pay8, k0_pay5, k0_pay2, k0_pay3]
  simp only [named_scale, sge_lane, Attn.scoreHi]
  exact Finset.sum_congr rfl fun l _ => by split_ifs <;> rfl

/-- The second softmax's scores against the latent keys. -/
theorem scores_hi_lat (x2 : FVec Ideal S1x512x128 .f32) (x4 : FVec Ideal S1x4096x128 .bf16) (r : Fin 512) (k : Fin 4096) :
    (k0_pay9 (F := Ideal) x2 x4 : S512x4096.Idx → EReal) (ix2 r k)
      = Attn.scoreHi (fun l => x2 (ix3 0 r l)) (fun l => x4 (ix3 0 k l)) := by
  pointwise [k0_pay9, k0_pay5, k0_pay2, k0_pay3]
  simp only [named_scale, sge_lane, Attn.scoreHi]
  exact Finset.sum_congr rfl fun l _ => by split_ifs <;> rfl

/-- The first softmax's largest score. -/
theorem top_lo (x2 : FVec Ideal S1x512x128 .f32) (x3 : FVec Ideal S1x256x128 .bf16) (x4 : FVec Ideal S1x4096x128 .bf16) (r : Fin 512) :
    (k0_pay10 (F := Ideal) x2 x3 x4 : S512x1.Idx → EReal) (ix2 r 0)
      = Attn.top (fun k => (k0_pay6 (F := Ideal) x2 x3 : S512x256.Idx → EReal) (ix2 r k))
          (fun k => (k0_pay7 (F := Ideal) x2 x4 : S512x4096.Idx → EReal) (ix2 r k)) := by
  unfold k0_pay10 Attn.top
  rw [maximumf_read, column, column]
  exact congrArg₂ max (rowMax (k0_pay6 x2 x3) reduces_S512x256_S512 _ _ r) (rowMax (k0_pay7 x2 x4) reduces_S512x4096_S512 _ _ r)

/-- The first softmax's scores against the context keys, less the largest. -/
theorem shifted_lo (x2 : FVec Ideal S1x512x128 .f32) (x3 : FVec Ideal S1x256x128 .bf16) (x4 : FVec Ideal S1x4096x128 .bf16) (r : Fin 512) (k : Fin 256) :
    (k0_pay11 (F := Ideal) x2 x3 x4 : S512x256.Idx → EReal) (ix2 r k)
      = (k0_pay6 (F := Ideal) x2 x3 : S512x256.Idx → EReal) (ix2 r k) - (k0_pay10 (F := Ideal) x2 x3 x4 : S512x1.Idx → EReal) (ix2 r 0) := by
  pointwise [k0_pay11]

/-- The first softmax's weighted values, from its scores and their largest. -/
theorem weighted_lo (a : FVec Ideal S512x4096 .f32) (b : FVec Ideal S512x1 .f32) (c : FVec Ideal S512x256 .f32)
    (d : FVec Ideal S1x256x128 .bf16) (e : FVec Ideal S1x4096x128 .bf16) (r : Fin 512) (j : Fin 128) :
    (k0_pay12 (F := Ideal) a b c d e : S512x128.Idx → EReal) (ix2 r j)
      = Ideal.div (∑ k, Ideal.exp2 (c (ix2 r k)) * d (ix3 0 k j) + ∑ k, Ideal.exp2 (a (ix2 r k) - b (ix2 r 0)) * e (ix3 0 k j))
          (∑ k, Ideal.exp2 (c (ix2 r k)) + ∑ k, Ideal.exp2 (a (ix2 r k) - b (ix2 r 0))) := by
  pointwise [k0_pay12]
  rfl

/-- The second softmax's largest score. -/
theorem top_hi (a : FVec Ideal S512x256 .f32) (b : FVec Ideal S512x4096 .f32) (r : Fin 512) :
    (k0_pay13 (F := Ideal) a b : S512x1.Idx → EReal) (ix2 r 0) = Attn.top (fun k => a (ix2 r k)) (fun k => b (ix2 r k)) := by
  unfold k0_pay13 Attn.top
  rw [maximumf_read, column, column]
  exact congrArg₂ max (rowMax a reduces_S512x256_S512 _ _ r) (rowMax b reduces_S512x4096_S512 _ _ r)

/-- The second softmax's powers of two over the context keys. -/
theorem pow_ctx (a : FVec Ideal S512x256 .f32) (b : FVec Ideal S512x4096 .f32) (r : Fin 512) (k : Fin 256) :
    (k0_pay14 (F := Ideal) a b : S512x256.Idx → EReal) (ix2 r k)
      = Ideal.exp2 (a (ix2 r k) - Attn.top (fun k => a (ix2 r k)) (fun k => b (ix2 r k))) := by
  rw [← top_hi]
  pointwise [k0_pay14]
  rfl

/-- The second softmax's powers of two over the latent keys. -/
theorem pow_lat (a : FVec Ideal S512x256 .f32) (b : FVec Ideal S512x4096 .f32) (r : Fin 512) (k : Fin 4096) :
    (k0_pay17 (F := Ideal) a b : S512x4096.Idx → EReal) (ix2 r k)
      = Ideal.exp2 (b (ix2 r k) - Attn.top (fun k => a (ix2 r k)) (fun k => b (ix2 r k))) := by
  rw [← top_hi]
  pointwise [k0_pay17]
  rfl

/-- The sum of the powers over the context keys. -/
theorem sum_ctx (a : FVec Ideal S512x256 .f32) (b : FVec Ideal S512x4096 .f32) (r : Fin 512) :
    (k0_pay15 (F := Ideal) a b : S512x1.Idx → EReal) (ix2 r 0)
      = ∑ k, (k0_pay14 (F := Ideal) a b : S512x256.Idx → EReal) (ix2 r k) := by
  pointwise [k0_pay15]

/-- The sum of the powers over the latent keys. -/
theorem sum_lat (a : FVec Ideal S512x256 .f32) (b : FVec Ideal S512x4096 .f32) (r : Fin 512) :
    (k0_pay18 (F := Ideal) a b : S512x1.Idx → EReal) (ix2 r 0)
      = ∑ k, (k0_pay17 (F := Ideal) a b : S512x4096.Idx → EReal) (ix2 r k) := by
  pointwise [k0_pay18]

/-- The context values under the powers. -/
theorem values_ctx (a : FVec Ideal S512x256 .f32) (b : FVec Ideal S512x4096 .f32) (v : FVec Ideal S1x256x128 .bf16) (r : Fin 512) (j : Fin 128) :
    (k0_pay16 (F := Ideal) a b v : S512x128.Idx → EReal) (ix2 r j)
      = ∑ k, (k0_pay14 (F := Ideal) a b : S512x256.Idx → EReal) (ix2 r k) * v (ix3 0 k j) := by
  pointwise [k0_pay16]

/-- The powers over the latent keys, as the product with the values reads them. -/
theorem pow_lat_cast (a : FVec Ideal S512x256 .f32) (b : FVec Ideal S512x4096 .f32) (r : Fin 512) (k : Fin 4096) :
    (k0_pay19 (F := Ideal) a b : S512x4096.Idx → EReal) (ix2 r k) = (k0_pay17 (F := Ideal) a b : S512x4096.Idx → EReal) (ix2 r k) := by
  pointwise [k0_pay19]

/-- The heads' norm of the difference of the two attentions, from what the earlier steps leave. -/
theorem head_value (a : FVec Ideal S512x128 .f32) (b : FVec Ideal S512x1 .f32) (c : FVec Ideal S512x128 .f32)
    (d : FVec Ideal S512x1 .f32) (e : FVec Ideal S512x4096 .bf16) (v : FVec Ideal S1x4096x128 .bf16)
    (lp : FVec Ideal S4x64 .f32) (w : FVec Ideal S1x128 .f32) (r : Fin 512) (j : Fin 128) :
    (k0_pay20 (F := Ideal) a b c d e v lp w : S512x128.Idx → EReal) (ix2 r j)
      = Attn.head (fun x => a (ix2 r x) - Attn.lam (fun x => lp (ix2 0 x)) (fun x => lp (ix2 1 x)) (fun x => lp (ix2 2 x)) (fun x => lp (ix2 3 x))
            * Ideal.div (c (ix2 r x) + ∑ k, e (ix2 r k) * v (ix3 0 k x)) (b (ix2 r 0) + d (ix2 r 0)))
          (fun x => w (ix2 0 x)) j := by
  pointwise [k0_pay20]
  rfl

/-- The last step only adds a leading axis. -/
theorem lead (v : FVec Ideal S512x128 .bf16) (r : Fin 512) (j : Fin 128) :
    (k0_pay1 (F := Ideal) v : S1x512x128.Idx → EReal) (ix3 0 r j) = v (ix2 r j) := by
  pointwise [k0_pay1]

/-- The block that the body stores at a grid point, read at a row and a lane: the head's differential attention. -/
theorem block_value (x0 : FVec Ideal S4x64 .f32) (x1 : FVec Ideal S1x128 .f32) (x2 : FVec Ideal S1x512x128 .f32)
    (x3 : FVec Ideal S1x256x128 .bf16) (x4 : FVec Ideal S1x4096x128 .bf16) (x5 : FVec Ideal S1x256x128 .bf16)
    (x6 : FVec Ideal S1x4096x128 .bf16) (r : Fin 512) (j : Fin 128) :
    (out0_7 (F := Ideal) x0 x1 x2 x3 x4 x5 x6 : S1x512x128.Idx → EReal) (ix3 0 r j)
      = Attn.head (fun d => Attn.mixed (fun l => x2 (ix3 0 r l)) (fun k l => x3 (ix3 0 k l)) (fun k l => x4 (ix3 0 k l))
            (fun k => x5 (ix3 0 k d)) (fun k => x6 (ix3 0 k d))
            (Attn.lam (fun x => x0 (ix2 0 x)) (fun x => x0 (ix2 1 x)) (fun x => x0 (ix2 2 x)) (fun x => x0 (ix2 3 x))))
          (fun x => x1 (ix2 0 x)) j := by
  unfold_out out0_7
  frame_out
  refine (lead _ r j).trans ((head_value _ _ _ _ _ _ _ _ r j).trans ?_)
  simp only [weighted_lo, shifted_lo, top_lo, scores_lo_ctx, scores_lo_lat, sum_ctx, sum_lat, values_ctx, pow_lat_cast,
    pow_ctx, pow_lat, scores_hi_ctx, scores_hi_lat]
  rfl

end Cert.KernelIdeal.Block

end
-- ==== Proof.AttnArray.lean ====
/-
  The attention call: what its result array holds after the run, as one function of the arguments.
-/
module

public import proofs.«01_k».proof.Proof.AttnBlock
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen

variable (m : (ℓ : Loc nD τ sig) → Buf (Elt Ideal) ℓ)

/-- Where each window's block lies at a grid point. -/
theorem idx : ∀ t : Fin cfg0.N, win0_0.index t = ![0, 0]
    ∧ win0_1.index t = ![0, 0]
    ∧ win0_2.index t = ![(grid0.coords t 0).val, (grid0.coords t 2).val, (grid0.coords t 1).val]
    ∧ win0_3.index t = ![(grid0.coords t 0).val, 0, (grid0.coords t 1).val]
    ∧ win0_4.index t = ![(grid0.coords t 0).val, 0, (grid0.coords t 1).val]
    ∧ win0_5.index t = ![(grid0.coords t 0).val, 0, (grid0.coords t 1).val]
    ∧ win0_6.index t = ![(grid0.coords t 0).val, 0, (grid0.coords t 1).val]
    ∧ win0_7.index t = ![(grid0.coords t 0).val, (grid0.coords t 2).val, (grid0.coords t 1).val] :=
  (by decide +kernel : ∀ t : Fin grid0.N, _)

/-- The result as one function of the arguments: batch, token, head and lane of the head. -/
def G (q : FVec Ideal S8x4096x512 .f32) (kc : FVec Ideal S8x256x512 .f32) (kl : FVec Ideal S8x4096x512 .f32)
    (vc : FVec Ideal S8x256x512 .f32) (vl : FVec Ideal S8x4096x512 .f32) (lp : FVec Ideal S1x4x64 .f32) (sw : FVec Ideal S1x128 .f32)
    (b : Fin 8) (n : Fin 4096) (h : Fin 4) (j : Fin 128) : EReal :=
  Attn.head (fun d => Attn.mixed (fun l => q (ix3 b n ⟨h.val * 128 + l.val, by omega⟩)) (fun k l => kc (ix3 b k ⟨h.val * 128 + l.val, by omega⟩))
      (fun k l => kl (ix3 b k ⟨h.val * 128 + l.val, by omega⟩)) (fun k => vc (ix3 b k ⟨h.val * 128 + d.val, by omega⟩))
      (fun k => vl (ix3 b k ⟨h.val * 128 + d.val, by omega⟩))
      (Attn.lam (fun x => lp (ix3 0 0 x)) (fun x => lp (ix3 0 1 x)) (fun x => lp (ix3 0 2 x)) (fun x => lp (ix3 0 3 x))))
    (fun x => sw (ix2 0 x)) j

/-- After the run the result array holds `G` of the arguments. -/
theorem final (c : Dev nD) : (dats m 0 c).arrAt 7 (cfgs 0).N = (fun i : S8x4096x512.Idx =>
    (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (i 0) (i 1) (⟨(i 2).val / 128, Nat.div_lt_of_lt_mul (i 2).isLt⟩ : Fin 4) (⟨(i 2).val % 128, Nat.mod_lt _ (by decide)⟩ : Fin 128) : EReal)) := by
  refine (dats m 0 c).arrAt_eq_of_covers 7 _ (by decide +kernel) fun t _ y => ?_
  blk_simp
  rw [after0_7]
  obtain ⟨u, r, j, rfl⟩ : ∃ (u : Fin 1) (r : Fin 512) (j : Fin 128), y = ix3 u r j := ⟨y 0, y 1, y 2, eq_ix3 y⟩
  obtain rfl : u = 0 := Subsingleton.elim _ _
  refine (block_value _ _ _ _ _ _ _ r j).trans ?_
  unfold G
  blk_point [iblk, V, idx t]

end Cert.KernelIdeal.Block

end
-- ==== Proof.AttnRef.lean ====
/-
  The attention reference: its printed term cut in stages, and what each stage computes, element by element.
-/
module

public import proofs.«01_k».proof.Proof.AttnSpec
public import proofs.«01_k».proof.Proof.Gen.ReferenceIdeal.Run

public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ReferenceIdeal.RefValue

open Cert.ReferenceIdeal Cert.ReferenceIdeal.Gen

/-- The scores of every query against every key, context keys first. -/
def refScores (q : FVec Ideal S8x4096x512 .f32) (kc : FVec Ideal S8x256x512 .f32) (kl : FVec Ideal S8x4096x512 .f32) : FVec Ideal S8x4x2x4096x4352 .f32 :=
  mulf (Host.dotGeneral dot_S8x4096x4x2x64_S8x4352x4x2x64_S8x4x2x4096x4352_4_4_1_1_023_023 none (shapeCast _ q shapeCasts_S8x4096x512_S8x4096x4x2x64) (concatenate S8x4352x4x2x64 1 [⟨S8x256x4x2x64, (shapeCast _ kc shapeCasts_S8x256x512_S8x256x4x2x64)⟩, ⟨S8x4096x4x2x64, (shapeCast _ kl shapeCasts_S8x4096x512_S8x4096x4x2x64)⟩] concatenates_S8x256x4x2x64_S8x4096x4x2x64_S8x4352x4x2x64_d1)) (broadcastInDim S8x4x2x4096x4352 ![] bcast_S_S8x4x2x4096x4352 (constant S_ .f32 0x3E000000#32))

/-- The largest score of each query. -/
def refTop (S : FVec Ideal S8x4x2x4096x4352 .f32) : FVec Ideal S8x4x2x4096 .f32 :=
  maximumf (broadcastInDim S8x4x2x4096 ![] bcast_S_S8x4x2x4096 (constant S_ .f32 0xFF800000#32)) (Host.reduce FloatOps.maximumf S (constant S_ .f32 0xFF800000#32) reducesTo_S8x4x2x4096x4352_S8x4x2x4096_d4 h_S_)

/-- The exponentials of the scores less the largest. -/
def refExp (S : FVec Ideal S8x4x2x4096x4352 .f32) (M : FVec Ideal S8x4x2x4096 .f32) : FVec Ideal S8x4x2x4096x4352 .f32 :=
  Host.exp (subf S (broadcastInDim S8x4x2x4096x4352 ![0, 1, 2, 3, 4] bcast_S8x4x2x4096x1_S8x4x2x4096x4352_0_1_2_3_4 (broadcastInDim S8x4x2x4096x1 ![0, 1, 2, 3] bcast_S8x4x2x4096_S8x4x2x4096x1_0_1_2_3 M)))

/-- The softmax weights. -/
def refWeights (E : FVec Ideal S8x4x2x4096x4352 .f32) : FVec Ideal S8x4x2x4096x4352 .f32 :=
  Host.divf E (broadcastInDim S8x4x2x4096x4352 ![0, 1, 2, 3, 4] bcast_S8x4x2x4096x1_S8x4x2x4096x4352_0_1_2_3_4 (broadcastInDim S8x4x2x4096x1 ![0, 1, 2, 3] bcast_S8x4x2x4096_S8x4x2x4096x1_0_1_2_3 (Host.reduceAdd E (constant S_ .f32 0x00000000#32) reducesTo_S8x4x2x4096x4352_S8x4x2x4096_d4 h_S_)))

/-- The weight of the second softmax. -/
def refLam (lp : FVec Ideal S1x4x64 .f32) : FVec Ideal S_ .f32 :=
  addf (subf (Host.exp (Host.reduceAdd (mulf (shapeCast _ (extractStridedSlice S1x64 ![0, 0] (shapeCast _ lp shapeCasts_S1x4x64_S4x64) slices_S4x64_S1x64_0_0) shapeCasts_S1x64_S64) (shapeCast _ (extractStridedSlice S1x64 ![1, 0] (shapeCast _ lp shapeCasts_S1x4x64_S4x64) slices_S4x64_S1x64_1_0) shapeCasts_S1x64_S64)) (constant S_ .f32 0x00000000#32) reducesTo_S64_S_d0 h_S_)) (Host.exp (Host.reduceAdd (mulf (shapeCast _ (extractStridedSlice S1x64 ![2, 0] (shapeCast _ lp shapeCasts_S1x4x64_S4x64) slices_S4x64_S1x64_2_0) shapeCasts_S1x64_S64) (shapeCast _ (extractStridedSlice S1x64 ![3, 0] (shapeCast _ lp shapeCasts_S1x4x64_S4x64) slices_S4x64_S1x64_3_0) shapeCasts_S1x64_S64)) (constant S_ .f32 0x00000000#32) reducesTo_S64_S_d0 h_S_))) (constant S_ .f32 0x3E4CCCCD#32)

/-- The weighted values. -/
def refMix (P : FVec Ideal S8x4x2x4096x4352 .f32) (vc : FVec Ideal S8x256x512 .f32) (vl : FVec Ideal S8x4096x512 .f32) (L : FVec Ideal S_ .f32) : FVec Ideal S8x4096x4x128 .f32 :=
  transpose S8x4096x4x128 [0, 3, 1, 2] (Host.dotGeneral dot_S8x4352x4x128_S8x4x4096x4352_S8x4x128x4096_1_3_3_2_02_01 none (concatenate S8x4352x4x128 1 [⟨S8x256x4x128, (shapeCast _ vc shapeCasts_S8x256x512_S8x256x4x128)⟩, ⟨S8x4096x4x128, (shapeCast _ vl shapeCasts_S8x4096x512_S8x4096x4x128)⟩] concatenates_S8x256x4x128_S8x4096x4x128_S8x4352x4x128_d1) (subf (shapeCast _ (extractStridedSlice S8x4x1x4096x4352 ![0, 0, 0, 0, 0] P slices_S8x4x2x4096x4352_S8x4x1x4096x4352_0_0_0_0_0) shapeCasts_S8x4x1x4096x4352_S8x4x4096x4352) (mulf (broadcastInDim S8x4x4096x4352 ![] bcast_S_S8x4x4096x4352 L) (shapeCast _ (extractStridedSlice S8x4x1x4096x4352 ![0, 0, 1, 0, 0] P slices_S8x4x2x4096x4352_S8x4x1x4096x4352_0_0_1_0_0) shapeCasts_S8x4x1x4096x4352_S8x4x4096x4352)))) transposes_S8x4x128x4096_S8x4096x4x128_0_3_1_2

/-- The heads' norm, weight and factor. -/
def refHead (O : FVec Ideal S8x4096x4x128 .f32) (sw : FVec Ideal S1x128 .f32) : FVec Ideal S8x4096x512 .bf16 :=
  truncf .bf16 (shapeCast _ (mulf (mulf (mulf O (broadcastInDim S8x4096x4x128 ![0, 1, 2, 3] bcast_S8x4096x4x1_S8x4096x4x128_0_1_2_3 (Host.rsqrt (addf (Host.divf (broadcastInDim S8x4096x4x1 ![0, 1, 2] bcast_S8x4096x4_S8x4096x4x1_0_1_2 (Host.reduceAdd (mulf O O) (constant S_ .f32 0x00000000#32) reducesTo_S8x4096x4x128_S8x4096x4_d3 h_S_)) (broadcastInDim S8x4096x4x1 ![] bcast_S_S8x4096x4x1 (constant S_ .f32 0x43000000#32))) (broadcastInDim S8x4096x4x1 ![] bcast_S_S8x4096x4x1 (constant S_ .f32 0x358637BD#32)))))) (broadcastInDim S8x4096x4x128 ![0, 1, 2, 3] bcast_S1x1x1x128_S8x4096x4x128_0_1_2_3 (broadcastInDim S1x1x1x128 ![3] bcast_S128_S1x1x1x128_3 (shapeCast _ sw shapeCasts_S1x128_S128)))) (broadcastInDim S8x4096x4x128 ![] bcast_S_S8x4096x4x128 (constant S_ .f32 0x3F4CCCCD#32))) shapeCasts_S8x4096x4x128_S8x4096x512) bitsLt_bf16_f32

/-- The scores of a latent query against a context key. -/
theorem scores_ctx (q : FVec Ideal S8x4096x512 .f32) (kc : FVec Ideal S8x256x512 .f32) (kl : FVec Ideal S8x4096x512 .f32) (b : Fin 8) (h : Fin 4) (u : Fin 2) (n : Fin 4096) (k : Fin 256) :
    refScores q kc kl (ix5 b h u n ⟨k.val, by omega⟩)
      = Attn.refScore u (fun l => q (ix3 b n ⟨h.val * 128 + l.val, by omega⟩)) (fun l => kc (ix3 b k ⟨h.val * 128 + l.val, by omega⟩)) := by
  pointwise [refScores]
  unfold Attn.refScore
  simp only [Nat.add_assoc]

/-- The scores of a latent query against a latent key. -/
theorem scores_lat (q : FVec Ideal S8x4096x512 .f32) (kc : FVec Ideal S8x256x512 .f32) (kl : FVec Ideal S8x4096x512 .f32) (b : Fin 8) (h : Fin 4) (u : Fin 2) (n : Fin 4096) (k : Fin 4096) :
    refScores q kc kl (ix5 b h u n ⟨256 + k.val, by omega⟩)
      = Attn.refScore u (fun l => q (ix3 b n ⟨h.val * 128 + l.val, by omega⟩)) (fun l => kl (ix3 b k ⟨h.val * 128 + l.val, by omega⟩)) := by
  pointwise [refScores]
  unfold Attn.refScore
  simp only [Nat.add_assoc]

/-- The greater of two arrays, read at an index. -/
theorem maximumf_read {s : Shape} (x y : FVec Ideal s .f32) (j : s.Idx) : (maximumf x y : s.Idx → EReal) j = max (x j : EReal) (y j) :=
  congrFun (congrFun Ideal.maximumf_eq_max _) _

/-- The greater of two arrays at an index where the first is known. -/
theorem maximumf_left {s : Shape} (x y : FVec Ideal s .f32) (j : s.Idx) (v : EReal) (h : (x j : EReal) = v) :
    (maximumf x y : s.Idx → EReal) j = max v (y j) := by
  rw [maximumf_read, h]

/-- The largest entry along the last of five axes. -/
theorem hostMax {n0 n1 n2 n3 n4 : Nat} {u : Shape} (S : (⟨5, ![n0, n1, n2, n3, n4]⟩ : Shape).Idx → EReal) (init : u.Idx → EReal)
    (hr : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce (FloatOps.maximumf (F := Ideal) (φ := .f32)) S init hr hu (ix4 a b c d)
      = Finset.fold max (init (Shape.Idx.first hu)) (fun k => S (ix5 a b c d k)) Finset.univ := by
  rw [Host.reduce_eq_fold]
  exact hr.fold_fiber_r5_a4 (ix4 a b c d) _ _ _

/-- The greater of a literal and an array, at an index. -/
theorem refTop_read (S : FVec Ideal S8x4x2x4096x4352 .f32) (i : S8x4x2x4096.Idx) :
    (refTop S : S8x4x2x4096.Idx → EReal) i
      = max (Ideal.ofBits .f32 0xFF800000#32) (Host.reduce (FloatOps.maximumf (F := Ideal) (φ := .f32)) S (constant S_ .f32 0xFF800000#32) reducesTo_S8x4x2x4096x4352_S8x4x2x4096_d4 h_S_ i) := by
  unfold refTop
  exact maximumf_left _ _ i _ (by pointwise [])

/-- The largest score of a query. -/
theorem refTop_apply (S : FVec Ideal S8x4x2x4096x4352 .f32) (b : Fin 8) (h : Fin 4) (u : Fin 2) (n : Fin 4096) :
    (refTop S : S8x4x2x4096.Idx → EReal) (ix4 b h u n) = Attn.refTop (fun k => S (ix5 b h u n k)) := by
  unfold Attn.refTop
  rw [refTop_read]
  refine congrArg (fun z : EReal => max _ z) ?_
  exact hostMax S _ _ _ b h u n

/-- The exponential of a score less the largest. -/
theorem refExp_apply (S : FVec Ideal S8x4x2x4096x4352 .f32) (M : FVec Ideal S8x4x2x4096 .f32) (b : Fin 8) (h : Fin 4) (u : Fin 2) (n : Fin 4096) (k : Fin 4352) :
    refExp S M (ix5 b h u n k) = Ideal.exp (S (ix5 b h u n k) - M (ix4 b h u n)) := by
  pointwise [refExp]

/-- A softmax weight from the exponentials. -/
theorem refWeights_apply (E : FVec Ideal S8x4x2x4096x4352 .f32) (b : Fin 8) (h : Fin 4) (u : Fin 2) (n : Fin 4096) (k : Fin 4352) :
    refWeights E (ix5 b h u n k) = Ideal.div (E (ix5 b h u n k)) (∑ x, E (ix5 b h u n x)) := by
  pointwise [refWeights]

/-- A softmax weight from the scores. -/
theorem weight_apply (S : FVec Ideal S8x4x2x4096x4352 .f32) (b : Fin 8) (h : Fin 4) (u : Fin 2) (n : Fin 4096) (k : Fin 4352) :
    refWeights (refExp S (refTop S)) (ix5 b h u n k) = Attn.refWeight (fun k => S (ix5 b h u n k)) k := by
  rw [refWeights_apply]
  simp only [refExp_apply]
  rw [show (refTop S (ix4 b h u n) : EReal) = _ from refTop_apply S b h u n]
  unfold Attn.refWeight
  rfl

/-- The weight of the second softmax. -/
theorem refLam_apply (lp : FVec Ideal S1x4x64 .f32) :
    (refLam lp : S_.Idx → EReal) ix0 = Attn.lam (fun x => lp (ix3 0 0 x)) (fun x => lp (ix3 0 1 x)) (fun x => lp (ix3 0 2 x)) (fun x => lp (ix3 0 3 x)) := by
  pointwise [refLam]
  rfl

/-- The difference of the softmaxes against the values. -/
theorem refMix_apply (P : FVec Ideal S8x4x2x4096x4352 .f32) (vc : FVec Ideal S8x256x512 .f32) (vl : FVec Ideal S8x4096x512 .f32) (L : FVec Ideal S_ .f32) (b : Fin 8) (h : Fin 4) (n : Fin 4096) (d : Fin 128) :
    refMix P vc vl L (ix4 b n h d)
      = ∑ x : Fin 256, vc (ix3 b x ⟨h.val * 128 + d.val, by omega⟩) * (P (ix5 b h 0 n ⟨x.val, by omega⟩) - L ix0 * P (ix5 b h 1 n ⟨x.val, by omega⟩))
        + ∑ x : Fin 4096, vl (ix3 b x ⟨h.val * 128 + d.val, by omega⟩) * (P (ix5 b h 0 n ⟨256 + x.val, by omega⟩) - L ix0 * P (ix5 b h 1 n ⟨256 + x.val, by omega⟩)) := by
  pointwise [refMix]

/-- The heads' norm, weight and factor. -/
theorem refHead_apply (O : FVec Ideal S8x4096x4x128 .f32) (sw : FVec Ideal S1x128 .f32) (b : Fin 8) (n : Fin 4096) (j : Fin 512) :
    refHead O sw (ix3 b n j)
      = Attn.head (fun d => O (ix4 b n (⟨j.val / 128, by omega⟩ : Fin 4) d)) (fun d => sw (ix2 0 d)) (⟨j.val % 128, by omega⟩ : Fin 128) := by
  pointwise [refHead]
  rfl

/-- The reference's result at a batch, a token and a column. -/
theorem ref_value (m : (ℓ : Loc nD τ sig) → Buf (Elt Ideal) ℓ) (c : Dev nD)
    (q : FVec Ideal S8x4096x512 .f32) (kc : FVec Ideal S8x256x512 .f32) (kl : FVec Ideal S8x4096x512 .f32) (vc : FVec Ideal S8x256x512 .f32) (vl : FVec Ideal S8x4096x512 .f32) (lp : FVec Ideal S1x4x64 .f32) (sw : FVec Ideal S1x128 .f32)
    (h0 : m ((c : Thread nD τ).loc main_arg0) = q) (h1 : m ((c : Thread nD τ).loc main_arg1) = kc) (h2 : m ((c : Thread nD τ).loc main_arg2) = kl) (h3 : m ((c : Thread nD τ).loc main_arg3) = vc) (h4 : m ((c : Thread nD τ).loc main_arg4) = vl) (h5 : m ((c : Thread nD τ).loc main_arg5) = lp) (h6 : m ((c : Thread nD τ).loc main_arg6) = sw)
    (b : Fin 8) (n : Fin 4096) (j : Fin 512) :
    (Value.res_out0 m c : S8x4096x512.Idx → EReal) (ix3 b n j)
      = Attn.head (fun d => Attn.refMixed (fun k => refScores q kc kl (ix5 b (⟨j.val / 128, by omega⟩ : Fin 4) 0 n k))
            (fun k => refScores q kc kl (ix5 b (⟨j.val / 128, by omega⟩ : Fin 4) 1 n k))
            (fun x => vc (ix3 b x ⟨j.val / 128 * 128 + d.val, by omega⟩)) (fun x => vl (ix3 b x ⟨j.val / 128 * 128 + d.val, by omega⟩))
            (Attn.lam (fun x => lp (ix3 0 0 x)) (fun x => lp (ix3 0 1 x)) (fun x => lp (ix3 0 2 x)) (fun x => lp (ix3 0 3 x))))
          (fun d => sw (ix2 0 d)) (⟨j.val % 128, by omega⟩ : Fin 128) := by
  have e : (Value.res_out0 m c : S8x4096x512.Idx → EReal)
      = refHead (refMix (refWeights (refExp (refScores q kc kl) (refTop (refScores q kc kl)))) vc vl (refLam lp)) sw := by
    subst h0 h1 h2 h3 h4 h5 h6
    rfl
  rw [e]
  refine (refHead_apply _ sw b n j).trans ?_
  simp only [refMix_apply, weight_apply]
  rw [show (refLam lp ix0 : EReal) = _ from refLam_apply lp]
  rfl

end Cert.ReferenceIdeal.RefValue

end
-- ==== Proof.AttnMath.lean ====
/-
  The two forms of differential attention are equal when queries, keys, values and the weight are real numbers: the largest
  score cancels between the numerator and the denominator of each softmax, and a power of two of a score that carries
  `1 / log 2` is an exponential.
-/
module

public import proofs.«01_k».proof.Proof.AttnSpec

@[expose] public section

set_option maxRecDepth 16384

noncomputable section

open Idealize.ShloMosaic

namespace Cert.Attn

/-- A finite sum of reals, taken in the extended reals. -/
theorem coe_sum {ι : Type} (s : Finset ι) (f : ι → ℝ) : (∑ i ∈ s, ((f i : ℝ) : EReal)) = ((∑ i ∈ s, f i : ℝ) : EReal) := by
  classical
  induction s using Finset.induction with
  | empty => simp
  | insert a s h ih => rw [Finset.sum_insert h, Finset.sum_insert h, ih, EReal.coe_add]

/-- The literal for minus infinity. -/
theorem neg_inf : Ideal.ofBits .f32 0xFF800000#32 = (⊥ : EReal) := by
  simp [Ideal.ofBits, Ideal.ieee]

/-- The literal for an eighth. -/
theorem eighth : Ideal.ofBits .f32 0x3E000000#32 = ((1 / 8 : ℝ) : EReal) := by
  simp [Ideal.ofBits, Ideal.ieee, -EReal.coe_mul]; norm_num

/-- The literal for the weight's offset is some real number. -/
theorem offset_real : ∃ r : ℝ, Ideal.ofBits .f32 0x3E4CCCCD#32 = ((r : ℝ) : EReal) := by
  simp [Ideal.ofBits, Ideal.ieee, -EReal.coe_mul]

/-- The largest of finitely many real numbers, at least one, is a real number. -/
theorem fold_real {n : Nat} (f : Fin (n + 1) → ℝ) :
    ∃ r : ℝ, Finset.univ.fold max (⊥ : EReal) (fun i => ((f i : ℝ) : EReal)) = ((r : ℝ) : EReal) := by
  obtain ⟨i, _, h⟩ := Finset.exists_mem_eq_sup (Finset.univ : Finset (Fin (n + 1))) Finset.univ_nonempty
    (fun i => ((f i : ℝ) : EReal))
  exact ⟨f i, h⟩

/-- The largest score is real. -/
theorem top_real (a : Fin 256 → ℝ) (b : Fin 4096 → ℝ) :
    ∃ r : ℝ, top (fun k => ((a k : ℝ) : EReal)) (fun k => ((b k : ℝ) : EReal)) = ((r : ℝ) : EReal) := by
  obtain ⟨r, hr⟩ := fold_real a
  obtain ⟨s, hs⟩ := fold_real b
  refine ⟨max r s, ?_⟩
  rw [top, neg_inf, hr, hs]
  rcases le_total r s with h | h
  · rw [max_eq_right h, max_eq_right (EReal.coe_le_coe_iff.2 h)]
  · rw [max_eq_left h, max_eq_left (EReal.coe_le_coe_iff.2 h)]

/-- The largest of the reference's scores is real. -/
theorem refTop_real (a : Fin 4352 → ℝ) : ∃ r : ℝ, refTop (fun k => ((a k : ℝ) : EReal)) = ((r : ℝ) : EReal) := by
  obtain ⟨r, hr⟩ := fold_real a
  refine ⟨r, ?_⟩
  rw [refTop, neg_inf, hr, max_eq_right bot_le]

/-- A power of two of a score divided by `log 2`, less a shift, is the exponential of the score times a constant. -/
theorem two_pow (x m : ℝ) : Real.rpow 2 (x * (Real.log 2)⁻¹ - m) = Real.exp x * Real.exp (-(m * Real.log 2)) := by
  have h2 : Real.log 2 ≠ 0 := (Real.log_pos (by norm_num)).ne'
  show (2 : ℝ) ^ (x * (Real.log 2)⁻¹ - m) = _
  rw [Real.rpow_def_of_pos (by norm_num), ← Real.exp_add]
  congr 1
  field_simp
  ring

/-- A common factor of all exponentials cancels between the weighted sum and the sum. -/
theorem quotient {ι κ : Type} [Fintype ι] [Fintype κ] (a : ι → ℝ) (b : κ → ℝ) (v : ι → ℝ) (w : κ → ℝ) (c : ℝ) (hc : c ≠ 0) :
    (∑ k, Real.exp (a k) * c * v k + ∑ k, Real.exp (b k) * c * w k) * (1 / (∑ k, Real.exp (a k) * c + ∑ k, Real.exp (b k) * c))
      = (∑ k, Real.exp (a k) * v k + ∑ k, Real.exp (b k) * w k) / (∑ k, Real.exp (a k) + ∑ k, Real.exp (b k)) := by
  have hden : ∑ k, Real.exp (a k) * c + ∑ k, Real.exp (b k) * c = (∑ k, Real.exp (a k) + ∑ k, Real.exp (b k)) * c := by
    rw [← Finset.sum_mul, ← Finset.sum_mul, add_mul]
  have h1 : ∑ k, Real.exp (a k) * c * v k = (∑ k, Real.exp (a k) * v k) * c := by
    rw [Finset.sum_mul]; exact Finset.sum_congr rfl fun k _ => by ring
  have h2 : ∑ k, Real.exp (b k) * c * w k = (∑ k, Real.exp (b k) * w k) * c := by
    rw [Finset.sum_mul]; exact Finset.sum_congr rfl fun k _ => by ring
  rw [hden, h1, h2, ← add_mul, mul_one_div, mul_div_mul_right _ _ hc]

/-- The sum of the exponentials times a common positive factor is positive. -/
theorem total_pos {n m : Nat} (a : Fin (n + 1) → ℝ) (b : Fin m → ℝ) (c : ℝ) (hc : 0 < c) :
    0 < ∑ k, Real.exp (a k) * c + ∑ k, Real.exp (b k) * c :=
  add_pos_of_pos_of_nonneg (Finset.sum_pos (fun k _ => mul_pos (Real.exp_pos _) hc) Finset.univ_nonempty)
    (Finset.sum_nonneg fun k _ => (mul_pos (Real.exp_pos _) hc).le)

/-- The kernel's weighted values as a quotient of sums of exponentials of the scores. -/
theorem weighted_real (a : Fin 256 → ℝ) (b : Fin 4096 → ℝ) (vC : Fin 256 → ℝ) (vL : Fin 4096 → ℝ) :
    weighted (fun k => ((a k * (Real.log 2)⁻¹ : ℝ) : EReal)) (fun k => ((b k * (Real.log 2)⁻¹ : ℝ) : EReal))
        (fun k => ((vC k : ℝ) : EReal)) (fun k => ((vL k : ℝ) : EReal))
      = (((∑ k, Real.exp (a k) * vC k + ∑ k, Real.exp (b k) * vL k) / (∑ k, Real.exp (a k) + ∑ k, Real.exp (b k)) : ℝ) : EReal) := by
  obtain ⟨m, hm⟩ := top_real (fun k => a k * (Real.log 2)⁻¹) (fun k => b k * (Real.log 2)⁻¹)
  have hc : 0 < Real.exp (-(m * Real.log 2)) := Real.exp_pos _
  have hpos := total_pos a b _ hc
  unfold weighted
  rw [hm]
  simp only [← EReal.coe_sub, Ideal.exp2_coe, two_pow, ← EReal.coe_mul, coe_sum, ← EReal.coe_add]
  rw [Ideal.div_coe hpos.ne', ← EReal.coe_mul]
  exact congrArg _ (quotient a b vC vL _ hc.ne')

/-- A common factor cancels in one softmax weight. -/
theorem quotient_one {n : Nat} (a : Fin (n + 1) → ℝ) (k : Fin (n + 1)) (c : ℝ) (hc : c ≠ 0) :
    Real.exp (a k) * c * (1 / ∑ x, Real.exp (a x) * c) = Real.exp (a k) / ∑ x, Real.exp (a x) := by
  rw [← Finset.sum_mul, mul_one_div, mul_div_mul_right _ _ hc]

/-- The reference's softmax of real scores. -/
theorem refWeight_real (a : Fin 4352 → ℝ) (k : Fin 4352) :
    refWeight (fun k => ((a k : ℝ) : EReal)) k = ((Real.exp (a k) / ∑ x, Real.exp (a x) : ℝ) : EReal) := by
  obtain ⟨m, hm⟩ := refTop_real a
  have hc : 0 < Real.exp (-m) := Real.exp_pos _
  have hpos : 0 < ∑ x, Real.exp (a x) * Real.exp (-m) :=
    Finset.sum_pos (fun k _ => mul_pos (Real.exp_pos _) hc) Finset.univ_nonempty
  have e : ∀ x, Real.exp (a x - m) = Real.exp (a x) * Real.exp (-m) := fun x => by rw [sub_eq_add_neg, Real.exp_add]
  unfold refWeight
  rw [hm]
  simp only [← EReal.coe_sub, Ideal.exp_coe, e, coe_sum]
  rw [Ideal.div_coe hpos.ne', ← EReal.coe_mul]
  exact congrArg _ (quotient_one a k _ hc.ne')

/-- The lower half's score of real vectors. -/
theorem scoreLo_real (q k : Fin 128 → ℝ) :
    scoreLo (fun l => ((q l : ℝ) : EReal)) (fun l => ((k l : ℝ) : EReal))
      = (((∑ x : Fin 64, q ⟨x.val, by omega⟩ * k ⟨x.val, by omega⟩) * (1 / 8) * (Real.log 2)⁻¹ : ℝ) : EReal) := by
  have e : ∀ l : Fin 128, (if l.val < 64 then ((q l : ℝ) : EReal) * qkScale * ((k l : ℝ) : EReal) else 0)
      = ((if l.val < 64 then q l * ((1 / 8) * (Real.log 2)⁻¹) * k l else 0 : ℝ) : EReal) := fun l => by
    split_ifs <;> simp [qkScale]
  rw [scoreLo, Finset.sum_congr rfl fun l _ => e l, coe_sum]
  refine congrArg _ ?_
  refine (Fin.sum_univ_add (a := 64) (b := 64) (fun l : Fin 128 => if l.val < 64 then q l * ((1 / 8) * (Real.log 2)⁻¹) * k l else 0)).trans ?_
  simp only [Fin.val_castAdd, Fin.val_natAdd, Fin.is_lt, if_true, Nat.not_lt.2 (Nat.le_add_right 64 _), if_false,
    Finset.sum_const_zero, add_zero]
  rw [mul_assoc, Finset.sum_mul]
  exact Finset.sum_congr rfl fun x _ => by
    show q ⟨x.val, _⟩ * _ * k ⟨x.val, _⟩ = _
    ring

/-- The upper half's score of real vectors. -/
theorem scoreHi_real (q k : Fin 128 → ℝ) :
    scoreHi (fun l => ((q l : ℝ) : EReal)) (fun l => ((k l : ℝ) : EReal))
      = (((∑ x : Fin 64, q ⟨64 + x.val, by omega⟩ * k ⟨64 + x.val, by omega⟩) * (1 / 8) * (Real.log 2)⁻¹ : ℝ) : EReal) := by
  have e : ∀ l : Fin 128, (if 64 ≤ l.val then ((q l : ℝ) : EReal) * qkScale * ((k l : ℝ) : EReal) else 0)
      = ((if 64 ≤ l.val then q l * ((1 / 8) * (Real.log 2)⁻¹) * k l else 0 : ℝ) : EReal) := fun l => by
    split_ifs <;> simp [qkScale]
  rw [scoreHi, Finset.sum_congr rfl fun l _ => e l, coe_sum]
  refine congrArg _ ?_
  refine (Fin.sum_univ_add (a := 64) (b := 64) (fun l : Fin 128 => if 64 ≤ l.val then q l * ((1 / 8) * (Real.log 2)⁻¹) * k l else 0)).trans ?_
  simp only [Fin.val_castAdd, Fin.val_natAdd, Nat.le_add_right, if_true, Nat.not_le.2 (Fin.is_lt _), if_false,
    Finset.sum_const_zero, zero_add]
  rw [mul_assoc, Finset.sum_mul]
  exact Finset.sum_congr rfl fun x _ => by
    show q ⟨64 + x.val, _⟩ * _ * k ⟨64 + x.val, _⟩ = _
    ring

/-- The reference's score of real vectors. -/
theorem refScore_real (u : Fin 2) (q k : Fin 128 → ℝ) :
    refScore u (fun l => ((q l : ℝ) : EReal)) (fun l => ((k l : ℝ) : EReal))
      = (((∑ x : Fin 64, q ⟨u.val * 64 + x.val, by omega⟩ * k ⟨u.val * 64 + x.val, by omega⟩) * (1 / 8) : ℝ) : EReal) := by
  unfold refScore
  simp only [eighth, ← EReal.coe_mul, coe_sum]

/-- The weight of the second softmax is real when its parameters are. -/
theorem lam_real (l0 l1 l2 l3 : Fin 64 → ℝ) :
    ∃ r : ℝ, lam (fun x => ((l0 x : ℝ) : EReal)) (fun x => ((l1 x : ℝ) : EReal)) (fun x => ((l2 x : ℝ) : EReal))
      (fun x => ((l3 x : ℝ) : EReal)) = ((r : ℝ) : EReal) := by
  obtain ⟨o, ho⟩ := offset_real
  refine ⟨Real.exp (∑ x, l0 x * l1 x) - Real.exp (∑ x, l2 x * l3 x) + o, ?_⟩
  unfold lam
  simp only [ho, ← EReal.coe_mul, coe_sum, Ideal.exp_coe, ← EReal.coe_sub, ← EReal.coe_add]

/-- The reference's difference of attentions for real scores `a` and `b`, each split into context and latent keys. -/
theorem refMixed_real (a b : Fin 4352 → ℝ) (vC : Fin 256 → ℝ) (vL : Fin 4096 → ℝ) (w : ℝ) :
    refMixed (fun k => ((a k : ℝ) : EReal)) (fun k => ((b k : ℝ) : EReal)) (fun k => ((vC k : ℝ) : EReal))
        (fun k => ((vL k : ℝ) : EReal)) ((w : ℝ) : EReal)
      = (((∑ k : Fin 256, Real.exp (a ⟨k.val, by omega⟩) * vC k + ∑ k : Fin 4096, Real.exp (a ⟨256 + k.val, by omega⟩) * vL k)
            / (∑ k : Fin 256, Real.exp (a ⟨k.val, by omega⟩) + ∑ k : Fin 4096, Real.exp (a ⟨256 + k.val, by omega⟩))
          - w * ((∑ k : Fin 256, Real.exp (b ⟨k.val, by omega⟩) * vC k + ∑ k : Fin 4096, Real.exp (b ⟨256 + k.val, by omega⟩) * vL k)
            / (∑ k : Fin 256, Real.exp (b ⟨k.val, by omega⟩) + ∑ k : Fin 4096, Real.exp (b ⟨256 + k.val, by omega⟩))) : ℝ) : EReal) := by
  have split : ∀ f : Fin 4352 → ℝ, ∑ x, f x = ∑ k : Fin 256, f ⟨k.val, by omega⟩ + ∑ k : Fin 4096, f ⟨256 + k.val, by omega⟩ :=
    fun f => Fin.sum_univ_add (a := 256) (b := 4096) f
  unfold refMixed
  simp only [refWeight_real, ← EReal.coe_mul, coe_sum, ← EReal.coe_sub, ← EReal.coe_add]
  refine congrArg _ ?_
  rw [split (fun x => Real.exp (a x)), split (fun x => Real.exp (b x))]
  generalize (∑ k : Fin 256, Real.exp (a ⟨k.val, by omega⟩) + ∑ k : Fin 4096, Real.exp (a ⟨256 + k.val, by omega⟩)) = A
  generalize (∑ k : Fin 256, Real.exp (b ⟨k.val, by omega⟩) + ∑ k : Fin 4096, Real.exp (b ⟨256 + k.val, by omega⟩)) = B
  have l : ∀ {n : Nat} (v e f : Fin n → ℝ), ∑ x, v x * (e x / A - w * (f x / B))
      = (∑ x, e x * v x) / A - w * ((∑ x, f x * v x) / B) := fun v e f => by
    rw [Finset.sum_div, Finset.sum_div, Finset.mul_sum, ← Finset.sum_sub_distrib]
    exact Finset.sum_congr rfl fun x _ => by ring
  rw [l vC (fun k => Real.exp (a ⟨k.val, by omega⟩)) (fun k => Real.exp (b ⟨k.val, by omega⟩)),
    l vL (fun k => Real.exp (a ⟨256 + k.val, by omega⟩)) (fun k => Real.exp (b ⟨256 + k.val, by omega⟩))]
  ring

/-- The reference's value is the kernel's, for real queries, keys, values and weight. -/
theorem refMixed_eq (q : Fin 128 → ℝ) (kC : Fin 256 → Fin 128 → ℝ) (kL : Fin 4096 → Fin 128 → ℝ) (vC : Fin 256 → ℝ)
    (vL : Fin 4096 → ℝ) (w : ℝ) (s : Fin 2 → Fin 4352 → EReal)
    (hC : ∀ (u : Fin 2) (k : Fin 256), s u ⟨k.val, by omega⟩ = refScore u (fun l => ((q l : ℝ) : EReal)) (fun l => ((kC k l : ℝ) : EReal)))
    (hL : ∀ (u : Fin 2) (k : Fin 4096), s u ⟨256 + k.val, by omega⟩ = refScore u (fun l => ((q l : ℝ) : EReal)) (fun l => ((kL k l : ℝ) : EReal))) :
    refMixed (s 0) (s 1) (fun k => ((vC k : ℝ) : EReal)) (fun k => ((vL k : ℝ) : EReal)) ((w : ℝ) : EReal)
      = mixed (fun l => ((q l : ℝ) : EReal)) (fun k l => ((kC k l : ℝ) : EReal)) (fun k l => ((kL k l : ℝ) : EReal))
          (fun k => ((vC k : ℝ) : EReal)) (fun k => ((vL k : ℝ) : EReal)) ((w : ℝ) : EReal) := by
  have hreal : ∀ u k, ∃ r : ℝ, s u k = ((r : ℝ) : EReal) := fun u k => by
    rcases Nat.lt_or_ge k.val 256 with h | h
    · exact ⟨_, (hC u ⟨k.val, h⟩).trans (refScore_real _ _ _)⟩
    · refine ⟨_, Eq.trans ?_ ((hL u ⟨k.val - 256, by omega⟩).trans (refScore_real _ _ _))⟩
      congr 1
      exact Fin.ext (by show k.val = 256 + (k.val - 256); omega)
  choose a ha using hreal
  have eC : ∀ u (k : Fin 256), a u ⟨k.val, by omega⟩
      = (∑ x : Fin 64, q ⟨u.val * 64 + x.val, by omega⟩ * kC k ⟨u.val * 64 + x.val, by omega⟩) * (1 / 8) := fun u k =>
    EReal.coe_eq_coe_iff.1 ((ha u _).symm.trans ((hC u k).trans (refScore_real _ _ _)))
  have eL : ∀ u (k : Fin 4096), a u ⟨256 + k.val, by omega⟩
      = (∑ x : Fin 64, q ⟨u.val * 64 + x.val, by omega⟩ * kL k ⟨u.val * 64 + x.val, by omega⟩) * (1 / 8) := fun u k =>
    EReal.coe_eq_coe_iff.1 ((ha u _).symm.trans ((hL u k).trans (refScore_real _ _ _)))
  have h0 : s 0 = fun k => ((a 0 k : ℝ) : EReal) := funext fun k => ha 0 k
  have h1 : s 1 = fun k => ((a 1 k : ℝ) : EReal) := funext fun k => ha 1 k
  rw [h0, h1, refMixed_real]
  unfold mixed
  simp only [scoreLo_real, scoreHi_real]
  rw [weighted_real, weighted_real, ← EReal.coe_mul, ← EReal.coe_sub]
  refine congrArg _ ?_
  simp only [eC, eL]
  simp

end Cert.Attn

end
-- ==== Proof.AttnPre.lean ====
/-
  The precondition read: every entry of the six arrays it names is a real number.
-/
module

public import proofs.«01_k».proof.Defs
public import Idealize.ShloMosaic.Lib.ReduceAll
public import Idealize.ShloMosaic.Lib.Pointwise

@[expose] public section

set_option maxRecDepth 16384

noncomputable section

open Idealize.ShloMosaic Idealize.ShloMosaic.TcCoe Idealize.SL.Sem

namespace Cert.Pre_finite

/-- The shape relations that the precondition's operations take. -/
instance facts : Facts where
  bcast_S_S8x4096x512 := by decide
  reducesTo_S8x4096x512_S_d0_1_2 := by decide
  h_S_ := by decide
  bcast_S_S8x256x512 := by decide
  reducesTo_S8x256x512_S_d0_1_2 := by decide
  bcast_S_S1x4x64 := by decide
  reducesTo_S1x4x64_S_d0_1_2 := by decide

/-- The literal for infinity. -/
theorem inf : Ideal.ofBits .f32 0x7F800000#32 = (⊤ : EReal) := by
  simp [Ideal.ofBits, Ideal.ieee]

/-- A number whose absolute value lies below infinity is real. -/
theorem real_of_abs (x : EReal) (h : Ideal.cmp .olt (max x (-x)) (⊤ : EReal) = 1#1) : ∃ r : ℝ, x = (r : EReal) := by
  induction x with
  | bot => simp [Ideal.cmp] at h
  | top => simp [Ideal.cmp] at h
  | coe r => exact ⟨r, rfl⟩

/-- One array's part of the precondition: every entry is real. -/
theorem real_of_all {s : Shape} (x : FVec Ideal s .f32) (hb : S_.BroadcastsInDim s (![] : Fin 0 → Fin s.rank))
    {dims : List (Fin s.rank)} (hr : s.ReducesTo dims S_) (hu : 0 < S_.numel)
    (h : Host.reduce IntOp.andi (cmpf .olt (Host.absf x) (broadcastInDim s ![] hb (constant S_ .f32 0x7F800000#32))) (constantI S_ 1 1#1) hr hu ix0 = 1#1)
    (i : s.Idx) : ∃ r : ℝ, (x i : EReal) = (r : EReal) := by
  have h1 := Host.reduce_andi_all _ _ hr hu ix0 h i
  refine real_of_abs _ ?_
  rw [← inf, ← Ideal.absf_def (φ := .f32)]
  refine Eq.trans ?_ h1
  pointwise []

/-- The conjunction of two bits is one when both are. -/
theorem both (a b : IVec S_ 1) (h : andi a b ix0 = 1#1) : a ix0 = 1#1 ∧ b ix0 = 1#1 :=
  IntOp.andi_eq_one.1 h

/-- The precondition gives that queries, keys, values and the weight's vectors are real. -/
theorem real (q : FVec Ideal S8x4096x512 .f32) (kc : FVec Ideal S8x256x512 .f32) (kl : FVec Ideal S8x4096x512 .f32)
    (vc : FVec Ideal S8x256x512 .f32) (vl : FVec Ideal S8x4096x512 .f32) (lp : FVec Ideal S1x4x64 .f32) (sw : FVec Ideal S1x128 .f32)
    (h : fn (F := Ideal) q kc kl vc vl lp sw = fun _ => 1#1) :
    (∀ i, ∃ r : ℝ, (q i : EReal) = (r : EReal)) ∧ (∀ i, ∃ r : ℝ, (kc i : EReal) = (r : EReal)) ∧ (∀ i, ∃ r : ℝ, (kl i : EReal) = (r : EReal))
      ∧ (∀ i, ∃ r : ℝ, (vc i : EReal) = (r : EReal)) ∧ (∀ i, ∃ r : ℝ, (vl i : EReal) = (r : EReal)) ∧ (∀ i, ∃ r : ℝ, (lp i : EReal) = (r : EReal)) := by
  have h0 := congrFun h ix0
  unfold fn fn_part1 at h0
  obtain ⟨h0, e5⟩ := both _ _ h0
  obtain ⟨h0, e4⟩ := both _ _ h0
  obtain ⟨h0, e3⟩ := both _ _ h0
  obtain ⟨h0, e2⟩ := both _ _ h0
  obtain ⟨e0, e1⟩ := both _ _ h0
  exact ⟨real_of_all q _ _ _ e0, real_of_all kc _ _ _ e1, real_of_all kl _ _ _ e2, real_of_all vc _ _ _ e3, real_of_all vl _ _ _ e4,
    real_of_all lp _ _ _ e5⟩

end Cert.Pre_finite

end
-- ==== Proof.AttnClaim.lean ====
/-
  The attention call and its reference compute the same array when queries, keys, values and the weight's vectors are real.
-/
module

public import proofs.«01_k».proof.Proof.AttnArray
public import proofs.«01_k».proof.Proof.Gen.KernelIdeal.Value
public import proofs.«01_k».proof.Proof.AttnRef
public import proofs.«01_k».proof.Proof.AttnMath
public import proofs.«01_k».proof.Proof.AttnPre

@[expose] public section

set_option maxRecDepth 16384

noncomputable section

open Idealize.ShloMosaic Idealize.ShloMosaic.TcCoe Idealize.SL.Sem

namespace Cert

/-- One element: the kernel's form of the attention over a head equals the reference's. -/
theorem attn_eq (q : FVec Ideal KernelIdeal.S8x4096x512 .f32) (kc : FVec Ideal KernelIdeal.S8x256x512 .f32) (kl : FVec Ideal KernelIdeal.S8x4096x512 .f32)
    (vc : FVec Ideal KernelIdeal.S8x256x512 .f32) (vl : FVec Ideal KernelIdeal.S8x4096x512 .f32) (lp : FVec Ideal KernelIdeal.S1x4x64 .f32)
    (hq : ∀ i, ∃ r : ℝ, (q i : EReal) = (r : EReal)) (hkc : ∀ i, ∃ r : ℝ, (kc i : EReal) = (r : EReal)) (hkl : ∀ i, ∃ r : ℝ, (kl i : EReal) = (r : EReal))
    (hvc : ∀ i, ∃ r : ℝ, (vc i : EReal) = (r : EReal)) (hvl : ∀ i, ∃ r : ℝ, (vl i : EReal) = (r : EReal)) (hlp : ∀ i, ∃ r : ℝ, (lp i : EReal) = (r : EReal))
    (b : Fin 8) (n : Fin 4096) (h : Fin 4) (d : Fin 128) :
    Attn.refMixed (fun k => ReferenceIdeal.RefValue.refScores q kc kl (ix5 b h 0 n k)) (fun k => ReferenceIdeal.RefValue.refScores q kc kl (ix5 b h 1 n k))
        (fun x => vc (ix3 b x ⟨h.val * 128 + d.val, by omega⟩)) (fun x => vl (ix3 b x ⟨h.val * 128 + d.val, by omega⟩))
        (Attn.lam (fun x => lp (ix3 0 0 x)) (fun x => lp (ix3 0 1 x)) (fun x => lp (ix3 0 2 x)) (fun x => lp (ix3 0 3 x)))
      = Attn.mixed (fun l => q (ix3 b n ⟨h.val * 128 + l.val, by omega⟩)) (fun k l => kc (ix3 b k ⟨h.val * 128 + l.val, by omega⟩))
        (fun k l => kl (ix3 b k ⟨h.val * 128 + l.val, by omega⟩)) (fun k => vc (ix3 b k ⟨h.val * 128 + d.val, by omega⟩))
        (fun k => vl (ix3 b k ⟨h.val * 128 + d.val, by omega⟩))
        (Attn.lam (fun x => lp (ix3 0 0 x)) (fun x => lp (ix3 0 1 x)) (fun x => lp (ix3 0 2 x)) (fun x => lp (ix3 0 3 x))) := by
  choose q' hq using hq
  choose kc' hkc using hkc
  choose kl' hkl using hkl
  choose vc' hvc using hvc
  choose vl' hvl using hvl
  choose lp' hlp using hlp
  obtain ⟨w, hw⟩ := Attn.lam_real (fun x => lp' (ix3 0 0 x)) (fun x => lp' (ix3 0 1 x)) (fun x => lp' (ix3 0 2 x)) (fun x => lp' (ix3 0 3 x))
  have hC := fun (u : Fin 2) (k : Fin 256) => ReferenceIdeal.RefValue.scores_ctx q kc kl b h u n k
  have hL := fun (u : Fin 2) (k : Fin 4096) => ReferenceIdeal.RefValue.scores_lat q kc kl b h u n k
  simp only [hq, hkc, hkl] at hC hL
  simp only [hq, hkc, hkl, hvc, hvl, hlp]
  rw [hw]
  exact Attn.refMixed_eq (fun l => q' (ix3 b n ⟨h.val * 128 + l.val, by omega⟩)) (fun k l => kc' (ix3 b k ⟨h.val * 128 + l.val, by omega⟩))
    (fun k l => kl' (ix3 b k ⟨h.val * 128 + l.val, by omega⟩)) (fun k => vc' (ix3 b k ⟨h.val * 128 + d.val, by omega⟩))
    (fun k => vl' (ix3 b k ⟨h.val * 128 + d.val, by omega⟩)) w (fun u k => ReferenceIdeal.RefValue.refScores q kc kl (ix5 b h u n k)) hC hL

/-- From equal arguments with real entries the attention call leaves the array its reference leaves. -/
theorem algebraic1 : algebraic_KernelIdeal_ReferenceIdeal_pre_finite := by
  intro m ρ m' ρ' hpre hagree
  refine ⟨fun c => (KernelIdeal.Gen.dats m 0 c).arrAt 7 (KernelIdeal.cfgs 0).N, KernelIdeal.Value.run_blocks m ρ, ?_⟩
  refine (θ_run _ _ _).mono (fun r h c => ⟨(h c).1.trans ?_, (h c).2⟩) (ReferenceIdeal.Value.run m' ρ')
  obtain ⟨h0, h1, h2, h3, h4, h5, h6⟩ := hagree c
  obtain ⟨r0, r1, r2, r3, r4, r5⟩ := Pre_finite.real _ _ _ _ _ _ _ (hpre c)
  refine Eq.trans ?_ (KernelIdeal.Block.final m c).symm
  funext i
  obtain ⟨b, n, j, rfl⟩ : ∃ (b : Fin 8) (n : Fin 4096) (j : Fin 512), i = ix3 b n j := ⟨i 0, i 1, i 2, eq_ix3 i⟩
  refine (ReferenceIdeal.RefValue.ref_value m' c _ _ _ _ _ _ _ h0 h1 h2 h3 h4 h5 h6 b n j).trans ?_
  unfold KernelIdeal.Block.G
  simp only [attn_eq _ _ _ _ _ _ r0 r1 r2 r3 r4 r5]
  rfl

end Cert

end
-- ==== Proof.FfnSpec.lean ====
/-
  The feed-forward half step of the layer, written for ONE token: what a row of the latent array becomes. Every
  program of the layer that holds a feed-forward step (kernel or reference) is read down to these functions.
-/
module

public import Idealize.ShloMosaic.Lib.Pointwise
public import Idealize.ShloMosaic.Lib.Pipeline.ValueKit

@[expose] public section

noncomputable section

open Idealize.ShloMosaic
open scoped BigOperators

namespace Cert.Ffn

/-- The reciprocal root of a row's mean square (plus the small constant of the norm). -/
def rmsScale (x : Fin 1024 → EReal) : EReal :=
  Ideal.rsqrt (Ideal.div (∑ k, x k * x k) (Ideal.ofBits .f32 0x44800000#32) + Ideal.ofBits .f32 0x358637BD#32)

/-- The row normed, weighted by `w`, scaled by `1 + s` and shifted by `h`. -/
def normed (x w s h : Fin 1024 → EReal) (k : Fin 1024) : EReal :=
  x k * rmsScale x * w k * (1 + s k) + h k

/-- One hidden unit's product of a row with a weight column. -/
def up (y : Fin 1024 → EReal) (w : Fin 1024 → Fin 2816 → EReal) (f : Fin 2816) : EReal := ∑ k, y k * w k f

/-- `a · sigmoid(a)`. -/
def silu (a : EReal) : EReal :=
  a * Ideal.div (1) (1 + Ideal.exp (-a))

/-- The half step: the row plus half its gate times the gated feed-forward product. -/
def step (x w s h g : Fin 1024 → EReal) (w1 w3 : Fin 1024 → Fin 2816 → EReal) (w2 : Fin 2816 → Fin 1024 → EReal)
    (j : Fin 1024) : EReal :=
  x j + Ideal.ofBits .f32 0x3F000000#32 * g j *
    ∑ f, silu (up (normed x w s h) w1 f) * up (normed x w s h) w3 f * w2 f j

/-- A row's root-mean-square norm with weight `w`. -/
def rms (x w : Fin 1024 → EReal) (j : Fin 1024) : EReal := x j * rmsScale x * w j

/-- The row after the mixer's output product `y` is added to it under the mixer's gate. -/
def mixed (x g y : Fin 1024 → EReal) (j : Fin 1024) : EReal := x j + g j * y j

end Cert.Ffn

end
-- ==== Proof.Ffn2Block.lean ====
/-
  The feed-forward call that adds the projected attention output first and takes the model's last norm: what its body
  stores, row by row.
-/
module

public import proofs.«01_k».proof.Proof.FfnSpec
public import proofs.«01_k».proof.Proof.Gen.Kernel2Ideal.Frame

@[expose] public section

set_option maxRecDepth 16384

noncomputable section

open Idealize.ShloMosaic Idealize.ShloMosaic.TcCoe Idealize.SL.Sem

namespace Cert.Kernel2Ideal.Block

open Cert.Kernel2Ideal Cert.Kernel2Ideal.Gen

/-- The block that the body stores at a grid point, read at a row and a column: the last norm of the half step of the row to
    which the projected attention output has been added. -/
theorem block_value (x0 : FVec Ideal S1x512x1024 .f32) (x1 : FVec Ideal S1x9x1024 .f32) (x2 : FVec Ideal S3x1024 .f32)
    (x3 x4 : FVec Ideal S1x1x1024x2816 .bf16) (x5 : FVec Ideal S1x1x2816x1024 .bf16) (x6 : FVec Ideal S1x512x1024 .bf16)
    (x7 : FVec Ideal S1024x1024 .bf16) (x8 : FVec Ideal S1x1024 .f32) (r : Fin 512) (j : Fin 1024) :
    (out0_9 (F := Ideal) x0 x1 x2 x3 x4 x5 x6 x7 x8 : S1x512x1024.Idx → EReal) (ix3 0 r j)
      = Ffn.rms (Ffn.step (Ffn.mixed (fun k => x0 (ix3 0 r k)) (fun k => x1 (ix3 0 5 k))
            (fun k => ∑ q : Fin 1024, x6 (ix3 0 r q) * x7 (ix2 q k)))
          (fun k => x2 (ix2 2 k)) (fun k => x1 (ix3 0 7 k)) (fun k => x1 (ix3 0 6 k))
          (fun k => x1 (ix3 0 8 k)) (fun k f => x3 (ix4 0 0 k f)) (fun k f => x4 (ix4 0 0 k f))
          (fun f k => x5 (ix4 0 0 f k))) (fun k => x8 (ix2 0 k)) j := by
  unfold_out out0_9
  frame_out
  pointwise [k0_pay1, k0_pay2, k0_pay3, k0_pay4, k0_pay5, k0_pay6, k0_pay7, k0_pay8, k0_pay9]
  simp only [zero_sub]
  rfl

end Cert.Kernel2Ideal.Block

end
-- ==== Proof.Ffn2Array.lean ====
/-
  The last feed-forward call: what its result array holds after the run, as one function of the arguments.
-/
module

public import proofs.«01_k».proof.Proof.Ffn2Block

@[expose] public section

set_option maxRecDepth 16384

noncomputable section

open Idealize.ShloMosaic Idealize.ShloMosaic.TcCoe Idealize.SL.Sem
open Idealize.ShloMosaic.Pipeline (Dat)

namespace Cert.Kernel2Ideal.Block

open Cert.Kernel2Ideal Cert.Kernel2Ideal.Gen

variable (m : (ℓ : Loc nD τ sig) → Buf (Elt Ideal) ℓ)

/-- Where each window's block lies at a grid point. -/
theorem idx : ∀ t : Fin cfg0.N, win0_0.index t = ![(grid0.coords t 0).val, (grid0.coords t 1).val, 0]
    ∧ win0_1.index t = ![(grid0.coords t 0).val, 0, 0]
    ∧ win0_2.index t = ![0, 0]
    ∧ win0_3.index t = ![1, 1, 0, 0]
    ∧ win0_4.index t = ![1, 1, 0, 0]
    ∧ win0_5.index t = ![1, 1, 0, 0]
    ∧ win0_6.index t = ![(grid0.coords t 0).val, (grid0.coords t 1).val, 0]
    ∧ win0_7.index t = ![0, 0]
    ∧ win0_8.index t = ![0, 0]
    ∧ win0_9.index t = ![(grid0.coords t 0).val, (grid0.coords t 1).val, 0] :=
  (by decide +kernel : ∀ t : Fin grid0.N, _)

/-- The result as one function of the arguments, token by token. -/
def G (x : FVec Ideal S8x4096x1024 .f32) (md : FVec Ideal S9x9x1024 .f32) (nw : FVec Ideal S2x3x1024 .f32)
    (w1 w3 : FVec Ideal S2x2x1024x2816 .f32) (w2 : FVec Ideal S2x2x2816x1024 .f32) (o : FVec Ideal S8x4096x1024 .f32) (wo : FVec Ideal S1x1024x1024 .f32) (fw : FVec Ideal S1024 .f32)
    (b : Fin 8) (i : Fin 4096) (j : Fin 1024) : EReal :=
  Ffn.rms (Ffn.step (Ffn.mixed (fun k => x (ix3 b i k)) (fun k => md (ix3 (⟨b.val, by omega⟩ : Fin 9) 5 k))
      (fun k => ∑ q : Fin 1024, o (ix3 b i q) * wo (ix3 0 q k)))
    (fun k => nw (ix3 1 2 k)) (fun k => md (ix3 (⟨b.val, by omega⟩ : Fin 9) 7 k)) (fun k => md (ix3 (⟨b.val, by omega⟩ : Fin 9) 6 k)) (fun k => md (ix3 (⟨b.val, by omega⟩ : Fin 9) 8 k))
    (fun k f => w1 (ix4 1 1 k f)) (fun k f => w3 (ix4 1 1 k f)) (fun f k => w2 (ix4 1 1 f k)))
    (fun k => fw (ix1 k)) j

/-- After the run the result array holds `G` of the arguments. -/
theorem final (c : Dev nD) : (dats m 0 c).arrAt 9 (cfgs 0).N = (fun i : S8x4096x1024.Idx =>
    (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1) (i 2) : EReal)) := by
  refine (dats m 0 c).arrAt_eq_of_covers 9 _ (by decide +kernel) fun t _ y => ?_
  blk_simp
  rw [after0_9]
  obtain ⟨u, r, j, rfl⟩ : ∃ (u : Fin 1) (r : Fin 512) (j : Fin 1024), y = ix3 u r j := ⟨y 0, y 1, y 2, eq_ix3 y⟩
  obtain rfl : u = 0 := Subsingleton.elim _ _
  refine (block_value _ _ _ _ _ _ _ _ _ r j).trans ?_
  unfold G
  blk_point [iblk, V, idx t]

end Cert.Kernel2Ideal.Block

end
-- ==== Proof.Ffn2Ref.lean ====
/-
  The reference of the last feed-forward call: its printed term cut in stages, and what each stage computes row by row.
-/
module

public import proofs.«01_k».proof.Proof.FfnSpec
public import proofs.«01_k».proof.Proof.Gen.Reference2Ideal.Run

@[expose] public section

set_option maxRecDepth 16384

noncomputable section

open Idealize.ShloMosaic Idealize.ShloMosaic.TcCoe Idealize.SL.Sem

namespace Cert.Reference2Ideal.RefValue

open Cert.Reference2Ideal Cert.Reference2Ideal.Gen

/-- The rows with the projected mixer output added. -/
def refMixed (x : FVec Ideal S8x4096x1024 .f32) (md : FVec Ideal S9x9x1024 .f32) (o : FVec Ideal S8x4096x1024 .f32) (wo : FVec Ideal S1x1024x1024 .f32) : FVec Ideal S8x4096x1024 .f32 :=
  addf x (mulf (broadcastInDim S8x4096x1024 ![0, 1, 2] bcast_S8x1x1024_S8x4096x1024_0_1_2 (shapeCast _ (extractStridedSlice S8x1x1x1024 ![0, 5, 0, 0] (shapeCast _ (extractStridedSlice S8x9x1024 ![0, 0, 0] md slices_S9x9x1024_S8x9x1024_0_0_0) shapeCasts_S8x9x1024_S8x9x1x1024) slices_S8x9x1x1024_S8x1x1x1024_0_5_0_0) shapeCasts_S8x1x1x1024_S8x1x1024)) (Host.dotGeneral dot_S8x4096x1024_S1024x1024_S8x4096x1024_2_0_01_1_n_n none o (shapeCast _ wo shapeCasts_S1x1024x1024_S1024x1024)))

/-- The rows normed, scaled and shifted. -/
def refNormed (X : FVec Ideal S8x4096x1024 .f32) (md : FVec Ideal S9x9x1024 .f32) (nw : FVec Ideal S2x3x1024 .f32) : FVec Ideal S8x4096x1024 .f32 :=
  addf (mulf (mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1x1024 ![1, 2, 0] nw slices_S2x3x1024_S1x1x1024_1_2_0) shapeCasts_S1x1x1024_S1024)))) (broadcastInDim S8x4096x1024 ![0, 1, 2] bcast_S8x1x1024_S8x4096x1024_0_1_2 (addf (broadcastInDim S8x1x1024 ![] bcast_S_S8x1x1024 (constant S_ .f32 0x3F800000#32)) (shapeCast _ (extractStridedSlice S8x1x1x1024 ![0, 7, 0, 0] (shapeCast _ (extractStridedSlice S8x9x1024 ![0, 0, 0] md slices_S9x9x1024_S8x9x1024_0_0_0) shapeCasts_S8x9x1024_S8x9x1x1024) slices_S8x9x1x1024_S8x1x1x1024_0_7_0_0) shapeCasts_S8x1x1x1024_S8x1x1024)))) (broadcastInDim S8x4096x1024 ![0, 1, 2] bcast_S8x1x1024_S8x4096x1024_0_1_2 (shapeCast _ (extractStridedSlice S8x1x1x1024 ![0, 6, 0, 0] (shapeCast _ (extractStridedSlice S8x9x1024 ![0, 0, 0] md slices_S9x9x1024_S8x9x1024_0_0_0) shapeCasts_S8x9x1024_S8x9x1x1024) slices_S8x9x1x1024_S8x1x1x1024_0_6_0_0) shapeCasts_S8x1x1x1024_S8x1x1024))

/-- The rows after the half step. -/
def refStep (X : FVec Ideal S8x4096x1024 .f32) (N : FVec Ideal S8x4096x1024 .f32) (md : FVec Ideal S9x9x1024 .f32) (w1 : FVec Ideal S2x2x1024x2816 .f32) (w3 : FVec Ideal S2x2x1024x2816 .f32) (w2 : FVec Ideal S2x2x2816x1024 .f32) : FVec Ideal S8x4096x1024 .f32 :=
  addf X (mulf (broadcastInDim S8x4096x1024 ![0, 1, 2] bcast_S8x1x1024_S8x4096x1024_0_1_2 (mulf (broadcastInDim S8x1x1024 ![] bcast_S_S8x1x1024 (constant S_ .f32 0x3F000000#32)) (shapeCast _ (extractStridedSlice S8x1x1x1024 ![0, 8, 0, 0] (shapeCast _ (extractStridedSlice S8x9x1024 ![0, 0, 0] md slices_S9x9x1024_S8x9x1024_0_0_0) shapeCasts_S8x9x1024_S8x9x1x1024) slices_S8x9x1x1024_S8x1x1x1024_0_8_0_0) shapeCasts_S8x1x1x1024_S8x1x1024))) (Host.dotGeneral dot_S8x4096x2816_S2816x1024_S8x4096x1024_2_0_01_1_n_n none (mulf (mulf (Host.dotGeneral dot_S8x4096x1024_S1024x2816_S8x4096x2816_2_0_01_1_n_n none N (shapeCast _ (extractStridedSlice S1x1x1024x2816 ![1, 1, 0, 0] w1 slices_S2x2x1024x2816_S1x1x1024x2816_1_1_0_0) shapeCasts_S1x1x1024x2816_S1024x2816)) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (Host.dotGeneral dot_S8x4096x1024_S1024x2816_S8x4096x2816_2_0_01_1_n_n none N (shapeCast _ (extractStridedSlice S1x1x1024x2816 ![1, 1, 0, 0] w1 slices_S2x2x1024x2816_S1x1x1024x2816_1_1_0_0) shapeCasts_S1x1x1024x2816_S1024x2816))))))) (Host.dotGeneral dot_S8x4096x1024_S1024x2816_S8x4096x2816_2_0_01_1_n_n none N (shapeCast _ (extractStridedSlice S1x1x1024x2816 ![1, 1, 0, 0] w3 slices_S2x2x1024x2816_S1x1x1024x2816_1_1_0_0) shapeCasts_S1x1x1024x2816_S1024x2816))) (shapeCast _ (extractStridedSlice S1x1x2816x1024 ![1, 1, 0, 0] w2 slices_S2x2x2816x1024_S1x1x2816x1024_1_1_0_0) shapeCasts_S1x1x2816x1024_S2816x1024)))

/-- The model's last norm. -/
def refLast (Y : FVec Ideal S8x4096x1024 .f32) (fw : FVec Ideal S1024 .f32) : FVec Ideal S8x4096x1024 .f32 :=
  mulf (mulf Y (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf Y Y) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 fw))

theorem refMixed_apply (x : FVec Ideal S8x4096x1024 .f32) (md : FVec Ideal S9x9x1024 .f32) (o : FVec Ideal S8x4096x1024 .f32) (wo : FVec Ideal S1x1024x1024 .f32) (b : Fin 8) (i : Fin 4096) (k : Fin 1024) :
    refMixed x md o wo (ix3 b i k) = Ffn.mixed (fun k => x (ix3 b i k)) (fun k => md (ix3 (⟨b.val, by omega⟩ : Fin 9) 5 k)) (fun k => ∑ q : Fin 1024, o (ix3 b i q) * wo (ix3 0 q k)) k := by
  pointwise [refMixed]
  rfl

theorem refNormed_apply (X : FVec Ideal S8x4096x1024 .f32) (md : FVec Ideal S9x9x1024 .f32) (nw : FVec Ideal S2x3x1024 .f32) (b : Fin 8) (i : Fin 4096) (k : Fin 1024) :
    refNormed X md nw (ix3 b i k) = Ffn.normed (fun k => X (ix3 b i k)) (fun k => nw (ix3 1 2 k)) (fun k => md (ix3 (⟨b.val, by omega⟩ : Fin 9) 7 k)) (fun k => md (ix3 (⟨b.val, by omega⟩ : Fin 9) 6 k)) k := by
  pointwise [refNormed]
  rfl

theorem refStep_apply (X : FVec Ideal S8x4096x1024 .f32) (N : FVec Ideal S8x4096x1024 .f32) (md : FVec Ideal S9x9x1024 .f32) (w1 : FVec Ideal S2x2x1024x2816 .f32) (w3 : FVec Ideal S2x2x1024x2816 .f32) (w2 : FVec Ideal S2x2x2816x1024 .f32) (b : Fin 8) (i : Fin 4096) (j : Fin 1024) :
    refStep X N md w1 w3 w2 (ix3 b i j) = X (ix3 b i j) + Ideal.ofBits .f32 0x3F000000#32 * md (ix3 (⟨b.val, by omega⟩ : Fin 9) 8 j) *
      ∑ f, Ffn.silu (Ffn.up (fun k => N (ix3 b i k)) (fun k f => w1 (ix4 1 1 k f)) f) *
        Ffn.up (fun k => N (ix3 b i k)) (fun k f => w3 (ix4 1 1 k f)) f * w2 (ix4 1 1 f j) := by
  pointwise [refStep]
  rfl

theorem refLast_apply (Y : FVec Ideal S8x4096x1024 .f32) (fw : FVec Ideal S1024 .f32) (b : Fin 8) (i : Fin 4096) (j : Fin 1024) :
    refLast Y fw (ix3 b i j) = Ffn.rms (fun k => Y (ix3 b i k)) (fun k => fw (ix1 k)) j := by
  pointwise [refLast]
  rfl

/-- The half step of the mixed rows, read at a token and a column. -/
theorem refHalf_apply (x : FVec Ideal S8x4096x1024 .f32) (md : FVec Ideal S9x9x1024 .f32) (o : FVec Ideal S8x4096x1024 .f32) (wo : FVec Ideal S1x1024x1024 .f32) (nw : FVec Ideal S2x3x1024 .f32) (w1 : FVec Ideal S2x2x1024x2816 .f32) (w3 : FVec Ideal S2x2x1024x2816 .f32) (w2 : FVec Ideal S2x2x2816x1024 .f32) (b : Fin 8) (i : Fin 4096) (j : Fin 1024) :
    refStep (refMixed x md o wo) (refNormed (refMixed x md o wo) md nw) md w1 w3 w2 (ix3 b i j) = Ffn.step (Ffn.mixed (fun k => x (ix3 b i k)) (fun k => md (ix3 (⟨b.val, by omega⟩ : Fin 9) 5 k)) (fun k => ∑ q : Fin 1024, o (ix3 b i q) * wo (ix3 0 q k))) (fun k => nw (ix3 1 2 k)) (fun k => md (ix3 (⟨b.val, by omega⟩ : Fin 9) 7 k)) (fun k => md (ix3 (⟨b.val, by omega⟩ : Fin 9) 6 k)) (fun k => md (ix3 (⟨b.val, by omega⟩ : Fin 9) 8 k))
          (fun k f => w1 (ix4 1 1 k f)) (fun k f => w3 (ix4 1 1 k f)) (fun f k => w2 (ix4 1 1 f k)) j := by
  rw [refStep_apply]
  simp only [refNormed_apply, refMixed_apply]
  rfl

/-- The reference's result at a token and a column. -/
theorem ref_value (m : (ℓ : Loc nD τ sig) → Buf (Elt Ideal) ℓ) (c : Dev nD)
    (x : FVec Ideal S8x4096x1024 .f32) (md : FVec Ideal S9x9x1024 .f32) (nw : FVec Ideal S2x3x1024 .f32) (w1 : FVec Ideal S2x2x1024x2816 .f32) (w3 : FVec Ideal S2x2x1024x2816 .f32) (w2 : FVec Ideal S2x2x2816x1024 .f32) (o : FVec Ideal S8x4096x1024 .f32) (wo : FVec Ideal S1x1024x1024 .f32) (fw : FVec Ideal S1024 .f32)
    (h0 : m ((c : Thread nD τ).loc main_arg0) = x)
    (h1 : m ((c : Thread nD τ).loc main_arg1) = md)
    (h2 : m ((c : Thread nD τ).loc main_arg2) = nw)
    (h3 : m ((c : Thread nD τ).loc main_arg3) = w1)
    (h4 : m ((c : Thread nD τ).loc main_arg4) = w3)
    (h5 : m ((c : Thread nD τ).loc main_arg5) = w2)
    (h6 : m ((c : Thread nD τ).loc main_arg6) = o)
    (h7 : m ((c : Thread nD τ).loc main_arg7) = wo)
    (h8 : m ((c : Thread nD τ).loc main_arg8) = fw)
    (b : Fin 8) (i : Fin 4096) (j : Fin 1024) :
    (Value.res_out0 m c : S8x4096x1024.Idx → EReal) (ix3 b i j)
      = Ffn.rms (Ffn.step (Ffn.mixed (fun k => x (ix3 b i k)) (fun k => md (ix3 (⟨b.val, by omega⟩ : Fin 9) 5 k)) (fun k => ∑ q : Fin 1024, o (ix3 b i q) * wo (ix3 0 q k))) (fun k => nw (ix3 1 2 k)) (fun k => md (ix3 (⟨b.val, by omega⟩ : Fin 9) 7 k)) (fun k => md (ix3 (⟨b.val, by omega⟩ : Fin 9) 6 k)) (fun k => md (ix3 (⟨b.val, by omega⟩ : Fin 9) 8 k))
          (fun k f => w1 (ix4 1 1 k f)) (fun k f => w3 (ix4 1 1 k f)) (fun f k => w2 (ix4 1 1 f k))) (fun k => fw (ix1 k)) j := by
  have e : (Value.res_out0 m c : S8x4096x1024.Idx → EReal) = refLast (refStep (refMixed x md o wo) (refNormed (refMixed x md o wo) md nw) md w1 w3 w2) fw := by
    subst h0 h1 h2 h3 h4 h5 h6 h7 h8
    rfl
  rw [e]
  refine (refLast_apply _ fw b i j).trans ?_
  simp only [refHalf_apply]

end Cert.Reference2Ideal.RefValue

end
-- ==== Proof.Ffn2Claim.lean ====
/-
  The last feed-forward call equals its reference: both result arrays hold the last norm of the half step of every
  token's mixed row.
-/
module

public import proofs.«01_k».proof.Defs
public import proofs.«01_k».proof.Proof.Ffn2Array
public import proofs.«01_k».proof.Proof.Ffn2Ref
public import proofs.«01_k».proof.Proof.Gen.Kernel2Ideal.Value

@[expose] public section

noncomputable section

open Idealize.ShloMosaic Idealize.ShloMosaic.TcCoe Idealize.SL.Sem

namespace Cert.Proof

/-- The reference run leaves its arguments and its counters as they were. -/
theorem frame_ref2 : Cert.quiescent_Reference2Ideal := fun m ρ _ =>
  (θ_run _ _ _).mono (fun r h => ⟨fun c => (h c).2, sem_eq_zero_of_no_sems (by decide) r.2⟩) (Cert.Reference2Ideal.Value.run m ρ)

/-- From equal arguments the kernel's result array and the reference's hold the same numbers. -/
theorem algebraic2 : Cert.algebraic_Kernel2Ideal_Reference2Ideal := by
  intro m ρ m' ρ' _ hagree
  refine ⟨fun c => (Cert.Kernel2Ideal.Gen.dats m 0 c).arrAt 9 (Cert.Kernel2Ideal.cfgs 0).N, Cert.Kernel2Ideal.Value.run_blocks m ρ, ?_⟩
  refine (θ_run _ _ _).mono (fun r h c => ⟨(h c).1.trans ?_, (h c).2⟩) (Cert.Reference2Ideal.Value.run m' ρ')
  obtain ⟨h0, h1, h2, h3, h4, h5, h6, h7, h8⟩ := hagree c
  refine Eq.trans ?_ (Cert.Kernel2Ideal.Block.final m c).symm
  funext i
  obtain ⟨b, n, j, rfl⟩ : ∃ (b : Fin 8) (n : Fin 4096) (j : Fin 1024), i = ix3 b n j := ⟨i 0, i 1, i 2, eq_ix3 i⟩
  exact Cert.Reference2Ideal.RefValue.ref_value m' c _ _ _ _ _ _ _ _ _ h0 h1 h2 h3 h4 h5 h6 h7 h8 b n j

end Cert.Proof

end
-- ==== Proof.Ffn3Block.lean ====
/-
  The plain feed-forward call (first half step of a layer): what its body stores, row by row.
-/
module

public import proofs.«01_k».proof.Proof.FfnSpec
public import proofs.«01_k».proof.Proof.Gen.Kernel3Ideal.Frame

@[expose] public section

set_option maxRecDepth 16384

noncomputable section

open Idealize.ShloMosaic Idealize.ShloMosaic.TcCoe

namespace Cert.Kernel3Ideal.Block

open Cert.Kernel3Ideal Cert.Kernel3Ideal.Gen

/-- The block that the body stores at a grid point, read at a row and a column: the half step of that row, over the
    rows of the input blocks. -/
theorem block_value (x0 : FVec Ideal S1x512x1024 .f32) (x1 : FVec Ideal S1x9x1024 .f32) (x2 : FVec Ideal S3x1024 .f32)
    (x3 x4 : FVec Ideal S1x1x1024x2816 .bf16) (x5 : FVec Ideal S1x1x2816x1024 .bf16) (r : Fin 512) (j : Fin 1024) :
    (out0_6 (F := Ideal) x0 x1 x2 x3 x4 x5 : S1x512x1024.Idx → EReal) (ix3 0 r j)
      = Ffn.step (fun k => x0 (ix3 0 r k)) (fun k => x2 (ix2 0 k)) (fun k => x1 (ix3 0 1 k)) (fun k => x1 (ix3 0 0 k))
          (fun k => x1 (ix3 0 2 k)) (fun k f => x3 (ix4 0 0 k f)) (fun k f => x4 (ix4 0 0 k f))
          (fun f k => x5 (ix4 0 0 f k)) j := by
  unfold out0_6
  frame_out
  pointwise [k0_pay1, k0_pay2, k0_pay3, k0_pay4, k0_pay5]
  simp only [zero_sub]
  rfl

end Cert.Kernel3Ideal.Block

end
-- ==== Proof.Ffn3Array.lean ====
/-
  The plain feed-forward call: what its result array holds after the run, as one function of the arguments.
-/
module

public import proofs.«01_k».proof.Proof.Ffn3Block

@[expose] public section

set_option maxRecDepth 16384

noncomputable section

open Idealize.ShloMosaic Idealize.ShloMosaic.TcCoe Idealize.SL.Sem
open Idealize.ShloMosaic.Pipeline (Dat)

namespace Cert.Kernel3Ideal.Block

open Cert.Kernel3Ideal Cert.Kernel3Ideal.Gen

variable (m : (ℓ : Loc nD τ sig) → Buf (Elt Ideal) ℓ)

/-- Where each window's block lies at a grid point. -/
theorem idx : ∀ t : Fin cfg0.N, win0_0.index t = ![(grid0.coords t 0).val, (grid0.coords t 1).val, 0]
    ∧ win0_1.index t = ![(grid0.coords t 0).val, 0, 0] ∧ win0_2.index t = ![0, 0]
    ∧ win0_3.index t = ![0, 0, 0, 0] ∧ win0_4.index t = ![0, 0, 0, 0] ∧ win0_5.index t = ![0, 0, 0, 0]
    ∧ win0_6.index t = ![(grid0.coords t 0).val, (grid0.coords t 1).val, 0] :=
  (by decide +kernel : ∀ t : Fin grid0.N, _)

/-- The result as one function of the arguments: at each token the half step of its row. -/
def G (x : FVec Ideal S8x4096x1024 .f32) (md : FVec Ideal S9x9x1024 .f32) (nw : FVec Ideal S2x3x1024 .f32)
    (w1 w3 : FVec Ideal S2x2x1024x2816 .f32) (w2 : FVec Ideal S2x2x2816x1024 .f32) (b : Fin 8) (i : Fin 4096) (j : Fin 1024) : EReal :=
  Ffn.step (fun k => x (ix3 b i k)) (fun k => nw (ix3 0 0 k)) (fun k => md (ix3 (⟨b.val, by omega⟩ : Fin 9) 1 k))
    (fun k => md (ix3 (⟨b.val, by omega⟩ : Fin 9) 0 k)) (fun k => md (ix3 (⟨b.val, by omega⟩ : Fin 9) 2 k))
    (fun k f => w1 (ix4 0 0 k f)) (fun k f => w3 (ix4 0 0 k f)) (fun f k => w2 (ix4 0 0 f k)) j

/-- After the run the result array holds `G` of the arguments. -/
theorem final (c : Dev nD) : (dats m 0 c).arrAt 6 (cfgs 0).N = (fun i : S8x4096x1024.Idx =>
    (G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (i 0) (i 1) (i 2) : EReal)) := by
  refine (dats m 0 c).arrAt_eq_of_covers 6 _ (by decide +kernel) fun t _ y => ?_
  blk_simp
  rw [after0_6]
  obtain ⟨u, r, j, rfl⟩ : ∃ (u : Fin 1) (r : Fin 512) (j : Fin 1024), y = ix3 u r j := ⟨y 0, y 1, y 2, eq_ix3 y⟩
  obtain rfl : u = 0 := Subsingleton.elim _ _
  refine (block_value _ _ _ _ _ _ r j).trans ?_
  unfold G
  blk_point [iblk, V, idx t]

end Cert.Kernel3Ideal.Block

end
-- ==== Proof.Ffn3Ref.lean ====
/-
  The plain feed-forward reference: what it computes, row by row.
-/
module

public import proofs.«01_k».proof.Proof.FfnSpec
public import proofs.«01_k».proof.Proof.Gen.Reference3Ideal.Run

@[expose] public section

set_option maxRecDepth 16384

noncomputable section

open Idealize.ShloMosaic Idealize.ShloMosaic.TcCoe Idealize.SL.Sem

namespace Cert.Reference3Ideal.RefValue

open Cert.Reference3Ideal Cert.Reference3Ideal.Gen

/-- The reference's result at a token and a column: the half step of the token's row. -/
theorem ref_value (m : (ℓ : Loc nD τ sig) → Buf (Elt Ideal) ℓ) (c : Dev nD) (x : FVec Ideal S8x4096x1024 .f32)
    (md : FVec Ideal S9x9x1024 .f32) (nw : FVec Ideal S2x3x1024 .f32)
    (w1 w3 : FVec Ideal S2x2x1024x2816 .f32) (w2 : FVec Ideal S2x2x2816x1024 .f32)
    (h0 : m ((c : Thread nD τ).loc main_arg0) = x) (h1 : m ((c : Thread nD τ).loc main_arg1) = md)
    (h2 : m ((c : Thread nD τ).loc main_arg2) = nw) (h3 : m ((c : Thread nD τ).loc main_arg3) = w1)
    (h4 : m ((c : Thread nD τ).loc main_arg4) = w3) (h5 : m ((c : Thread nD τ).loc main_arg5) = w2)
    (b : Fin 8) (i : Fin 4096) (j : Fin 1024) :
    (Value.res_out0 m c : S8x4096x1024.Idx → EReal) (ix3 b i j)
      = Ffn.step (fun k => x (ix3 b i k)) (fun k => nw (ix3 0 0 k)) (fun k => md (ix3 (⟨b.val, by omega⟩ : Fin 9) 1 k))
          (fun k => md (ix3 (⟨b.val, by omega⟩ : Fin 9) 0 k)) (fun k => md (ix3 (⟨b.val, by omega⟩ : Fin 9) 2 k))
          (fun k f => w1 (ix4 0 0 k f)) (fun k f => w3 (ix4 0 0 k f)) (fun f k => w2 (ix4 0 0 f k)) j := by
  unfold Value.res_out0 Value.res_main_v44
  rw [h0, h1, h2, h3, h4, h5]
  pointwise
  rfl

end Cert.Reference3Ideal.RefValue

end
-- ==== Proof.Ffn3Claim.lean ====
/-
  The plain feed-forward call equals its reference: both result arrays hold the half step of every token's row.
-/
module

public import proofs.«01_k».proof.Defs
public import proofs.«01_k».proof.Proof.Ffn3Array
public import proofs.«01_k».proof.Proof.Ffn3Ref
public import proofs.«01_k».proof.Proof.Gen.Kernel3Ideal.Value

@[expose] public section

noncomputable section

open Idealize.ShloMosaic Idealize.ShloMosaic.TcCoe Idealize.SL.Sem

namespace Cert.Proof

/-- The reference run leaves its arguments and its counters as they were. -/
theorem frame_ref3 : Cert.quiescent_Reference3Ideal := fun m ρ _ =>
  (θ_run _ _ _).mono (fun r h => ⟨fun c => (h c).2, sem_eq_zero_of_no_sems (by decide) r.2⟩) (Cert.Reference3Ideal.Value.run m ρ)

/-- From equal arguments the kernel's result array and the reference's hold the same numbers. -/
theorem algebraic3 : Cert.algebraic_Kernel3Ideal_Reference3Ideal := by
  intro m ρ m' ρ' _ hagree
  refine ⟨fun c => (Cert.Kernel3Ideal.Gen.dats m 0 c).arrAt 6 (Cert.Kernel3Ideal.cfgs 0).N, Cert.Kernel3Ideal.Value.run_blocks m ρ, ?_⟩
  refine (θ_run _ _ _).mono (fun r h c => ⟨(h c).1.trans ?_, (h c).2⟩) (Cert.Reference3Ideal.Value.run m' ρ')
  obtain ⟨h0, h1, h2, h3, h4, h5⟩ := hagree c
  refine Eq.trans ?_ (Cert.Kernel3Ideal.Block.final m c).symm
  funext i
  obtain ⟨b, n, j, rfl⟩ : ∃ (b : Fin 8) (n : Fin 4096) (j : Fin 1024), i = ix3 b n j := ⟨i 0, i 1, i 2, eq_ix3 i⟩
  exact Cert.Reference3Ideal.RefValue.ref_value m' c _ _ _ _ _ _ h0 h1 h2 h3 h4 h5 b n j

end Cert.Proof

end
-- ==== Proof.Ffn4Block.lean ====
/-
  The feed-forward call that first adds the projected output of two mixers: what its body stores, row by row.
-/
module

public import proofs.«01_k».proof.Proof.FfnSpec
public import proofs.«01_k».proof.Proof.Gen.Kernel4Ideal.Frame

@[expose] public section

set_option maxRecDepth 16384

noncomputable section

open Idealize.ShloMosaic Idealize.ShloMosaic.TcCoe Idealize.SL.Sem

namespace Cert.Kernel4Ideal.Block

open Cert.Kernel4Ideal Cert.Kernel4Ideal.Gen

/-- The block that the body stores at a grid point, read at a row and a column: the half step of the row to which the two
    mixers' product with the upper and the lower half of the output weights has been added. -/
theorem block_value (x0 : FVec Ideal S1x512x1024 .f32) (x1 : FVec Ideal S1x9x1024 .f32) (x2 : FVec Ideal S3x1024 .f32)
    (x3 x4 : FVec Ideal S1x1x1024x2816 .bf16) (x5 : FVec Ideal S1x1x2816x1024 .bf16) (x6 x7 : FVec Ideal S1x512x512 .bf16)
    (x8 : FVec Ideal S1024x1024 .bf16) (r : Fin 512) (j : Fin 1024) :
    (out0_9 (F := Ideal) x0 x1 x2 x3 x4 x5 x6 x7 x8 : S1x512x1024.Idx → EReal) (ix3 0 r j)
      = Ffn.step (Ffn.mixed (fun k => x0 (ix3 0 r k)) (fun k => x1 (ix3 0 5 k))
            (fun k => (∑ q : Fin 512, x6 (ix3 0 r q) * x8 (ix2 ⟨q.val, by omega⟩ k)) + ∑ q : Fin 512, x7 (ix3 0 r q) * x8 (ix2 ⟨512 + q.val, by omega⟩ k)))
          (fun k => x2 (ix2 2 k)) (fun k => x1 (ix3 0 7 k)) (fun k => x1 (ix3 0 6 k))
          (fun k => x1 (ix3 0 8 k)) (fun k f => x3 (ix4 0 0 k f)) (fun k f => x4 (ix4 0 0 k f))
          (fun f k => x5 (ix4 0 0 f k)) j := by
  unfold_out out0_9
  frame_out
  pointwise [k0_pay1, k0_pay2, k0_pay3, k0_pay4, k0_pay5, k0_pay6, k0_pay7, k0_pay8, k0_pay9]
  simp only [zero_sub]
  rfl

end Cert.Kernel4Ideal.Block

end
-- ==== Proof.Ffn4Array.lean ====
/-
  The feed-forward call behind the two mixers: what its result array holds after the run, as one function of the arguments.
-/
module

public import proofs.«01_k».proof.Proof.Ffn4Block

@[expose] public section

set_option maxRecDepth 16384

noncomputable section

open Idealize.ShloMosaic Idealize.ShloMosaic.TcCoe Idealize.SL.Sem
open Idealize.ShloMosaic.Pipeline (Dat)

namespace Cert.Kernel4Ideal.Block

open Cert.Kernel4Ideal Cert.Kernel4Ideal.Gen

variable (m : (ℓ : Loc nD τ sig) → Buf (Elt Ideal) ℓ)

/-- Where each window's block lies at a grid point. -/
theorem idx : ∀ t : Fin cfg0.N, win0_0.index t = ![(grid0.coords t 0).val, (grid0.coords t 1).val, 0]
    ∧ win0_1.index t = ![(grid0.coords t 0).val, 0, 0]
    ∧ win0_2.index t = ![0, 0]
    ∧ win0_3.index t = ![0, 1, 0, 0]
    ∧ win0_4.index t = ![0, 1, 0, 0]
    ∧ win0_5.index t = ![0, 1, 0, 0]
    ∧ win0_6.index t = ![(grid0.coords t 0).val, (grid0.coords t 1).val, 0]
    ∧ win0_7.index t = ![(grid0.coords t 0).val, (grid0.coords t 1).val, 0]
    ∧ win0_8.index t = ![0, 0]
    ∧ win0_9.index t = ![(grid0.coords t 0).val, (grid0.coords t 1).val, 0] :=
  (by decide +kernel : ∀ t : Fin grid0.N, _)

/-- The result as one function of the arguments, token by token. -/
def G (x : FVec Ideal S8x4096x1024 .f32) (md : FVec Ideal S9x9x1024 .f32) (nw : FVec Ideal S2x3x1024 .f32)
    (w1 w3 : FVec Ideal S2x2x1024x2816 .f32) (w2 : FVec Ideal S2x2x2816x1024 .f32) (a : FVec Ideal S8x4096x512 .f32) (bb : FVec Ideal S8x4096x512 .f32) (wo : FVec Ideal S1x1024x1024 .f32)
    (b : Fin 8) (i : Fin 4096) (j : Fin 1024) : EReal :=
  Ffn.step (Ffn.mixed (fun k => x (ix3 b i k)) (fun k => md (ix3 (⟨b.val, by omega⟩ : Fin 9) 5 k))
      (fun k => (∑ q : Fin 512, a (ix3 b i q) * wo (ix3 0 ⟨q.val, by omega⟩ k)) + ∑ q : Fin 512, bb (ix3 b i q) * wo (ix3 0 ⟨512 + q.val, by omega⟩ k)))
    (fun k => nw (ix3 0 2 k)) (fun k => md (ix3 (⟨b.val, by omega⟩ : Fin 9) 7 k)) (fun k => md (ix3 (⟨b.val, by omega⟩ : Fin 9) 6 k)) (fun k => md (ix3 (⟨b.val, by omega⟩ : Fin 9) 8 k))
    (fun k f => w1 (ix4 0 1 k f)) (fun k f => w3 (ix4 0 1 k f)) (fun f k => w2 (ix4 0 1 f k)) j

/-- After the run the result array holds `G` of the arguments. -/
theorem final (c : Dev nD) : (dats m 0 c).arrAt 9 (cfgs 0).N = (fun i : S8x4096x1024.Idx =>
    (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1) (i 2) : EReal)) := by
  refine (dats m 0 c).arrAt_eq_of_covers 9 _ (by decide +kernel) fun t _ y => ?_
  blk_simp
  rw [after0_9]
  obtain ⟨u, r, j, rfl⟩ : ∃ (u : Fin 1) (r : Fin 512) (j : Fin 1024), y = ix3 u r j := ⟨y 0, y 1, y 2, eq_ix3 y⟩
  obtain rfl : u = 0 := Subsingleton.elim _ _
  refine (block_value _ _ _ _ _ _ _ _ _ r j).trans ?_
  unfold G
  blk_point [iblk, V, idx t]

end Cert.Kernel4Ideal.Block

end
-- ==== Proof.Ffn4Ref.lean ====
/-
  The reference of the feed-forward call behind the two mixers: its printed term cut in stages, and what each stage computes row by row.
-/
module

public import proofs.«01_k».proof.Proof.FfnSpec
public import proofs.«01_k».proof.Proof.Gen.Reference4Ideal.Run

@[expose] public section

set_option maxRecDepth 16384

noncomputable section

open Idealize.ShloMosaic Idealize.ShloMosaic.TcCoe Idealize.SL.Sem

namespace Cert.Reference4Ideal.RefValue

open Cert.Reference4Ideal Cert.Reference4Ideal.Gen

/-- The rows with the projected mixer output added. -/
def refMixed (x : FVec Ideal S8x4096x1024 .f32) (md : FVec Ideal S9x9x1024 .f32) (a : FVec Ideal S8x4096x512 .f32) (bb : FVec Ideal S8x4096x512 .f32) (wo : FVec Ideal S1x1024x1024 .f32) : FVec Ideal S8x4096x1024 .f32 :=
  addf x (mulf (broadcastInDim S8x4096x1024 ![0, 1, 2] bcast_S8x1x1024_S8x4096x1024_0_1_2 (shapeCast _ (extractStridedSlice S8x1x1x1024 ![0, 5, 0, 0] (shapeCast _ (extractStridedSlice S8x9x1024 ![0, 0, 0] md slices_S9x9x1024_S8x9x1024_0_0_0) shapeCasts_S8x9x1024_S8x9x1x1024) slices_S8x9x1x1024_S8x1x1x1024_0_5_0_0) shapeCasts_S8x1x1x1024_S8x1x1024)) (Host.dotGeneral dot_S8x4096x1024_S1024x1024_S8x4096x1024_2_0_01_1_n_n none (concatenate S8x4096x1024 2 [⟨S8x4096x512, a⟩, ⟨S8x4096x512, bb⟩] concatenates_S8x4096x512_S8x4096x512_S8x4096x1024_d2) (shapeCast _ wo shapeCasts_S1x1024x1024_S1024x1024)))

/-- The rows normed, scaled and shifted. -/
def refNormed (X : FVec Ideal S8x4096x1024 .f32) (md : FVec Ideal S9x9x1024 .f32) (nw : FVec Ideal S2x3x1024 .f32) : FVec Ideal S8x4096x1024 .f32 :=
  addf (mulf (mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1x1024 ![0, 2, 0] nw slices_S2x3x1024_S1x1x1024_0_2_0) shapeCasts_S1x1x1024_S1024)))) (broadcastInDim S8x4096x1024 ![0, 1, 2] bcast_S8x1x1024_S8x4096x1024_0_1_2 (addf (broadcastInDim S8x1x1024 ![] bcast_S_S8x1x1024 (constant S_ .f32 0x3F800000#32)) (shapeCast _ (extractStridedSlice S8x1x1x1024 ![0, 7, 0, 0] (shapeCast _ (extractStridedSlice S8x9x1024 ![0, 0, 0] md slices_S9x9x1024_S8x9x1024_0_0_0) shapeCasts_S8x9x1024_S8x9x1x1024) slices_S8x9x1x1024_S8x1x1x1024_0_7_0_0) shapeCasts_S8x1x1x1024_S8x1x1024)))) (broadcastInDim S8x4096x1024 ![0, 1, 2] bcast_S8x1x1024_S8x4096x1024_0_1_2 (shapeCast _ (extractStridedSlice S8x1x1x1024 ![0, 6, 0, 0] (shapeCast _ (extractStridedSlice S8x9x1024 ![0, 0, 0] md slices_S9x9x1024_S8x9x1024_0_0_0) shapeCasts_S8x9x1024_S8x9x1x1024) slices_S8x9x1x1024_S8x1x1x1024_0_6_0_0) shapeCasts_S8x1x1x1024_S8x1x1024))

/-- The rows after the half step. -/
def refStep (X : FVec Ideal S8x4096x1024 .f32) (N : FVec Ideal S8x4096x1024 .f32) (md : FVec Ideal S9x9x1024 .f32) (w1 : FVec Ideal S2x2x1024x2816 .f32) (w3 : FVec Ideal S2x2x1024x2816 .f32) (w2 : FVec Ideal S2x2x2816x1024 .f32) : FVec Ideal S8x4096x1024 .f32 :=
  addf X (mulf (broadcastInDim S8x4096x1024 ![0, 1, 2] bcast_S8x1x1024_S8x4096x1024_0_1_2 (mulf (broadcastInDim S8x1x1024 ![] bcast_S_S8x1x1024 (constant S_ .f32 0x3F000000#32)) (shapeCast _ (extractStridedSlice S8x1x1x1024 ![0, 8, 0, 0] (shapeCast _ (extractStridedSlice S8x9x1024 ![0, 0, 0] md slices_S9x9x1024_S8x9x1024_0_0_0) shapeCasts_S8x9x1024_S8x9x1x1024) slices_S8x9x1x1024_S8x1x1x1024_0_8_0_0) shapeCasts_S8x1x1x1024_S8x1x1024))) (Host.dotGeneral dot_S8x4096x2816_S2816x1024_S8x4096x1024_2_0_01_1_n_n none (mulf (mulf (Host.dotGeneral dot_S8x4096x1024_S1024x2816_S8x4096x2816_2_0_01_1_n_n none N (shapeCast _ (extractStridedSlice S1x1x1024x2816 ![0, 1, 0, 0] w1 slices_S2x2x1024x2816_S1x1x1024x2816_0_1_0_0) shapeCasts_S1x1x1024x2816_S1024x2816)) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (Host.dotGeneral dot_S8x4096x1024_S1024x2816_S8x4096x2816_2_0_01_1_n_n none N (shapeCast _ (extractStridedSlice S1x1x1024x2816 ![0, 1, 0, 0] w1 slices_S2x2x1024x2816_S1x1x1024x2816_0_1_0_0) shapeCasts_S1x1x1024x2816_S1024x2816))))))) (Host.dotGeneral dot_S8x4096x1024_S1024x2816_S8x4096x2816_2_0_01_1_n_n none N (shapeCast _ (extractStridedSlice S1x1x1024x2816 ![0, 1, 0, 0] w3 slices_S2x2x1024x2816_S1x1x1024x2816_0_1_0_0) shapeCasts_S1x1x1024x2816_S1024x2816))) (shapeCast _ (extractStridedSlice S1x1x2816x1024 ![0, 1, 0, 0] w2 slices_S2x2x2816x1024_S1x1x2816x1024_0_1_0_0) shapeCasts_S1x1x2816x1024_S2816x1024)))

theorem refMixed_apply (x : FVec Ideal S8x4096x1024 .f32) (md : FVec Ideal S9x9x1024 .f32) (a : FVec Ideal S8x4096x512 .f32) (bb : FVec Ideal S8x4096x512 .f32) (wo : FVec Ideal S1x1024x1024 .f32) (b : Fin 8) (i : Fin 4096) (k : Fin 1024) :
    refMixed x md a bb wo (ix3 b i k) = Ffn.mixed (fun k => x (ix3 b i k)) (fun k => md (ix3 (⟨b.val, by omega⟩ : Fin 9) 5 k)) (fun k => (∑ q : Fin 512, a (ix3 b i q) * wo (ix3 0 ⟨q.val, by omega⟩ k)) + ∑ q : Fin 512, bb (ix3 b i q) * wo (ix3 0 ⟨512 + q.val, by omega⟩ k)) k := by
  pointwise [refMixed]
  rfl

theorem refNormed_apply (X : FVec Ideal S8x4096x1024 .f32) (md : FVec Ideal S9x9x1024 .f32) (nw : FVec Ideal S2x3x1024 .f32) (b : Fin 8) (i : Fin 4096) (k : Fin 1024) :
    refNormed X md nw (ix3 b i k) = Ffn.normed (fun k => X (ix3 b i k)) (fun k => nw (ix3 0 2 k)) (fun k => md (ix3 (⟨b.val, by omega⟩ : Fin 9) 7 k)) (fun k => md (ix3 (⟨b.val, by omega⟩ : Fin 9) 6 k)) k := by
  pointwise [refNormed]
  rfl

theorem refStep_apply (X : FVec Ideal S8x4096x1024 .f32) (N : FVec Ideal S8x4096x1024 .f32) (md : FVec Ideal S9x9x1024 .f32) (w1 : FVec Ideal S2x2x1024x2816 .f32) (w3 : FVec Ideal S2x2x1024x2816 .f32) (w2 : FVec Ideal S2x2x2816x1024 .f32) (b : Fin 8) (i : Fin 4096) (j : Fin 1024) :
    refStep X N md w1 w3 w2 (ix3 b i j) = X (ix3 b i j) + Ideal.ofBits .f32 0x3F000000#32 * md (ix3 (⟨b.val, by omega⟩ : Fin 9) 8 j) *
      ∑ f, Ffn.silu (Ffn.up (fun k => N (ix3 b i k)) (fun k f => w1 (ix4 0 1 k f)) f) *
        Ffn.up (fun k => N (ix3 b i k)) (fun k f => w3 (ix4 0 1 k f)) f * w2 (ix4 0 1 f j) := by
  pointwise [refStep]
  rfl

/-- The half step of the mixed rows, read at a token and a column. -/
theorem refHalf_apply (x : FVec Ideal S8x4096x1024 .f32) (md : FVec Ideal S9x9x1024 .f32) (a : FVec Ideal S8x4096x512 .f32) (bb : FVec Ideal S8x4096x512 .f32) (wo : FVec Ideal S1x1024x1024 .f32) (nw : FVec Ideal S2x3x1024 .f32) (w1 : FVec Ideal S2x2x1024x2816 .f32) (w3 : FVec Ideal S2x2x1024x2816 .f32) (w2 : FVec Ideal S2x2x2816x1024 .f32) (b : Fin 8) (i : Fin 4096) (j : Fin 1024) :
    refStep (refMixed x md a bb wo) (refNormed (refMixed x md a bb wo) md nw) md w1 w3 w2 (ix3 b i j) = Ffn.step (Ffn.mixed (fun k => x (ix3 b i k)) (fun k => md (ix3 (⟨b.val, by omega⟩ : Fin 9) 5 k)) (fun k => (∑ q : Fin 512, a (ix3 b i q) * wo (ix3 0 ⟨q.val, by omega⟩ k)) + ∑ q : Fin 512, bb (ix3 b i q) * wo (ix3 0 ⟨512 + q.val, by omega⟩ k))) (fun k => nw (ix3 0 2 k)) (fun k => md (ix3 (⟨b.val, by omega⟩ : Fin 9) 7 k)) (fun k => md (ix3 (⟨b.val, by omega⟩ : Fin 9) 6 k)) (fun k => md (ix3 (⟨b.val, by omega⟩ : Fin 9) 8 k))
          (fun k f => w1 (ix4 0 1 k f)) (fun k f => w3 (ix4 0 1 k f)) (fun f k => w2 (ix4 0 1 f k)) j := by
  rw [refStep_apply]
  simp only [refNormed_apply, refMixed_apply]
  rfl

/-- The reference's result at a token and a column. -/
theorem ref_value (m : (ℓ : Loc nD τ sig) → Buf (Elt Ideal) ℓ) (c : Dev nD)
    (x : FVec Ideal S8x4096x1024 .f32) (md : FVec Ideal S9x9x1024 .f32) (nw : FVec Ideal S2x3x1024 .f32) (w1 : FVec Ideal S2x2x1024x2816 .f32) (w3 : FVec Ideal S2x2x1024x2816 .f32) (w2 : FVec Ideal S2x2x2816x1024 .f32) (a : FVec Ideal S8x4096x512 .f32) (bb : FVec Ideal S8x4096x512 .f32) (wo : FVec Ideal S1x1024x1024 .f32)
    (h0 : m ((c : Thread nD τ).loc main_arg0) = x)
    (h1 : m ((c : Thread nD τ).loc main_arg1) = md)
    (h2 : m ((c : Thread nD τ).loc main_arg2) = nw)
    (h3 : m ((c : Thread nD τ).loc main_arg3) = w1)
    (h4 : m ((c : Thread nD τ).loc main_arg4) = w3)
    (h5 : m ((c : Thread nD τ).loc main_arg5) = w2)
    (h6 : m ((c : Thread nD τ).loc main_arg6) = a)
    (h7 : m ((c : Thread nD τ).loc main_arg7) = bb)
    (h8 : m ((c : Thread nD τ).loc main_arg8) = wo)
    (b : Fin 8) (i : Fin 4096) (j : Fin 1024) :
    (Value.res_out0 m c : S8x4096x1024.Idx → EReal) (ix3 b i j)
      = Ffn.step (Ffn.mixed (fun k => x (ix3 b i k)) (fun k => md (ix3 (⟨b.val, by omega⟩ : Fin 9) 5 k)) (fun k => (∑ q : Fin 512, a (ix3 b i q) * wo (ix3 0 ⟨q.val, by omega⟩ k)) + ∑ q : Fin 512, bb (ix3 b i q) * wo (ix3 0 ⟨512 + q.val, by omega⟩ k))) (fun k => nw (ix3 0 2 k)) (fun k => md (ix3 (⟨b.val, by omega⟩ : Fin 9) 7 k)) (fun k => md (ix3 (⟨b.val, by omega⟩ : Fin 9) 6 k)) (fun k => md (ix3 (⟨b.val, by omega⟩ : Fin 9) 8 k))
          (fun k f => w1 (ix4 0 1 k f)) (fun k f => w3 (ix4 0 1 k f)) (fun f k => w2 (ix4 0 1 f k)) j := by
  have e : (Value.res_out0 m c : S8x4096x1024.Idx → EReal) = refStep (refMixed x md a bb wo) (refNormed (refMixed x md a bb wo) md nw) md w1 w3 w2 := by
    subst h0 h1 h2 h3 h4 h5 h6 h7 h8
    rfl
  rw [e]
  exact refHalf_apply x md a bb wo nw w1 w3 w2 b i j

end Cert.Reference4Ideal.RefValue

end
-- ==== Proof.Ffn4Claim.lean ====
/-
  The feed-forward call behind the two mixers equals its reference: both result arrays hold the half step of every token's
  mixed row.
-/
module

public import proofs.«01_k».proof.Defs
public import proofs.«01_k».proof.Proof.Ffn4Array
public import proofs.«01_k».proof.Proof.Ffn4Ref
public import proofs.«01_k».proof.Proof.Gen.Kernel4Ideal.Value

@[expose] public section

noncomputable section

open Idealize.ShloMosaic Idealize.ShloMosaic.TcCoe Idealize.SL.Sem

namespace Cert.Proof

/-- The reference run leaves its arguments and its counters as they were. -/
theorem frame_ref4 : Cert.quiescent_Reference4Ideal := fun m ρ _ =>
  (θ_run _ _ _).mono (fun r h => ⟨fun c => (h c).2, sem_eq_zero_of_no_sems (by decide) r.2⟩) (Cert.Reference4Ideal.Value.run m ρ)

/-- From equal arguments the kernel's result array and the reference's hold the same numbers. -/
theorem algebraic4 : Cert.algebraic_Kernel4Ideal_Reference4Ideal := by
  intro m ρ m' ρ' _ hagree
  refine ⟨fun c => (Cert.Kernel4Ideal.Gen.dats m 0 c).arrAt 9 (Cert.Kernel4Ideal.cfgs 0).N, Cert.Kernel4Ideal.Value.run_blocks m ρ, ?_⟩
  refine (θ_run _ _ _).mono (fun r h c => ⟨(h c).1.trans ?_, (h c).2⟩) (Cert.Reference4Ideal.Value.run m' ρ')
  obtain ⟨h0, h1, h2, h3, h4, h5, h6, h7, h8⟩ := hagree c
  refine Eq.trans ?_ (Cert.Kernel4Ideal.Block.final m c).symm
  funext i
  obtain ⟨b, n, j, rfl⟩ : ∃ (b : Fin 8) (n : Fin 4096) (j : Fin 1024), i = ix3 b n j := ⟨i 0, i 1, i 2, eq_ix3 i⟩
  exact Cert.Reference4Ideal.RefValue.ref_value m' c _ _ _ _ _ _ _ _ _ h0 h1 h2 h3 h4 h5 h6 h7 h8 b n j

end Cert.Proof

end
-- ==== Proof.ProjSpec.lean ====
/-
  The input projection of a layer's mixer, written for ONE token: its normed row times a weight column, and the axial
  rotation of a query or key row by the token's place in the latent grid. Every projection program (kernel or
  reference) is read down to these functions.
-/
module

public import proofs.«01_k».proof.Proof.FfnSpec

@[expose] public section

noncomputable section

open Idealize.ShloMosaic
open scoped BigOperators

namespace Cert.Proj

/-- A row times one weight column. -/
def col (y w : Fin 1024 → EReal) : EReal := ∑ k, y k * w k

/-- The angle of a grid position `p` at frequency number `f`: the position times `10000 ^ (-f / 16)`. -/
def angle (p f : BitVec 32) : EReal :=
  FloatOps.sitofp (F := Ideal) .f32 p * Ideal.pow (Ideal.ofBits .f32 0x461C4000#32)
    (Ideal.div (-FloatOps.sitofp (F := Ideal) .f32 f) (Ideal.ofBits .f32 0x41800000#32))

/-- The grid position that turns lane `l` of token `n`: its grid row in the first half of a lane's 64, else its
    grid column. -/
def place (n l : ℕ) : BitVec 32 := if l % 64 < 32 then BitVec.ofNat 32 (n / 64) else BitVec.ofNat 32 (n % 64)

/-- The angle by which lane `l` of token `n` is turned. -/
def turn (n l : ℕ) : EReal := angle (place n l) (BitVec.ofNat 32 (l % 16))

/-- A row of 512 lanes turned: within every 32 lanes, lane `f` of the first 16 and lane `f + 16` are the two
    coordinates of a vector that is rotated by the lane's angle. -/
def rope (u : Fin 512 → EReal) (n : ℕ) (l : Fin 512) : EReal :=
  if l.val % 32 < 16 then
    u l * Ideal.cos (turn n l.val) - u ⟨(l.val + 16) % 512, Nat.mod_lt _ (by decide)⟩ * Ideal.sin (turn n l.val)
  else
    u ⟨(l.val + 496) % 512, Nat.mod_lt _ (by decide)⟩ * Ideal.sin (turn n l.val) + u l * Ideal.cos (turn n l.val)

/-- The integer division that the host spells out with its sign corrections is, at every token, the grid row. -/
theorem row_place : ∀ n : Fin 4096,
    Scalar.select (IntOp.andi
        (IntOp.cmpi .ne (if BitVec.ofNat 32 n.val = 0 then (0 : BitVec 32) else if (BitVec.ofNat 32 n.val).msb = true then -1 else 1)
          (if (64#32 : BitVec 32) = 0 then (0 : BitVec 32) else if BitVec.msb 64#32 = true then -1 else 1))
        (IntOp.cmpi .ne (IntOp.remsi .host (BitVec.ofNat 32 n.val) 64#32) 0#32))
      (IntOp.subi (IntOp.divsi .host (BitVec.ofNat 32 n.val) 64#32) 1#32)
      (IntOp.divsi .host (BitVec.ofNat 32 n.val) 64#32) = BitVec.ofNat 32 (n.val / 64) := by
  decide +kernel

/-- The integer remainder that the host spells out with its sign corrections is, at every token, the grid column. -/
theorem col_place : ∀ n : Fin 4096,
    Scalar.select (IntOp.andi
        (IntOp.cmpi .ne
          (IntOp.cmpi .slt (IntOp.remsi .host (BitVec.ofNat 32 n.val) (Scalar.select (IntOp.cmpi .eq 64#32 0#32) (1#32) 64#32)) 0#32)
          (IntOp.cmpi .slt (Scalar.select (IntOp.cmpi .eq 64#32 0#32) (1#32) 64#32) 0#32))
        (IntOp.cmpi .ne (IntOp.remsi .host (BitVec.ofNat 32 n.val) (Scalar.select (IntOp.cmpi .eq 64#32 0#32) (1#32) 64#32)) 0#32))
      (IntOp.addi (IntOp.remsi .host (BitVec.ofNat 32 n.val) (Scalar.select (IntOp.cmpi .eq 64#32 0#32) (1#32) 64#32))
        (Scalar.select (IntOp.cmpi .eq 64#32 0#32) (1#32) 64#32))
      (IntOp.remsi .host (BitVec.ofNat 32 n.val) (Scalar.select (IntOp.cmpi .eq 64#32 0#32) (1#32) 64#32))
      = BitVec.ofNat 32 (n.val % 64) := by
  decide +kernel

/-- A lane of the first half of its 64 is turned by the grid row, -/
theorem turn_row (n l f : ℕ) (h : l % 64 < 32) (hf : l % 16 = f) :
    turn n l = angle (BitVec.ofNat 32 (n / 64)) (BitVec.ofNat 32 f) := by
  unfold turn place; rw [if_pos h, hf]

/-- and one of the second half by the grid column. -/
theorem turn_col (n l f : ℕ) (h : ¬ l % 64 < 32) (hf : l % 16 = f) :
    turn n l = angle (BitVec.ofNat 32 (n % 64)) (BitVec.ofNat 32 f) := by
  unfold turn place; rw [if_neg h, hf]

/-- The turns repeat every 64 lanes. -/
theorem turn_mod (n l : ℕ) : turn n (l % 64) = turn n l := by
  unfold turn place; rw [Nat.mod_mod, Nat.mod_mod_of_dvd _ (by decide : 16 ∣ 64)]

/-- The kernel's signed sine of a lane: minus the sine in the first 16 of every 32 lanes. -/
def signedSin (n l : ℕ) : EReal := if l % 32 < 16 then -Ideal.sin (turn n l) else Ideal.sin (turn n l)

/-- The signed sines repeat every 64 lanes. -/
theorem signedSin_mod (n l : ℕ) : signedSin n (l % 64) = signedSin n l := by
  unfold signedSin; rw [turn_mod, Nat.mod_mod_of_dvd _ (by decide : 32 ∣ 64)]

end Cert.Proj

end
-- ==== Proof.ProjBlock.lean ====
/-
  The layer's input projection with axial rotation: what its body stores into each result block, row by row.
-/
module

public import proofs.«01_k».proof.Proof.ProjSpec
public import proofs.«01_k».proof.Proof.Gen.Kernel5Ideal.Frame

@[expose] public section

set_option maxRecDepth 16384

noncomputable section

open Idealize.ShloMosaic Idealize.ShloMosaic.TcCoe

namespace Cert.Kernel5Ideal.Block

open Cert.Kernel5Ideal Cert.Kernel5Ideal.Gen

/-- Which of a lane's two neighbours is its partner: the test that the body computes is `lane % 32 < 16`. -/
theorem lane_test : ∀ j : Fin 512, IntOp.cmpi CmpIPredicate.slt
            (Scalar.select
              (IntOp.andi
                (IntOp.xori
                  (IntOp.cmpi CmpIPredicate.slt
                    (IntOp.remsi ArithUnit.vector (BitVec.ofNat 32 j.val)
                      (Scalar.select (Scalar.cmpi CmpIPredicate.eq 32#32 0#32) 1#32 32#32))
                    0#32)
                  (Scalar.cmpi CmpIPredicate.slt (Scalar.select (Scalar.cmpi CmpIPredicate.eq 32#32 0#32) 1#32 32#32)
                    0#32))
                (IntOp.cmpi CmpIPredicate.ne
                  (IntOp.remsi ArithUnit.vector (BitVec.ofNat 32 j.val)
                    (Scalar.select (Scalar.cmpi CmpIPredicate.eq 32#32 0#32) 1#32 32#32))
                  0#32))
              (IntOp.addi
                (IntOp.remsi ArithUnit.vector (BitVec.ofNat 32 j.val)
                  (Scalar.select (Scalar.cmpi CmpIPredicate.eq 32#32 0#32) 1#32 32#32))
                (Scalar.select (Scalar.cmpi CmpIPredicate.eq 32#32 0#32) 1#32 32#32))
              (IntOp.remsi ArithUnit.vector (BitVec.ofNat 32 j.val)
                (Scalar.select (Scalar.cmpi CmpIPredicate.eq 32#32 0#32) 1#32 32#32)))
            16#32 = if j.val % 32 < 16 then 1#1 else 0#1 := by
  decide +kernel

/-- A row of lanes rotated by a table of cosines and a table of signed sines, as the body computes it. -/
def turned (u c s : Fin 512 → EReal) (j : Fin 512) : EReal :=
  u j * c j + (if j.val % 32 < 16 then u ⟨(j.val + 16) % 512, Nat.mod_lt _ (by decide)⟩
    else u ⟨(j.val + 496) % 512, Nat.mod_lt _ (by decide)⟩) * s j

/-- A choice by a truth bit that is such a test. -/
theorem pick (j : Fin 512) (p q : EReal) (t : BitVec 1) (h : t = if j.val % 32 < 16 then 1#1 else 0#1) :
    Scalar.select t p q = if j.val % 32 < 16 then p else q := by
  subst h; split_ifs <;> rfl

/-- The stored query lanes, from the projected rows and the two tables. -/
theorem pay6_value (u c s : FVec Ideal S512x512 .f32) (r j : Fin 512) :
    (k0_pay6 (F := Ideal) u c s (iota .tc S512x512 32 [1] iota_S512x512_d1_w32) 32#32 : S1x512x512.Idx → EReal) (ix3 0 r j)
      = turned (fun l => u (ix2 r l)) (fun l => c (ix2 r l)) (fun l => s (ix2 r l)) j := by
  pointwise [k0_pay6]
  unfold turned
  rw [pick j _ _ _ (lane_test j)]
  have e : (j.val + 512 - 496) % 512 = (j.val + 16) % 512 := by omega
  have e' : (j.val + 512 - 16) % 512 = (j.val + 496) % 512 := by omega
  simp only [e, e']

/-- The stored key lanes, from the projected rows and the two tables. -/
theorem pay10_value (u c s : FVec Ideal S512x512 .f32) (r j : Fin 512) :
    (k0_pay10 (F := Ideal) u c s (iota .tc S512x512 32 [1] iota_S512x512_d1_w32) (Scalar.select (Scalar.cmpi .eq 32#32 0#32) 1#32 32#32) : S1x512x512.Idx → EReal) (ix3 0 r j)
      = turned (fun l => u (ix2 r l)) (fun l => c (ix2 r l)) (fun l => s (ix2 r l)) j := by
  pointwise [k0_pay10]
  unfold turned
  rw [pick j _ _ _ (lane_test j)]
  have e : (j.val + 512 - 496) % 512 = (j.val + 16) % 512 := by omega
  have e' : (j.val + 512 - 16) % 512 = (j.val + 496) % 512 := by omega
  simp only [e, e']

variable (x0 : FVec Ideal S1x512x1024 .f32) (x1 : FVec Ideal S1x9x1024 .f32) (x2 : FVec Ideal S3x1024 .f32)
    (x3 : FVec Ideal S1024x3072 .bf16) (x4 x5 x6 x7 : FVec Ideal S512x512 .f32)

/-- A row of a block normed and modulated. -/
abbrev row (r : Fin 512) : Fin 1024 → EReal :=
  Ffn.normed (fun k => x0 (ix3 0 r k)) (fun k => x2 (ix2 1 k)) (fun k => x1 (ix3 0 4 k)) (fun k => x1 (ix3 0 3 k))

/-- What the body stores for the queries: the row's products with the first 512 weight columns, turned. -/
theorem block8 (r j : Fin 512) : (out0_8 (F := Ideal) x0 x1 x2 x3 x4 x5 x6 x7 : S1x512x512.Idx → EReal) (ix3 0 r j)
      = turned (fun l => Proj.col (row x0 x1 x2 r) (fun k => x3 (ix2 k ⟨l.val, by omega⟩))) (fun l => x4 (ix2 r l)) (fun l => x5 (ix2 r l)) j := by
  unfold_out out0_8
  frame_out
  rw [pay6_value]
  pointwise [turned, k0_pay2, k0_pay3, k0_pay4, k0_pay5]
  rfl

/-- What the body stores for the keys: the row's products with the next 512 weight columns, turned. -/
theorem block9 (r j : Fin 512) : (out0_9 (F := Ideal) x0 x1 x2 x3 x4 x5 x6 x7 : S1x512x512.Idx → EReal) (ix3 0 r j)
      = turned (fun l => Proj.col (row x0 x1 x2 r) (fun k => x3 (ix2 k ⟨512 + l.val, by omega⟩))) (fun l => x4 (ix2 r l)) (fun l => x5 (ix2 r l)) j := by
  unfold_out out0_9
  frame_out
  rw [pay10_value]
  pointwise [turned, k0_pay2, k0_pay7, k0_pay8, k0_pay9]
  rfl

/-- What the body stores for the values: the row's products with the next 512 weight columns. -/
theorem block10 (r j : Fin 512) : (out0_10 (F := Ideal) x0 x1 x2 x3 x4 x5 x6 x7 : S1x512x512.Idx → EReal) (ix3 0 r j)
      = Proj.col (row x0 x1 x2 r) (fun k => x3 (ix2 k ⟨1024 + j.val, by omega⟩)) := by
  unfold_out out0_10
  frame_out
  pointwise [k0_pay2, k0_pay11]
  rfl

/-- What the body stores for the second branch: the row's products with the last 1536 weight columns. -/
theorem block11 (r : Fin 512) (j : Fin 1536) : (out0_11 (F := Ideal) x0 x1 x2 x3 x4 x5 x6 x7 : S1x512x1536.Idx → EReal) (ix3 0 r j)
      = Proj.col (row x0 x1 x2 r) (fun k => x3 (ix2 k ⟨1536 + j.val, by omega⟩)) := by
  unfold_out out0_11
  frame_out
  pointwise [k0_pay1, k0_pay2, k0_pay12]
  rfl

end Cert.Kernel5Ideal.Block

end
-- ==== Proof.ProjTables.lean ====
/-
  The layer's input projection with axial rotation: what the host's tables hold when the call starts.
-/
module

public import proofs.«01_k».proof.Proof.ProjSpec
public import proofs.«01_k».proof.Proof.Gen.Kernel5Ideal.Frame

@[expose] public section

set_option maxRecDepth 16384

noncomputable section

open Idealize.ShloMosaic Idealize.ShloMosaic.TcCoe Idealize.ShloMosaic.StableHlo Idealize.SL.Sem

namespace Cert.Kernel5Ideal.Block

open Cert.Kernel5Ideal Cert.Kernel5Ideal.Gen

variable (m : (ℓ : Loc nD τ sig) → Buf (Elt Ideal) ℓ)

/-- Four tables of 16 lanes side by side. -/
def side (a b c d : FVec Ideal S4096x16 .f32) : FVec Ideal S4096x64 .f32 :=
  concatenate S4096x64 1 [⟨S4096x16, a⟩, ⟨S4096x16, b⟩, ⟨S4096x16, c⟩, ⟨S4096x16, d⟩] concatenates_S4096x16_S4096x16_S4096x16_S4096x16_S4096x64_d1

/-- The name for four tables side by side. -/
theorem side_eq (a b c d : FVec Ideal S4096x16 .f32) :
    concatenate S4096x64 1 [⟨S4096x16, a⟩, ⟨S4096x16, b⟩, ⟨S4096x16, c⟩, ⟨S4096x16, d⟩] concatenates_S4096x16_S4096x16_S4096x16_S4096x16_S4096x64_d1 = side a b c d := rfl

/-- Read at a lane, the four tables side by side are one table `T` of 64 lanes where each is its 16 lanes of `T`. -/
theorem side_read (a b c d : FVec Ideal S4096x16 .f32) (T : ℕ → EReal) (n : Fin 4096)
    (ha : ∀ f : Fin 16, (a (ix2 n f) : EReal) = T f.val) (hb : ∀ f : Fin 16, (b (ix2 n f) : EReal) = T (16 + f.val))
    (hc : ∀ f : Fin 16, (c (ix2 n f) : EReal) = T (32 + f.val)) (hd : ∀ f : Fin 16, (d (ix2 n f) : EReal) = T (48 + f.val))
    (l : Fin 64) : side a b c d (ix2 n l) = T l.val := by
  pointwise [side]
  split_ifs <;> first
    | exact ha _
    | exact (hb _).trans (congrArg T (by dsimp only; omega))
    | exact (hc _).trans (congrArg T (by dsimp only; omega))
    | exact (hd _).trans (congrArg T (by dsimp only; omega))

set_option maxHeartbeats 4000000 in
/-- The cosine table that the host lays out: at a token and a lane, the cosine of the lane's angle. -/
theorem cos_table (c : Dev nD) (n : Fin 4096) (l : Fin 512) :
    (V m c main_v34 : S4096x512.Idx → EReal) (ix2 n l) = Ideal.cos (Proj.turn n.val l.val) := by
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_results_simp
  dsimp only [Matrix.cons_val]
  simp only [side_eq]
  after_results_simp
  pointwise
  refine (side_read _ _ _ _ (fun l => Ideal.cos (Proj.turn n.val l)) n (fun f => ?_) (fun f => ?_) (fun f => ?_) (fun f => ?_) _).trans
    (congrArg Ideal.cos (Proj.turn_mod _ _))
  · refine Eq.trans ?_ (congrArg Ideal.cos (Proj.turn_row n.val f.val f.val (by omega) (by omega)).symm)
    pointwise
    exact congrArg (fun p => Ideal.cos (Proj.angle p _)) (Proj.row_place n)
  · refine Eq.trans ?_ (congrArg Ideal.cos (Proj.turn_row n.val (16 + f.val) f.val (by omega) (by omega)).symm)
    pointwise
    exact congrArg (fun p => Ideal.cos (Proj.angle p _)) (Proj.row_place n)
  · refine Eq.trans ?_ (congrArg Ideal.cos (Proj.turn_col n.val (32 + f.val) f.val (by omega) (by omega)).symm)
    pointwise
    exact congrArg (fun p => Ideal.cos (Proj.angle p _)) (Proj.col_place n)
  · refine Eq.trans ?_ (congrArg Ideal.cos (Proj.turn_col n.val (48 + f.val) f.val (by omega) (by omega)).symm)
    pointwise
    exact congrArg (fun p => Ideal.cos (Proj.angle p _)) (Proj.col_place n)

set_option maxHeartbeats 4000000 in
/-- The sine table that the host lays out: at a token and a lane, the signed sine of the lane's angle. -/
theorem sin_table (c : Dev nD) (n : Fin 4096) (l : Fin 512) :
    (V m c main_v38 : S4096x512.Idx → EReal) (ix2 n l) = Proj.signedSin n.val l.val := by
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_results_simp
  dsimp only [Matrix.cons_val]
  simp only [side_eq]
  after_results_simp
  pointwise
  refine (side_read _ _ _ _ (fun l => Proj.signedSin n.val l) n (fun f => ?_) (fun f => ?_) (fun f => ?_) (fun f => ?_) _).trans
    (Proj.signedSin_mod _ _)
  · refine Eq.trans ?_ ((if_pos (by omega)).trans (congrArg (fun t => -Ideal.sin t) (Proj.turn_row n.val f.val f.val (by omega) (by omega)))).symm
    pointwise
    exact congrArg (fun p => -Ideal.sin (Proj.angle p _)) (Proj.row_place n)
  · refine Eq.trans ?_ ((if_neg (by omega)).trans (congrArg Ideal.sin (Proj.turn_row n.val (16 + f.val) f.val (by omega) (by omega)))).symm
    pointwise
    exact congrArg (fun p => Ideal.sin (Proj.angle p _)) (Proj.row_place n)
  · refine Eq.trans ?_ ((if_pos (by omega)).trans (congrArg (fun t => -Ideal.sin t) (Proj.turn_col n.val (32 + f.val) f.val (by omega) (by omega)))).symm
    pointwise
    exact congrArg (fun p => -Ideal.sin (Proj.angle p _)) (Proj.col_place n)
  · refine Eq.trans ?_ ((if_neg (by omega)).trans (congrArg Ideal.sin (Proj.turn_col n.val (48 + f.val) f.val (by omega) (by omega)))).symm
    pointwise
    exact congrArg (fun p => Ideal.sin (Proj.angle p _)) (Proj.col_place n)

/-- The weights that the host reshapes and hands over. -/
theorem weight_table (c : Dev nD) (k : Fin 1024) (j : Fin 3072) :
    (V m c main_v1 : S1024x3072.Idx → EReal) (ix2 k j) = (m ((c : Thread nD τ).loc main_arg3) : S1x1024x3072.Idx → EReal) (ix3 0 k j) := by
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_results_simp
  pointwise

/-- The layer's norm weights that the host slices and hands over. -/
theorem norm_table (c : Dev nD) (a : Fin 3) (k : Fin 1024) :
    (V m c main_v3 : S3x1024.Idx → EReal) (ix2 a k) = (m ((c : Thread nD τ).loc main_arg2) : S2x3x1024.Idx → EReal) (ix3 0 a k) := by
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_results_simp
  pointwise

end Cert.Kernel5Ideal.Block

end
-- ==== Proof.ProjArray.lean ====
/-
  The layer's input projection with axial rotation: what each window's block holds at a grid point.
-/
module

public import proofs.«01_k».proof.Proof.ProjBlock
public import proofs.«01_k».proof.Proof.ProjTables

@[expose] public section

set_option maxRecDepth 16384

noncomputable section

open Idealize.ShloMosaic Idealize.ShloMosaic.TcCoe Idealize.SL.Sem
open Idealize.ShloMosaic.Pipeline (Dat)

namespace Cert.Kernel5Ideal.Block

open Cert.Kernel5Ideal Cert.Kernel5Ideal.Gen

variable (m : (ℓ : Loc nD τ sig) → Buf (Elt Ideal) ℓ)

/-- Where each window's block lies at a grid point. -/
theorem idx : ∀ t : Fin cfg0.N, win0_0.index t = ![(grid0.coords t 0).val, (grid0.coords t 1).val, 0]
    ∧ win0_1.index t = ![(grid0.coords t 0).val, 0, 0] ∧ win0_2.index t = ![0, 0] ∧ win0_3.index t = ![0, 0]
    ∧ win0_4.index t = ![(grid0.coords t 1).val, 0] ∧ win0_5.index t = ![(grid0.coords t 1).val, 0]
    ∧ win0_8.index t = ![(grid0.coords t 0).val, (grid0.coords t 1).val, 0]
    ∧ win0_9.index t = ![(grid0.coords t 0).val, (grid0.coords t 1).val, 0]
    ∧ win0_10.index t = ![(grid0.coords t 0).val, (grid0.coords t 1).val, 0]
    ∧ win0_11.index t = ![(grid0.coords t 0).val, (grid0.coords t 1).val, 0] :=
  (by decide +kernel : ∀ t : Fin grid0.N, _)

/-- The batch entry of a grid point. -/
def bat (t : Fin cfg0.N) : Fin 8 := ⟨(grid0.coords t 0).val, (grid0.coords t 0).isLt⟩

/-- The token of a grid point's row. -/
def tok (t : Fin cfg0.N) (r : Fin 512) : Fin 4096 :=
  ⟨(grid0.coords t 1).val * 512 + r.val, by have h : (grid0.coords t 1).val < 8 := (grid0.coords t 1).isLt; omega⟩

/-- The latent block's row is the token's row. -/
theorem w0 (c : Dev nD) (t : Fin cfg0.N) (r : Fin 512) (k : Fin 1024) : (iblk m c 0 t : S1x512x1024.Idx → EReal) (ix3 0 r k)
    = (m ((c : Thread nD τ).loc main_arg0) : S8x4096x1024.Idx → EReal) (ix3 (bat t) (tok t r) k) := by
  rw [← V_main_arg0 m c]
  unfold bat tok
  blk_point [iblk, idx t]

/-- The modulation block is the batch entry's. -/
theorem w1 (c : Dev nD) (t : Fin cfg0.N) (a : Fin 9) (k : Fin 1024) : (iblk m c 1 t : S1x9x1024.Idx → EReal) (ix3 0 a k)
    = (m ((c : Thread nD τ).loc main_arg1) : S9x9x1024.Idx → EReal) (ix3 (⟨(bat t).val, by omega⟩ : Fin 9) a k) := by
  rw [← V_main_arg1 m c]
  unfold bat
  blk_point [iblk, idx t]

/-- The norm weights, whole. -/
theorem w2 (c : Dev nD) (t : Fin cfg0.N) (a : Fin 3) (k : Fin 1024) : (iblk m c 2 t : S3x1024.Idx → EReal) (ix2 a k)
    = (m ((c : Thread nD τ).loc main_arg2) : S2x3x1024.Idx → EReal) (ix3 0 a k) := by
  refine Eq.trans ?_ (norm_table m c a k)
  blk_point [iblk, idx t]

/-- The projection weights, whole. -/
theorem w3 (c : Dev nD) (t : Fin cfg0.N) (k : Fin 1024) (j : Fin 3072) : (iblk m c 3 t : S1024x3072.Idx → EReal) (ix2 k j)
    = (m ((c : Thread nD τ).loc main_arg3) : S1x1024x3072.Idx → EReal) (ix3 0 k j) := by
  refine Eq.trans ?_ (weight_table m c k j)
  blk_point [iblk, idx t]

/-- The cosine block's row is the token's. -/
theorem w4 (c : Dev nD) (t : Fin cfg0.N) (r l : Fin 512) : (iblk m c 4 t : S512x512.Idx → EReal) (ix2 r l)
    = Ideal.cos (Proj.turn (tok t r).val l.val) := by
  refine Eq.trans ?_ (cos_table m c (tok t r) l)
  unfold tok
  blk_point [iblk, idx t]

/-- The sine block's row is the token's. -/
theorem w5 (c : Dev nD) (t : Fin cfg0.N) (r l : Fin 512) : (iblk m c 5 t : S512x512.Idx → EReal) (ix2 r l)
    = Proj.signedSin (tok t r).val l.val := by
  refine Eq.trans ?_ (sin_table m c (tok t r) l)
  unfold tok
  blk_point [iblk, idx t]

end Cert.Kernel5Ideal.Block

end
-- ==== Proof.ProjFinal.lean ====
/-
  The layer's input projection with axial rotation: what its four result arrays hold after the run.
-/
module

public import proofs.«01_k».proof.Proof.ProjArray

@[expose] public section

set_option maxRecDepth 16384

noncomputable section

open Idealize.ShloMosaic Idealize.ShloMosaic.TcCoe Idealize.SL.Sem
open Idealize.ShloMosaic.Pipeline (Dat)

namespace Cert.Kernel5Ideal.Block

open Cert.Kernel5Ideal Cert.Kernel5Ideal.Gen

variable (m : (ℓ : Loc nD τ sig) → Buf (Elt Ideal) ℓ)

/-- A token's product with one weight column after its norm and modulation. -/
def prod (x : FVec Ideal S8x4096x1024 .f32) (md : FVec Ideal S9x9x1024 .f32) (nw : FVec Ideal S2x3x1024 .f32)
    (w : FVec Ideal S1x1024x3072 .f32) (b : Fin 8) (n : Fin 4096) (j : Fin 3072) : EReal :=
  Proj.col (Ffn.normed (fun k => x (ix3 b n k)) (fun k => nw (ix3 0 1 k)) (fun k => md (ix3 (⟨b.val, by omega⟩ : Fin 9) 4 k))
    (fun k => md (ix3 (⟨b.val, by omega⟩ : Fin 9) 3 k))) (fun k => w (ix3 0 k j))

/-- The two tables turn a row as the rotation does. -/
theorem turned_eq (u c s : Fin 512 → EReal) (n : ℕ) (hc : ∀ l : Fin 512, c l = Ideal.cos (Proj.turn n l.val))
    (hs : ∀ l : Fin 512, s l = Proj.signedSin n l.val) (j : Fin 512) : turned u c s j = Proj.rope u n j := by
  unfold turned Proj.rope
  rw [hc, hs]
  unfold Proj.signedSin
  split_ifs
  · rw [mul_neg, sub_eq_add_neg]
  · rw [add_comm]

/-- A block row's product with a weight column is the token's. -/
theorem prod_eq (c : Dev nD) (t : Fin cfg0.N) (r : Fin 512) (j : Fin 3072) :
    Proj.col (row (iblk m c 0 t) (iblk m c 1 t) (iblk m c 2 t) r) (fun k => (iblk m c 3 t : S1024x3072.Idx → EReal) (ix2 k j))
      = prod (m ((c : Thread nD τ).loc main_arg0)) (m ((c : Thread nD τ).loc main_arg1)) (m ((c : Thread nD τ).loc main_arg2))
          (m ((c : Thread nD τ).loc main_arg3)) (bat t) (tok t r) j := by
  unfold row prod
  simp only [w0, w1, w2, w3]

/-- Where window 8's block puts its row and lane. -/
theorem at8 (t : Fin cfg0.N) (r : Fin 512) (j : Fin 512) :
    (ix3 (bat t) (tok t r) j : S8x4096x512.Idx) = (win0_8.blk t).view.emb (ix3 0 r j) := by
  unfold bat tok
  blk_ext [idx t]

/-- Where window 9's block puts its row and lane. -/
theorem at9 (t : Fin cfg0.N) (r : Fin 512) (j : Fin 512) :
    (ix3 (bat t) (tok t r) j : S8x4096x512.Idx) = (win0_9.blk t).view.emb (ix3 0 r j) := by
  unfold bat tok
  blk_ext [idx t]

/-- Where window 10's block puts its row and lane. -/
theorem at10 (t : Fin cfg0.N) (r : Fin 512) (j : Fin 512) :
    (ix3 (bat t) (tok t r) j : S8x4096x512.Idx) = (win0_10.blk t).view.emb (ix3 0 r j) := by
  unfold bat tok
  blk_ext [idx t]

/-- Where window 11's block puts its row and lane. -/
theorem at11 (t : Fin cfg0.N) (r : Fin 512) (j : Fin 1536) :
    (ix3 (bat t) (tok t r) j : S8x4096x1536.Idx) = (win0_11.blk t).view.emb (ix3 0 r j) := by
  unfold bat tok
  blk_ext [idx t]

/-- The four results as functions of the arguments: the turned queries, -/
def G8 (x : FVec Ideal S8x4096x1024 .f32) (md : FVec Ideal S9x9x1024 .f32) (nw : FVec Ideal S2x3x1024 .f32)
    (w : FVec Ideal S1x1024x3072 .f32) (b : Fin 8) (n : Fin 4096) (j : Fin 512) : EReal :=
  Proj.rope (fun l => prod x md nw w b n ⟨l.val, by omega⟩) n.val j

/-- the turned keys, -/
def G9 (x : FVec Ideal S8x4096x1024 .f32) (md : FVec Ideal S9x9x1024 .f32) (nw : FVec Ideal S2x3x1024 .f32)
    (w : FVec Ideal S1x1024x3072 .f32) (b : Fin 8) (n : Fin 4096) (j : Fin 512) : EReal :=
  Proj.rope (fun l => prod x md nw w b n ⟨512 + l.val, by omega⟩) n.val j

/-- the values, -/
def G10 (x : FVec Ideal S8x4096x1024 .f32) (md : FVec Ideal S9x9x1024 .f32) (nw : FVec Ideal S2x3x1024 .f32)
    (w : FVec Ideal S1x1024x3072 .f32) (b : Fin 8) (n : Fin 4096) (j : Fin 512) : EReal :=
  prod x md nw w b n ⟨1024 + j.val, by omega⟩

/-- and the second branch's input. -/
def G11 (x : FVec Ideal S8x4096x1024 .f32) (md : FVec Ideal S9x9x1024 .f32) (nw : FVec Ideal S2x3x1024 .f32)
    (w : FVec Ideal S1x1024x3072 .f32) (b : Fin 8) (n : Fin 4096) (j : Fin 1536) : EReal :=
  prod x md nw w b n ⟨1536 + j.val, by omega⟩

/-- After the run the query array holds its function of the arguments. -/
theorem final8 (c : Dev nD) : (dats m 0 c).arrAt 8 (cfgs 0).N = (fun i : S8x4096x512.Idx =>
    (G8 (m ((c : Thread nD τ).loc main_arg0)) (m ((c : Thread nD τ).loc main_arg1)) (m ((c : Thread nD τ).loc main_arg2)) (m ((c : Thread nD τ).loc main_arg3)) (i 0) (i 1) (i 2) : EReal)) := by
  refine (dats m 0 c).arrAt_eq_of_covers 8 _ (by decide +kernel) fun t _ y => ?_
  blk_simp
  rw [after0_8]
  obtain ⟨u, r, j, rfl⟩ : ∃ (u : Fin 1) (r : Fin 512) (j : Fin 512), y = ix3 u r j := ⟨y 0, y 1, y 2, eq_ix3 y⟩
  obtain rfl : u = 0 := Subsingleton.elim _ _
  refine (block8 _ _ _ _ _ _ _ _ r j).trans ?_
  refine (turned_eq _ _ _ (tok t r).val (w4 m c t r) (w5 m c t r) j).trans ?_
  simp only [prod_eq]
  have e := at8 t r j
  dsimp only at e ⊢
  refine Eq.trans ?_ (congrArg (fun i : S8x4096x512.Idx => (G8 (m ((c : Thread nD τ).loc main_arg0)) (m ((c : Thread nD τ).loc main_arg1)) (m ((c : Thread nD τ).loc main_arg2)) (m ((c : Thread nD τ).loc main_arg3)) (i 0) (i 1) (i 2) : EReal)) e)
  unfold G8
  rfl

/-- After the run the key array holds its function of the arguments. -/
theorem final9 (c : Dev nD) : (dats m 0 c).arrAt 9 (cfgs 0).N = (fun i : S8x4096x512.Idx =>
    (G9 (m ((c : Thread nD τ).loc main_arg0)) (m ((c : Thread nD τ).loc main_arg1)) (m ((c : Thread nD τ).loc main_arg2)) (m ((c : Thread nD τ).loc main_arg3)) (i 0) (i 1) (i 2) : EReal)) := by
  refine (dats m 0 c).arrAt_eq_of_covers 9 _ (by decide +kernel) fun t _ y => ?_
  blk_simp
  rw [after0_9]
  obtain ⟨u, r, j, rfl⟩ : ∃ (u : Fin 1) (r : Fin 512) (j : Fin 512), y = ix3 u r j := ⟨y 0, y 1, y 2, eq_ix3 y⟩
  obtain rfl : u = 0 := Subsingleton.elim _ _
  refine (block9 _ _ _ _ _ _ _ _ r j).trans ?_
  refine (turned_eq _ _ _ (tok t r).val (w4 m c t r) (w5 m c t r) j).trans ?_
  simp only [prod_eq]
  have e := at9 t r j
  dsimp only at e ⊢
  refine Eq.trans ?_ (congrArg (fun i : S8x4096x512.Idx => (G9 (m ((c : Thread nD τ).loc main_arg0)) (m ((c : Thread nD τ).loc main_arg1)) (m ((c : Thread nD τ).loc main_arg2)) (m ((c : Thread nD τ).loc main_arg3)) (i 0) (i 1) (i 2) : EReal)) e)
  unfold G9
  rfl

/-- After the run the value array holds its function of the arguments. -/
theorem final10 (c : Dev nD) : (dats m 0 c).arrAt 10 (cfgs 0).N = (fun i : S8x4096x512.Idx =>
    (G10 (m ((c : Thread nD τ).loc main_arg0)) (m ((c : Thread nD τ).loc main_arg1)) (m ((c : Thread nD τ).loc main_arg2)) (m ((c : Thread nD τ).loc main_arg3)) (i 0) (i 1) (i 2) : EReal)) := by
  refine (dats m 0 c).arrAt_eq_of_covers 10 _ (by decide +kernel) fun t _ y => ?_
  blk_simp
  rw [after0_10]
  obtain ⟨u, r, j, rfl⟩ : ∃ (u : Fin 1) (r : Fin 512) (j : Fin 512), y = ix3 u r j := ⟨y 0, y 1, y 2, eq_ix3 y⟩
  obtain rfl : u = 0 := Subsingleton.elim _ _
  refine (block10 _ _ _ _ _ _ _ _ r j).trans ?_
  refine (prod_eq m c t r _).trans ?_
  have e := at10 t r j
  dsimp only at e ⊢
  refine Eq.trans ?_ (congrArg (fun i : S8x4096x512.Idx => (G10 (m ((c : Thread nD τ).loc main_arg0)) (m ((c : Thread nD τ).loc main_arg1)) (m ((c : Thread nD τ).loc main_arg2)) (m ((c : Thread nD τ).loc main_arg3)) (i 0) (i 1) (i 2) : EReal)) e)
  unfold G10
  rfl

/-- After the run the second branch's array holds its function of the arguments. -/
theorem final11 (c : Dev nD) : (dats m 0 c).arrAt 11 (cfgs 0).N = (fun i : S8x4096x1536.Idx =>
    (G11 (m ((c : Thread nD τ).loc main_arg0)) (m ((c : Thread nD τ).loc main_arg1)) (m ((c : Thread nD τ).loc main_arg2)) (m ((c : Thread nD τ).loc main_arg3)) (i 0) (i 1) (i 2) : EReal)) := by
  refine (dats m 0 c).arrAt_eq_of_covers 11 _ (by decide +kernel) fun t _ y => ?_
  blk_simp
  rw [after0_11]
  obtain ⟨u, r, j, rfl⟩ : ∃ (u : Fin 1) (r : Fin 512) (j : Fin 1536), y = ix3 u r j := ⟨y 0, y 1, y 2, eq_ix3 y⟩
  obtain rfl : u = 0 := Subsingleton.elim _ _
  refine (block11 _ _ _ _ _ _ _ _ r j).trans ?_
  refine (prod_eq m c t r _).trans ?_
  have e := at11 t r j
  dsimp only at e ⊢
  refine Eq.trans ?_ (congrArg (fun i : S8x4096x1536.Idx => (G11 (m ((c : Thread nD τ).loc main_arg0)) (m ((c : Thread nD τ).loc main_arg1)) (m ((c : Thread nD τ).loc main_arg2)) (m ((c : Thread nD τ).loc main_arg3)) (i 0) (i 1) (i 2) : EReal)) e)
  unfold G11
  rfl

end Cert.Kernel5Ideal.Block

end
-- ==== Proof.ProjRef.lean ====
/-
  The reference of the layer's input projection with axial rotation: what its four results hold, token by token.
-/
module

public import proofs.«01_k».proof.Proof.ProjSpec
public import proofs.«01_k».proof.Proof.Gen.Reference5Ideal.Run

@[expose] public section

set_option maxRecDepth 16384

noncomputable section

open Idealize.ShloMosaic Idealize.ShloMosaic.TcCoe Idealize.ShloMosaic.StableHlo Idealize.SL.Sem

namespace Cert.Reference5Ideal.RefValue

open Cert.Reference5Ideal Cert.Reference5Ideal.Gen Cert.Reference5Ideal.Value

variable (V0 : Valuation τ sig (Elt Ideal))

/-- The angles of the first half of the lanes: by the token's grid row. -/
theorem angle_row (n : Fin 4096) (f : Fin 16) : (res_main_v45 V0 : S4096x16.Idx → EReal) (ix2 n f)
    = Proj.angle (BitVec.ofNat 32 (n.val / 64)) (BitVec.ofNat 32 f.val) := by
  unfold res_main_v45 res_main_call0_v2 res_main_v31 res_main_call0_v0 res_main_v39
  pointwise
  exact congrArg (fun p => Proj.angle p _) (Proj.row_place n)

/-- The angles of the second half of the lanes: by the token's grid column. -/
theorem angle_col (n : Fin 4096) (f : Fin 16) : (res_main_v68 V0 : S4096x16.Idx → EReal) (ix2 n f)
    = Proj.angle (BitVec.ofNat 32 (n.val % 64)) (BitVec.ofNat 32 f.val) := by
  unfold res_main_v68 res_main_call1_v4 res_main_call1_v2 res_main_v31 res_main_call1_v0 res_main_v39
  pointwise
  exact congrArg (fun p => Proj.angle p _) (Proj.col_place n)

/-- The same angles, where the keys are turned, by row -/
theorem angle_row' (n : Fin 4096) (f : Fin 16) : (res_main_v104 V0 : S4096x16.Idx → EReal) (ix2 n f)
    = Proj.angle (BitVec.ofNat 32 (n.val / 64)) (BitVec.ofNat 32 f.val) := by
  unfold res_main_v104 res_main_call2_v2 res_main_v90 res_main_call2_v0 res_main_v98
  pointwise
  exact congrArg (fun p => Proj.angle p _) (Proj.row_place n)

/-- and by column. -/
theorem angle_col' (n : Fin 4096) (f : Fin 16) : (res_main_v127 V0 : S4096x16.Idx → EReal) (ix2 n f)
    = Proj.angle (BitVec.ofNat 32 (n.val % 64)) (BitVec.ofNat 32 f.val) := by
  unfold res_main_v127 res_main_call3_v4 res_main_call3_v2 res_main_v90 res_main_call3_v0 res_main_v98
  pointwise
  exact congrArg (fun p => Proj.angle p _) (Proj.col_place n)

/-- A token's product with one weight column after its norm and modulation. -/
def prod (x : FVec Ideal S8x4096x1024 .f32) (md : FVec Ideal S9x9x1024 .f32) (nw : FVec Ideal S2x3x1024 .f32)
    (w : FVec Ideal S1x1024x3072 .f32) (b : Fin 8) (n : Fin 4096) (j : Fin 3072) : EReal :=
  Proj.col (Ffn.normed (fun k => x (ix3 b n k)) (fun k => nw (ix3 0 1 k)) (fun k => md (ix3 (⟨b.val, by omega⟩ : Fin 9) 4 k))
    (fun k => md (ix3 (⟨b.val, by omega⟩ : Fin 9) 3 k))) (fun k => w (ix3 0 k j))

/-- The projected array. -/
theorem projected (b : Fin 8) (n : Fin 4096) (j : Fin 3072) : (res_main_v28 V0 : S8x4096x3072.Idx → EReal) (ix3 b n j)
    = prod (V0 (Proc.devRef .tc main_arg0)) (V0 (Proc.devRef .tc main_arg1)) (V0 (Proc.devRef .tc main_arg2)) (V0 (Proc.devRef .tc main_arg3)) b n j := by
  unfold res_main_v28 res_main_v1
  pointwise
  rfl

end Cert.Reference5Ideal.RefValue

end
-- ==== Proof.ProjJoin.lean ====
/-
  The reference of the layer's input projection with axial rotation: the turned parts put side by side.
-/
module

public import proofs.«01_k».proof.Proof.ProjSpec
public import proofs.«01_k».proof.Proof.Gen.Reference5Ideal.Run

@[expose] public section

set_option maxRecDepth 16384

noncomputable section

open Idealize.ShloMosaic Idealize.ShloMosaic.TcCoe Idealize.ShloMosaic.StableHlo Idealize.SL.Sem

namespace Cert.Reference5Ideal.RefValue

open Cert.Reference5Ideal Cert.Reference5Ideal.Gen

/-- Four parts of 16 lanes side by side in every 64 lanes, read at a lane. -/
theorem joined (a b c d : FVec Ideal S8x4096x4x2x16 .f32) (T : ℕ → EReal) (e : Fin 8) (n : Fin 4096)
    (ha : ∀ (h : Fin 4) (p : Fin 2) (f : Fin 16), (a (ix5 e n h p f) : EReal) = T (h.val * 128 + p.val * 64 + f.val))
    (hb : ∀ (h : Fin 4) (p : Fin 2) (f : Fin 16), (b (ix5 e n h p f) : EReal) = T (h.val * 128 + p.val * 64 + (16 + f.val)))
    (hc : ∀ (h : Fin 4) (p : Fin 2) (f : Fin 16), (c (ix5 e n h p f) : EReal) = T (h.val * 128 + p.val * 64 + (32 + f.val)))
    (hd : ∀ (h : Fin 4) (p : Fin 2) (f : Fin 16), (d (ix5 e n h p f) : EReal) = T (h.val * 128 + p.val * 64 + (48 + f.val)))
    (j : Fin 512) :
    (truncf .bf16 (shapeCast S8x4096x512 (concatenate S8x4096x4x2x64 4 [⟨S8x4096x4x2x16, a⟩, ⟨S8x4096x4x2x16, b⟩, ⟨S8x4096x4x2x16, c⟩, ⟨S8x4096x4x2x16, d⟩] concatenates_S8x4096x4x2x16_S8x4096x4x2x16_S8x4096x4x2x16_S8x4096x4x2x16_S8x4096x4x2x64_d4 : FVec Ideal S8x4096x4x2x64 .f32) shapeCasts_S8x4096x4x2x64_S8x4096x512) bitsLt_bf16_f32 : S8x4096x512.Idx → EReal) (ix3 e n j) = T j.val := by
  pointwise
  split
  · exact (ha _ _ _).trans (congrArg T (by dsimp only; omega))
  · split
    · exact (hb _ _ _).trans (congrArg T (by dsimp only; omega))
    · split
      · exact (hc _ _ _).trans (congrArg T (by dsimp only; omega))
      · exact (hd _ _ _).trans (congrArg T (by dsimp only; omega))

/-- The turned row at a natural-number lane, as a function on all numbers. -/
def ropeAt (u : Fin 512 → EReal) (n : ℕ) (j : ℕ) : EReal := if h : j < 512 then Proj.rope u n ⟨j, h⟩ else 0

/-- A lane of the first 16 of its 32, with its partner 16 lanes on. -/
theorem ropeAt_first (u : Fin 512 → EReal) (n : ℕ) (l : Fin 512) (o : Fin 512) (p f : BitVec 32) (h : l.val % 32 < 16)
    (ho : (l.val + 16) % 512 = o.val) (ht : Proj.turn n l.val = Proj.angle p f) :
    ropeAt u n l.val = u l * Ideal.cos (Proj.angle p f) - u o * Ideal.sin (Proj.angle p f) := by
  unfold ropeAt Proj.rope
  rw [dif_pos l.isLt, if_pos h, ht]
  have e : (⟨(l.val + 16) % 512, Nat.mod_lt _ (by decide)⟩ : Fin 512) = o := Fin.ext ho
  rw [e]

/-- A lane of the last 16 of its 32, with its partner 16 lanes back. -/
theorem ropeAt_second (u : Fin 512 → EReal) (n : ℕ) (l : Fin 512) (o : Fin 512) (p f : BitVec 32) (h : ¬ l.val % 32 < 16)
    (ho : (l.val + 496) % 512 = o.val) (ht : Proj.turn n l.val = Proj.angle p f) :
    ropeAt u n l.val = u o * Ideal.sin (Proj.angle p f) + u l * Ideal.cos (Proj.angle p f) := by
  unfold ropeAt Proj.rope
  rw [dif_pos l.isLt, if_neg h, ht]
  have e : (⟨(l.val + 496) % 512, Nat.mod_lt _ (by decide)⟩ : Fin 512) = o := Fin.ext ho
  rw [e]

end Cert.Reference5Ideal.RefValue

end
-- ==== Proof.ProjRefTurn.lean ====
/-
  The reference of the layer's input projection with axial rotation: its four results, read at a token and a lane.
-/
module

public import proofs.«01_k».proof.Proof.ProjRef
public import proofs.«01_k».proof.Proof.ProjJoin

@[expose] public section

set_option maxRecDepth 16384

noncomputable section

open Idealize.ShloMosaic Idealize.ShloMosaic.TcCoe Idealize.ShloMosaic.StableHlo Idealize.SL.Sem

namespace Cert.Reference5Ideal.RefValue

open Cert.Reference5Ideal Cert.Reference5Ideal.Gen Cert.Reference5Ideal.Value

variable (V0 : Valuation τ sig (Elt Ideal))

/-- The first result, before it is named: the turned queries. -/
theorem queries (b : Fin 8) (n : Fin 4096) (j : Fin 512) :
    (truncf .bf16 (shapeCast S8x4096x512 (concatenate S8x4096x4x2x64 4
      [⟨S8x4096x4x2x16, subf (mulf (res_main_v51 V0) (broadcastInDim S8x4096x4x2x16 ![0, 1, 2, 3, 4] bcast_S1x4096x1x1x16_S8x4096x4x2x16_0_1_2_3_4 (res_main_v47 V0))) (mulf (res_main_v52 V0) (broadcastInDim S8x4096x4x2x16 ![0, 1, 2, 3, 4] bcast_S1x4096x1x1x16_S8x4096x4x2x16_0_1_2_3_4 (res_main_v49 V0)))⟩,
       ⟨S8x4096x4x2x16, addf (mulf (res_main_v51 V0) (broadcastInDim S8x4096x4x2x16 ![0, 1, 2, 3, 4] bcast_S1x4096x1x1x16_S8x4096x4x2x16_0_1_2_3_4 (res_main_v49 V0))) (mulf (res_main_v52 V0) (broadcastInDim S8x4096x4x2x16 ![0, 1, 2, 3, 4] bcast_S1x4096x1x1x16_S8x4096x4x2x16_0_1_2_3_4 (res_main_v47 V0)))⟩,
       ⟨S8x4096x4x2x16, subf (mulf (res_main_v74 V0) (broadcastInDim S8x4096x4x2x16 ![0, 1, 2, 3, 4] bcast_S1x4096x1x1x16_S8x4096x4x2x16_0_1_2_3_4 (res_main_v70 V0))) (mulf (res_main_v75 V0) (broadcastInDim S8x4096x4x2x16 ![0, 1, 2, 3, 4] bcast_S1x4096x1x1x16_S8x4096x4x2x16_0_1_2_3_4 (res_main_v72 V0)))⟩,
       ⟨S8x4096x4x2x16, addf (mulf (res_main_v74 V0) (broadcastInDim S8x4096x4x2x16 ![0, 1, 2, 3, 4] bcast_S1x4096x1x1x16_S8x4096x4x2x16_0_1_2_3_4 (res_main_v72 V0))) (mulf (res_main_v75 V0) (broadcastInDim S8x4096x4x2x16 ![0, 1, 2, 3, 4] bcast_S1x4096x1x1x16_S8x4096x4x2x16_0_1_2_3_4 (res_main_v70 V0)))⟩] concatenates_S8x4096x4x2x16_S8x4096x4x2x16_S8x4096x4x2x16_S8x4096x4x2x16_S8x4096x4x2x64_d4 : FVec Ideal S8x4096x4x2x64 .f32)
      shapeCasts_S8x4096x4x2x64_S8x4096x512) bitsLt_bf16_f32 : S8x4096x512.Idx → EReal) (ix3 b n j)
      = Proj.rope (fun l : Fin 512 => (prod (V0 (Proc.devRef .tc main_arg0)) (V0 (Proc.devRef .tc main_arg1)) (V0 (Proc.devRef .tc main_arg2)) (V0 (Proc.devRef .tc main_arg3)) b n ⟨l.val, by omega⟩)) n.val j := by
  refine (joined _ _ _ _ (ropeAt (fun l : Fin 512 => (prod (V0 (Proc.devRef .tc main_arg0)) (V0 (Proc.devRef .tc main_arg1)) (V0 (Proc.devRef .tc main_arg2)) (V0 (Proc.devRef .tc main_arg3)) b n ⟨l.val, by omega⟩)) n.val) b n (fun h p f => ?_) (fun h p f => ?_) (fun h p f => ?_) (fun h p f => ?_) j).trans (dif_pos j.isLt)
  · refine Eq.trans ?_ (ropeAt_first (fun l : Fin 512 => (prod (V0 (Proc.devRef .tc main_arg0)) (V0 (Proc.devRef .tc main_arg1)) (V0 (Proc.devRef .tc main_arg2)) (V0 (Proc.devRef .tc main_arg3)) b n ⟨l.val, by omega⟩)) n.val ⟨h.val * 128 + p.val * 64 + f.val, by omega⟩ ⟨h.val * 128 + p.val * 64 + (16 + f.val), by omega⟩ _ _
      (by dsimp only; omega) (by dsimp only; omega) (Proj.turn_row n.val (h.val * 128 + p.val * 64 + f.val) f.val (by omega) (by omega))).symm
    pointwise [res_main_v51, res_main_v52, res_main_v50, res_main_v30, res_main_v47, res_main_v49]
    rw [projected, projected, angle_row]
  · refine Eq.trans ?_ (ropeAt_second (fun l : Fin 512 => (prod (V0 (Proc.devRef .tc main_arg0)) (V0 (Proc.devRef .tc main_arg1)) (V0 (Proc.devRef .tc main_arg2)) (V0 (Proc.devRef .tc main_arg3)) b n ⟨l.val, by omega⟩)) n.val ⟨h.val * 128 + p.val * 64 + (16 + f.val), by omega⟩ ⟨h.val * 128 + p.val * 64 + f.val, by omega⟩ _ _
      (by dsimp only; omega) (by dsimp only; omega) (Proj.turn_row n.val (h.val * 128 + p.val * 64 + (16 + f.val)) f.val (by omega) (by omega))).symm
    pointwise [res_main_v51, res_main_v52, res_main_v50, res_main_v30, res_main_v47, res_main_v49]
    rw [projected, projected, angle_row]
  · refine Eq.trans ?_ (ropeAt_first (fun l : Fin 512 => (prod (V0 (Proc.devRef .tc main_arg0)) (V0 (Proc.devRef .tc main_arg1)) (V0 (Proc.devRef .tc main_arg2)) (V0 (Proc.devRef .tc main_arg3)) b n ⟨l.val, by omega⟩)) n.val ⟨h.val * 128 + p.val * 64 + (32 + f.val), by omega⟩ ⟨h.val * 128 + p.val * 64 + (48 + f.val), by omega⟩ _ _
      (by dsimp only; omega) (by dsimp only; omega) (Proj.turn_col n.val (h.val * 128 + p.val * 64 + (32 + f.val)) f.val (by omega) (by omega))).symm
    pointwise [res_main_v74, res_main_v75, res_main_v73, res_main_v30, res_main_v70, res_main_v72]
    rw [projected, projected, angle_col]
    have e : (⟨h.val * 128 + p.val * 64 + (32 + (16 + f.val)), by omega⟩ : Fin 3072) = ⟨h.val * 128 + p.val * 64 + (48 + f.val), by omega⟩ :=
      Fin.ext (by dsimp only; omega)
    rw [e]
  · refine Eq.trans ?_ (ropeAt_second (fun l : Fin 512 => (prod (V0 (Proc.devRef .tc main_arg0)) (V0 (Proc.devRef .tc main_arg1)) (V0 (Proc.devRef .tc main_arg2)) (V0 (Proc.devRef .tc main_arg3)) b n ⟨l.val, by omega⟩)) n.val ⟨h.val * 128 + p.val * 64 + (48 + f.val), by omega⟩ ⟨h.val * 128 + p.val * 64 + (32 + f.val), by omega⟩ _ _
      (by dsimp only; omega) (by dsimp only; omega) (Proj.turn_col n.val (h.val * 128 + p.val * 64 + (48 + f.val)) f.val (by omega) (by omega))).symm
    pointwise [res_main_v74, res_main_v75, res_main_v73, res_main_v30, res_main_v70, res_main_v72]
    rw [projected, projected, angle_col]
    have e : (⟨h.val * 128 + p.val * 64 + (32 + (16 + f.val)), by omega⟩ : Fin 3072) = ⟨h.val * 128 + p.val * 64 + (48 + f.val), by omega⟩ :=
      Fin.ext (by dsimp only; omega)
    rw [e]

end Cert.Reference5Ideal.RefValue

end
-- ==== Proof.ProjRefOut.lean ====
/-
  The reference of the layer's input projection with axial rotation: its four results, read at a token and a lane.
-/
module

public import proofs.«01_k».proof.Proof.ProjRef
public import proofs.«01_k».proof.Proof.ProjJoin

@[expose] public section

set_option maxRecDepth 16384

noncomputable section

open Idealize.ShloMosaic Idealize.ShloMosaic.TcCoe Idealize.ShloMosaic.StableHlo Idealize.SL.Sem

namespace Cert.Reference5Ideal.RefValue

open Cert.Reference5Ideal Cert.Reference5Ideal.Gen Cert.Reference5Ideal.Value

variable (V0 : Valuation τ sig (Elt Ideal))

/-- The second result, before it is named: the turned keys. -/
theorem keys (b : Fin 8) (n : Fin 4096) (j : Fin 512) :
    (truncf .bf16 (shapeCast S8x4096x512 (concatenate S8x4096x4x2x64 4
      [⟨S8x4096x4x2x16, subf (mulf (res_main_v110 V0) (broadcastInDim S8x4096x4x2x16 ![0, 1, 2, 3, 4] bcast_S1x4096x1x1x16_S8x4096x4x2x16_0_1_2_3_4 (res_main_v106 V0))) (mulf (res_main_v111 V0) (broadcastInDim S8x4096x4x2x16 ![0, 1, 2, 3, 4] bcast_S1x4096x1x1x16_S8x4096x4x2x16_0_1_2_3_4 (res_main_v108 V0)))⟩,
       ⟨S8x4096x4x2x16, addf (mulf (res_main_v110 V0) (broadcastInDim S8x4096x4x2x16 ![0, 1, 2, 3, 4] bcast_S1x4096x1x1x16_S8x4096x4x2x16_0_1_2_3_4 (res_main_v108 V0))) (mulf (res_main_v111 V0) (broadcastInDim S8x4096x4x2x16 ![0, 1, 2, 3, 4] bcast_S1x4096x1x1x16_S8x4096x4x2x16_0_1_2_3_4 (res_main_v106 V0)))⟩,
       ⟨S8x4096x4x2x16, subf (mulf (res_main_v133 V0) (broadcastInDim S8x4096x4x2x16 ![0, 1, 2, 3, 4] bcast_S1x4096x1x1x16_S8x4096x4x2x16_0_1_2_3_4 (res_main_v129 V0))) (mulf (res_main_v134 V0) (broadcastInDim S8x4096x4x2x16 ![0, 1, 2, 3, 4] bcast_S1x4096x1x1x16_S8x4096x4x2x16_0_1_2_3_4 (res_main_v131 V0)))⟩,
       ⟨S8x4096x4x2x16, addf (mulf (res_main_v133 V0) (broadcastInDim S8x4096x4x2x16 ![0, 1, 2, 3, 4] bcast_S1x4096x1x1x16_S8x4096x4x2x16_0_1_2_3_4 (res_main_v131 V0))) (mulf (res_main_v134 V0) (broadcastInDim S8x4096x4x2x16 ![0, 1, 2, 3, 4] bcast_S1x4096x1x1x16_S8x4096x4x2x16_0_1_2_3_4 (res_main_v129 V0)))⟩] concatenates_S8x4096x4x2x16_S8x4096x4x2x16_S8x4096x4x2x16_S8x4096x4x2x16_S8x4096x4x2x64_d4 : FVec Ideal S8x4096x4x2x64 .f32)
      shapeCasts_S8x4096x4x2x64_S8x4096x512) bitsLt_bf16_f32 : S8x4096x512.Idx → EReal) (ix3 b n j)
      = Proj.rope (fun l : Fin 512 => (prod (V0 (Proc.devRef .tc main_arg0)) (V0 (Proc.devRef .tc main_arg1)) (V0 (Proc.devRef .tc main_arg2)) (V0 (Proc.devRef .tc main_arg3)) b n ⟨512 + l.val, by omega⟩)) n.val j := by
  refine (joined _ _ _ _ (ropeAt (fun l : Fin 512 => (prod (V0 (Proc.devRef .tc main_arg0)) (V0 (Proc.devRef .tc main_arg1)) (V0 (Proc.devRef .tc main_arg2)) (V0 (Proc.devRef .tc main_arg3)) b n ⟨512 + l.val, by omega⟩)) n.val) b n (fun h p f => ?_) (fun h p f => ?_) (fun h p f => ?_) (fun h p f => ?_) j).trans (dif_pos j.isLt)
  · refine Eq.trans ?_ (ropeAt_first (fun l : Fin 512 => (prod (V0 (Proc.devRef .tc main_arg0)) (V0 (Proc.devRef .tc main_arg1)) (V0 (Proc.devRef .tc main_arg2)) (V0 (Proc.devRef .tc main_arg3)) b n ⟨512 + l.val, by omega⟩)) n.val ⟨h.val * 128 + p.val * 64 + f.val, by omega⟩ ⟨h.val * 128 + p.val * 64 + (16 + f.val), by omega⟩ _ _
      (by dsimp only; omega) (by dsimp only; omega) (Proj.turn_row n.val (h.val * 128 + p.val * 64 + f.val) f.val (by omega) (by omega))).symm
    pointwise [res_main_v110, res_main_v111, res_main_v109, res_main_v89, res_main_v106, res_main_v108]
    rw [projected, projected, angle_row']
  · refine Eq.trans ?_ (ropeAt_second (fun l : Fin 512 => (prod (V0 (Proc.devRef .tc main_arg0)) (V0 (Proc.devRef .tc main_arg1)) (V0 (Proc.devRef .tc main_arg2)) (V0 (Proc.devRef .tc main_arg3)) b n ⟨512 + l.val, by omega⟩)) n.val ⟨h.val * 128 + p.val * 64 + (16 + f.val), by omega⟩ ⟨h.val * 128 + p.val * 64 + f.val, by omega⟩ _ _
      (by dsimp only; omega) (by dsimp only; omega) (Proj.turn_row n.val (h.val * 128 + p.val * 64 + (16 + f.val)) f.val (by omega) (by omega))).symm
    pointwise [res_main_v110, res_main_v111, res_main_v109, res_main_v89, res_main_v106, res_main_v108]
    rw [projected, projected, angle_row']
  · refine Eq.trans ?_ (ropeAt_first (fun l : Fin 512 => (prod (V0 (Proc.devRef .tc main_arg0)) (V0 (Proc.devRef .tc main_arg1)) (V0 (Proc.devRef .tc main_arg2)) (V0 (Proc.devRef .tc main_arg3)) b n ⟨512 + l.val, by omega⟩)) n.val ⟨h.val * 128 + p.val * 64 + (32 + f.val), by omega⟩ ⟨h.val * 128 + p.val * 64 + (48 + f.val), by omega⟩ _ _
      (by dsimp only; omega) (by dsimp only; omega) (Proj.turn_col n.val (h.val * 128 + p.val * 64 + (32 + f.val)) f.val (by omega) (by omega))).symm
    pointwise [res_main_v133, res_main_v134, res_main_v132, res_main_v89, res_main_v129, res_main_v131]
    rw [projected, projected, angle_col']
    have e : (⟨512 + (h.val * 128 + p.val * 64 + (32 + (16 + f.val))), by omega⟩ : Fin 3072) = ⟨512 + (h.val * 128 + p.val * 64 + (48 + f.val)), by omega⟩ :=
      Fin.ext (by dsimp only; omega)
    rw [e]
  · refine Eq.trans ?_ (ropeAt_second (fun l : Fin 512 => (prod (V0 (Proc.devRef .tc main_arg0)) (V0 (Proc.devRef .tc main_arg1)) (V0 (Proc.devRef .tc main_arg2)) (V0 (Proc.devRef .tc main_arg3)) b n ⟨512 + l.val, by omega⟩)) n.val ⟨h.val * 128 + p.val * 64 + (48 + f.val), by omega⟩ ⟨h.val * 128 + p.val * 64 + (32 + f.val), by omega⟩ _ _
      (by dsimp only; omega) (by dsimp only; omega) (Proj.turn_col n.val (h.val * 128 + p.val * 64 + (48 + f.val)) f.val (by omega) (by omega))).symm
    pointwise [res_main_v133, res_main_v134, res_main_v132, res_main_v89, res_main_v129, res_main_v131]
    rw [projected, projected, angle_col']
    have e : (⟨512 + (h.val * 128 + p.val * 64 + (32 + (16 + f.val))), by omega⟩ : Fin 3072) = ⟨512 + (h.val * 128 + p.val * 64 + (48 + f.val)), by omega⟩ :=
      Fin.ext (by dsimp only; omega)
    rw [e]

/-- The third result: the values. -/
theorem values (b : Fin 8) (n : Fin 4096) (j : Fin 512) :
    (truncf .bf16 (extractStridedSlice S8x4096x512 ![0, 0, 1024] (res_main_v28 V0) slices_S8x4096x3072_S8x4096x512_0_0_1024) bitsLt_bf16_f32 : S8x4096x512.Idx → EReal) (ix3 b n j)
      = (prod (V0 (Proc.devRef .tc main_arg0)) (V0 (Proc.devRef .tc main_arg1)) (V0 (Proc.devRef .tc main_arg2)) (V0 (Proc.devRef .tc main_arg3)) b n ⟨1024 + j.val, by omega⟩) := by
  pointwise
  exact projected V0 b n _

/-- The fourth result: the second branch's input. -/
theorem branch (b : Fin 8) (n : Fin 4096) (j : Fin 1536) :
    (truncf .bf16 (extractStridedSlice S8x4096x1536 ![0, 0, 1536] (res_main_v28 V0) slices_S8x4096x3072_S8x4096x1536_0_0_1536) bitsLt_bf16_f32 : S8x4096x1536.Idx → EReal) (ix3 b n j)
      = (prod (V0 (Proc.devRef .tc main_arg0)) (V0 (Proc.devRef .tc main_arg1)) (V0 (Proc.devRef .tc main_arg2)) (V0 (Proc.devRef .tc main_arg3)) b n ⟨1536 + j.val, by omega⟩) := by
  pointwise
  exact projected V0 b n _

end Cert.Reference5Ideal.RefValue

end
-- ==== Proof.ProjClaim.lean ====
/-
  The layer's input projection with axial rotation equals its reference: all four result arrays hold the same numbers.
-/
module

public import proofs.«01_k».proof.Defs
public import proofs.«01_k».proof.Proof.ProjFinal
public import proofs.«01_k».proof.Proof.ProjRefTurn
public import proofs.«01_k».proof.Proof.ProjRefOut
public import proofs.«01_k».proof.Proof.Gen.Kernel5Ideal.Value

@[expose] public section

noncomputable section

open Idealize.ShloMosaic Idealize.ShloMosaic.TcCoe Idealize.SL.Sem

namespace Cert.Proof

/-- The reference run leaves its arguments and its counters as they were. -/
theorem frame_ref5 : Cert.quiescent_Reference5Ideal := fun m ρ _ =>
  (θ_run _ _ _).mono (fun r h => ⟨fun c => (h c).2.2.2.2, sem_eq_zero_of_no_sems (by decide) r.2⟩) (Cert.Reference5Ideal.Value.run m ρ)

/-- From equal arguments the two sides write the turned queries alike. -/
theorem same8 {x x' : FVec Ideal Cert.Reference5Ideal.S8x4096x1024 .f32} {md md' : FVec Ideal Cert.Reference5Ideal.S9x9x1024 .f32}
    {nw nw' : FVec Ideal Cert.Reference5Ideal.S2x3x1024 .f32} {w w' : FVec Ideal Cert.Reference5Ideal.S1x1024x3072 .f32}
    (h0 : x = x') (h1 : md = md') (h2 : nw = nw') (h3 : w = w') (b : Fin 8) (n : Fin 4096) (j : Fin 512) :
    Proj.rope (fun l => Cert.Reference5Ideal.RefValue.prod x md nw w b n ⟨l.val, by omega⟩) n.val j = Cert.Kernel5Ideal.Block.G8 x' md' nw' w' b n j := by
  subst h0 h1 h2 h3; rfl

/-- From equal arguments the two sides write the turned keys alike. -/
theorem same9 {x x' : FVec Ideal Cert.Reference5Ideal.S8x4096x1024 .f32} {md md' : FVec Ideal Cert.Reference5Ideal.S9x9x1024 .f32}
    {nw nw' : FVec Ideal Cert.Reference5Ideal.S2x3x1024 .f32} {w w' : FVec Ideal Cert.Reference5Ideal.S1x1024x3072 .f32}
    (h0 : x = x') (h1 : md = md') (h2 : nw = nw') (h3 : w = w') (b : Fin 8) (n : Fin 4096) (j : Fin 512) :
    Proj.rope (fun l => Cert.Reference5Ideal.RefValue.prod x md nw w b n ⟨512 + l.val, by omega⟩) n.val j = Cert.Kernel5Ideal.Block.G9 x' md' nw' w' b n j := by
  subst h0 h1 h2 h3; rfl

/-- From equal arguments the two sides write the values alike. -/
theorem same10 {x x' : FVec Ideal Cert.Reference5Ideal.S8x4096x1024 .f32} {md md' : FVec Ideal Cert.Reference5Ideal.S9x9x1024 .f32}
    {nw nw' : FVec Ideal Cert.Reference5Ideal.S2x3x1024 .f32} {w w' : FVec Ideal Cert.Reference5Ideal.S1x1024x3072 .f32}
    (h0 : x = x') (h1 : md = md') (h2 : nw = nw') (h3 : w = w') (b : Fin 8) (n : Fin 4096) (j : Fin 512) :
    Cert.Reference5Ideal.RefValue.prod x md nw w b n ⟨1024 + j.val, by omega⟩ = Cert.Kernel5Ideal.Block.G10 x' md' nw' w' b n j := by
  subst h0 h1 h2 h3; rfl

/-- From equal arguments the two sides write the second branch's input alike. -/
theorem same11 {x x' : FVec Ideal Cert.Reference5Ideal.S8x4096x1024 .f32} {md md' : FVec Ideal Cert.Reference5Ideal.S9x9x1024 .f32}
    {nw nw' : FVec Ideal Cert.Reference5Ideal.S2x3x1024 .f32} {w w' : FVec Ideal Cert.Reference5Ideal.S1x1024x3072 .f32}
    (h0 : x = x') (h1 : md = md') (h2 : nw = nw') (h3 : w = w') (b : Fin 8) (n : Fin 4096) (j : Fin 1536) :
    Cert.Reference5Ideal.RefValue.prod x md nw w b n ⟨1536 + j.val, by omega⟩ = Cert.Kernel5Ideal.Block.G11 x' md' nw' w' b n j := by
  subst h0 h1 h2 h3; rfl

/-- From equal arguments the kernel's four result arrays and the reference's hold the same numbers. -/
theorem algebraic5 : Cert.algebraic_Kernel5Ideal_Reference5Ideal := by
  intro m ρ m' ρ' _ hagree
  refine ⟨fun c => (Cert.Kernel5Ideal.Gen.dats m 0 c).arrAt 8 (Cert.Kernel5Ideal.cfgs 0).N,
    fun c => (Cert.Kernel5Ideal.Gen.dats m 0 c).arrAt 9 (Cert.Kernel5Ideal.cfgs 0).N,
    fun c => (Cert.Kernel5Ideal.Gen.dats m 0 c).arrAt 10 (Cert.Kernel5Ideal.cfgs 0).N,
    fun c => (Cert.Kernel5Ideal.Gen.dats m 0 c).arrAt 11 (Cert.Kernel5Ideal.cfgs 0).N, Cert.Kernel5Ideal.Value.run_blocks m ρ, ?_⟩
  refine (θ_run _ _ _).mono (fun r h c => ⟨(h c).1.trans ?_, (h c).2.1.trans ?_, (h c).2.2.1.trans ?_, (h c).2.2.2.1.trans ?_,
    (h c).2.2.2.2⟩) (Cert.Reference5Ideal.Value.run m' ρ')
  · obtain ⟨h0, h1, h2, h3⟩ := hagree c
    refine Eq.trans ?_ (Cert.Kernel5Ideal.Block.final8 m c).symm
    funext i
    obtain ⟨b, n, j, rfl⟩ : ∃ (b : Fin 8) (n : Fin 4096) (j : Fin 512), i = ix3 b n j := ⟨i 0, i 1, i 2, eq_ix3 i⟩
    refine (Cert.Reference5Ideal.RefValue.queries _ b n j).trans ?_
    exact same8 h0 h1 h2 h3 b n j
  · obtain ⟨h0, h1, h2, h3⟩ := hagree c
    refine Eq.trans ?_ (Cert.Kernel5Ideal.Block.final9 m c).symm
    funext i
    obtain ⟨b, n, j, rfl⟩ : ∃ (b : Fin 8) (n : Fin 4096) (j : Fin 512), i = ix3 b n j := ⟨i 0, i 1, i 2, eq_ix3 i⟩
    refine (Cert.Reference5Ideal.RefValue.keys _ b n j).trans ?_
    exact same9 h0 h1 h2 h3 b n j
  · obtain ⟨h0, h1, h2, h3⟩ := hagree c
    refine Eq.trans ?_ (Cert.Kernel5Ideal.Block.final10 m c).symm
    funext i
    obtain ⟨b, n, j, rfl⟩ : ∃ (b : Fin 8) (n : Fin 4096) (j : Fin 512), i = ix3 b n j := ⟨i 0, i 1, i 2, eq_ix3 i⟩
    refine (Cert.Reference5Ideal.RefValue.values _ b n j).trans ?_
    exact same10 h0 h1 h2 h3 b n j
  · obtain ⟨h0, h1, h2, h3⟩ := hagree c
    refine Eq.trans ?_ (Cert.Kernel5Ideal.Block.final11 m c).symm
    funext i
    obtain ⟨b, n, j, rfl⟩ : ∃ (b : Fin 8) (n : Fin 4096) (j : Fin 1536), i = ix3 b n j := ⟨i 0, i 1, i 2, eq_ix3 i⟩
    refine (Cert.Reference5Ideal.RefValue.branch _ b n j).trans ?_
    exact same11 h0 h1 h2 h3 b n j

end Cert.Proof

end
-- ==== Proof.NaBlock.lean ====
/-
  The input projection of the neighbourhood mixer: what its body stores into each result block.
-/
module

public import proofs.«01_k».proof.Proof.ProjSpec
public import proofs.«01_k».proof.Proof.Gen.Kernel6Ideal.Value

@[expose] public section

set_option maxRecDepth 16384

noncomputable section

open Idealize.ShloMosaic Idealize.ShloMosaic.TcCoe

namespace Cert.Kernel6Ideal.Block

open Cert.Kernel6Ideal Cert.Kernel6Ideal.Gen

variable (x0 : FVec Ideal S1x512x1024 .f32) (x1 : FVec Ideal S1x9x1024 .f32) (x2 : FVec Ideal S3x1024 .f32)
    (x3 : FVec Ideal S1024x3072 .bf16) (x4 : FVec Ideal S2048x1024 .bf16)

/-- A row of a block normed and modulated. -/
abbrev row (r : Fin 512) : Fin 1024 → EReal :=
  Ffn.normed (fun k => x0 (ix3 0 r k)) (fun k => x2 (ix2 1 k)) (fun k => x1 (ix3 0 4 k)) (fun k => x1 (ix3 0 3 k))

/-- A weight row times a token row is the token row times the weight row. -/
theorem col_comm (y w : Fin 1024 → EReal) : ∑ k, w k * y k = Proj.col y w :=
  Finset.sum_congr rfl fun k _ => mul_comm _ _

/-- What the body stores for the queries, lanes first: the row's products with the first 1024 weight columns, scaled. -/
theorem block5 (j : Fin 1024) (r : Fin 512) : (out0_5 (F := Ideal) x0 x1 x2 x3 x4 : S1x1x1024x512.Idx → EReal) (ix4 0 0 j r)
      = Proj.col (row x0 x1 x2 r) (fun k => x4 (ix2 ⟨j.val, by omega⟩ k)) * Ideal.ofBits .f32 0x3E38AA3B#32 := by
  unfold_out out0_5
  frame_out
  rw [← col_comm]
  pointwise [k0_pay1, k0_pay2, k0_pay3]
  rfl

/-- What the body stores for the keys: the row's products with the next 1024 weight columns. -/
theorem block6 (r : Fin 512) (j : Fin 1024) : (out0_6 (F := Ideal) x0 x1 x2 x3 x4 : S1x512x1024.Idx → EReal) (ix3 0 r j)
      = Proj.col (row x0 x1 x2 r) (fun k => x3 (ix2 k ⟨1024 + j.val, by omega⟩)) := by
  unfold_out out0_6
  frame_out
  pointwise [k0_pay1, k0_pay4]
  rfl

/-- What the body stores for the values, lanes first in chunks of 128 rows: the row's products with the last 1024 weight columns. -/
theorem block7 (a : Fin 4) (j : Fin 1024) (r : Fin 128) : (out0_7 (F := Ideal) x0 x1 x2 x3 x4 : S1x4x1024x128.Idx → EReal) (ix4 0 a j r)
      = Proj.col (row x0 x1 x2 ⟨a.val * 128 + r.val, by omega⟩) (fun k => x4 (ix2 ⟨1024 + j.val, by omega⟩ k)) := by
  unfold_out out0_7
  refine (Value.canon7_eq _ _ _ _ _ (ix4 0 a j r)).trans ?_
  have e : Value.ix7_0 (ix4 0 a j r) = ix2 j (⟨a.val * 128 + r.val, by omega⟩ : Fin 512) := by
    funext q
    match q with
    | ⟨0, _⟩ => rfl
    | ⟨1, _⟩ => rfl
  show (k0_pay5 (F := Ideal) _ _ : S1024x512.Idx → EReal) (Value.ix7_0 (ix4 0 a j r)) = _
  rw [e]
  rw [← col_comm]
  pointwise [k0_pay1, k0_pay5]
  rfl

end Cert.Kernel6Ideal.Block

end
-- ==== Proof.NaTables.lean ====
/-
  The input projection of the neighbourhood mixer: the weight tables that the host lays out before the call.
-/
module

public import proofs.«01_k».proof.Proof.NaBlock

@[expose] public section

set_option maxRecDepth 16384

noncomputable section

open Idealize.ShloMosaic Idealize.ShloMosaic.TcCoe Idealize.ShloMosaic.StableHlo Idealize.SL.Sem
open Idealize.ShloMosaic.Pipeline (Dat)

namespace Cert.Kernel6Ideal.Block

open Cert.Kernel6Ideal Cert.Kernel6Ideal.Gen

variable (m : (ℓ : Loc nD τ sig) → Buf (Elt Ideal) ℓ)

/-- The projection weights that the host hands over. -/
theorem weight_table (c : Dev nD) (k : Fin 1024) (j : Fin 3072) :
    (V m c main_v1 : S1024x3072.Idx → EReal) (ix2 k j) = (m ((c : Thread nD τ).loc main_arg3) : S1x1024x3072.Idx → EReal) (ix3 0 k j) := by
  unfold V
  simp only [hostOps0, List.flatten_cons, List.flatten_nil, List.append_nil, List.cons_append, List.nil_append, TRef.binary, TRef.nullary, TRef.ternary, TRef.unary, TRef.toBuf, TRef.ofBuf, cast_eq]
  after_results_simp
  pointwise

/-- The query weights, transposed, -/
theorem turned_upper (c : Dev nD) (j k : Fin 1024) :
    (V m c main_v8 : S2048x1024.Idx → EReal) (ix2 ⟨j.val, by omega⟩ k)
      = (m ((c : Thread nD τ).loc main_arg3) : S1x1024x3072.Idx → EReal) (ix3 0 k ⟨j.val, by omega⟩) := by
  unfold V
  simp only [hostOps0, List.flatten_cons, List.flatten_nil, List.append_nil, List.cons_append, List.nil_append, TRef.binary, TRef.nullary, TRef.ternary, TRef.unary, TRef.toBuf, TRef.ofBuf, cast_eq]
  after_results_simp
  pointwise

/-- and the value weights, transposed. -/
theorem turned_lower (c : Dev nD) (j k : Fin 1024) :
    (V m c main_v8 : S2048x1024.Idx → EReal) (ix2 ⟨1024 + j.val, by omega⟩ k)
      = (m ((c : Thread nD τ).loc main_arg3) : S1x1024x3072.Idx → EReal) (ix3 0 k ⟨2048 + j.val, by omega⟩) := by
  unfold V
  simp only [hostOps0, List.flatten_cons, List.flatten_nil, List.append_nil, List.cons_append, List.nil_append, TRef.binary, TRef.nullary, TRef.ternary, TRef.unary, TRef.toBuf, TRef.ofBuf, cast_eq]
  after_results_simp
  pointwise

/-- The layer's norm weights that the host slices and hands over. -/
theorem norm_table (c : Dev nD) (a : Fin 3) (k : Fin 1024) :
    (V m c main_v3 : S3x1024.Idx → EReal) (ix2 a k) = (m ((c : Thread nD τ).loc main_arg2) : S2x3x1024.Idx → EReal) (ix3 1 a k) := by
  unfold V
  simp only [hostOps0, List.flatten_cons, List.flatten_nil, List.append_nil, List.cons_append, List.nil_append, TRef.binary, TRef.nullary, TRef.ternary, TRef.unary, TRef.toBuf, TRef.ofBuf, cast_eq]
  after_results_simp
  pointwise

end Cert.Kernel6Ideal.Block

end
-- ==== Proof.NaArray.lean ====
/-
  The input projection of the neighbourhood mixer: what each window's block holds, and what the result arrays hold after the run.
-/
module

public import proofs.«01_k».proof.Proof.NaTables

@[expose] public section

set_option maxRecDepth 16384

noncomputable section

open Idealize.ShloMosaic Idealize.ShloMosaic.TcCoe Idealize.SL.Sem
open Idealize.ShloMosaic.Pipeline (Dat)

namespace Cert.Kernel6Ideal.Block

open Cert.Kernel6Ideal Cert.Kernel6Ideal.Gen

variable (m : (ℓ : Loc nD τ sig) → Buf (Elt Ideal) ℓ)

/-- Where each window's block lies at a grid point. -/
theorem idx : ∀ t : Fin cfg0.N, win0_0.index t = ![(grid0.coords t 0).val, (grid0.coords t 1).val, 0]
    ∧ win0_1.index t = ![(grid0.coords t 0).val, 0, 0] ∧ win0_2.index t = ![0, 0] ∧ win0_3.index t = ![0, 0]
    ∧ win0_4.index t = ![0, 0]
    ∧ win0_5.index t = ![(grid0.coords t 0).val, (grid0.coords t 1).val, 0, 0]
    ∧ win0_6.index t = ![(grid0.coords t 0).val, (grid0.coords t 1).val, 0]
    ∧ win0_7.index t = ![(grid0.coords t 0).val, (grid0.coords t 1).val, 0, 0] :=
  (by decide +kernel : ∀ t : Fin grid0.N, _)

/-- The batch entry of a grid point. -/
def bat (t : Fin cfg0.N) : Fin 8 := ⟨(grid0.coords t 0).val, (grid0.coords t 0).isLt⟩

/-- The token of a grid point's row. -/
def tok (t : Fin cfg0.N) (r : Fin 512) : Fin 4096 :=
  ⟨(grid0.coords t 1).val * 512 + r.val, by have h : (grid0.coords t 1).val < 8 := (grid0.coords t 1).isLt; omega⟩

/-- The chunk of 512 tokens of a grid point. -/
def chunk (t : Fin cfg0.N) : Fin 8 := ⟨(grid0.coords t 1).val, (grid0.coords t 1).isLt⟩

/-- The chunks of 128 tokens of a grid point. -/
def part (t : Fin cfg0.N) (a : Fin 4) : Fin 32 :=
  ⟨(grid0.coords t 1).val * 4 + a.val, by have h : (grid0.coords t 1).val < 8 := (grid0.coords t 1).isLt; omega⟩

/-- The latent block's row is the token's row. -/
theorem w0 (c : Dev nD) (t : Fin cfg0.N) (r : Fin 512) (k : Fin 1024) : (iblk m c 0 t : S1x512x1024.Idx → EReal) (ix3 0 r k)
    = (m ((c : Thread nD τ).loc main_arg0) : S8x4096x1024.Idx → EReal) (ix3 (bat t) (tok t r) k) := by
  rw [← V_main_arg0 m c]
  unfold bat tok
  blk_point [iblk, idx t]

/-- The modulation block is the batch entry's. -/
theorem w1 (c : Dev nD) (t : Fin cfg0.N) (a : Fin 9) (k : Fin 1024) : (iblk m c 1 t : S1x9x1024.Idx → EReal) (ix3 0 a k)
    = (m ((c : Thread nD τ).loc main_arg1) : S9x9x1024.Idx → EReal) (ix3 (⟨(bat t).val, by omega⟩ : Fin 9) a k) := by
  rw [← V_main_arg1 m c]
  unfold bat
  blk_point [iblk, idx t]

/-- The norm weights, whole. -/
theorem w2 (c : Dev nD) (t : Fin cfg0.N) (a : Fin 3) (k : Fin 1024) : (iblk m c 2 t : S3x1024.Idx → EReal) (ix2 a k)
    = (m ((c : Thread nD τ).loc main_arg2) : S2x3x1024.Idx → EReal) (ix3 1 a k) := by
  refine Eq.trans ?_ (norm_table m c a k)
  blk_point [iblk, idx t]

/-- The projection weights, whole. -/
theorem w3 (c : Dev nD) (t : Fin cfg0.N) (k : Fin 1024) (j : Fin 3072) : (iblk m c 3 t : S1024x3072.Idx → EReal) (ix2 k j)
    = (m ((c : Thread nD τ).loc main_arg3) : S1x1024x3072.Idx → EReal) (ix3 0 k j) := by
  refine Eq.trans ?_ (weight_table m c k j)
  blk_point [iblk, idx t]

/-- The transposed query weights -/
theorem w4_upper (c : Dev nD) (t : Fin cfg0.N) (j k : Fin 1024) : (iblk m c 4 t : S2048x1024.Idx → EReal) (ix2 ⟨j.val, by omega⟩ k)
    = (m ((c : Thread nD τ).loc main_arg3) : S1x1024x3072.Idx → EReal) (ix3 0 k ⟨j.val, by omega⟩) := by
  refine Eq.trans ?_ (turned_upper m c j k)
  blk_point [iblk, idx t]

/-- and value weights, whole. -/
theorem w4_lower (c : Dev nD) (t : Fin cfg0.N) (j k : Fin 1024) : (iblk m c 4 t : S2048x1024.Idx → EReal) (ix2 ⟨1024 + j.val, by omega⟩ k)
    = (m ((c : Thread nD τ).loc main_arg3) : S1x1024x3072.Idx → EReal) (ix3 0 k ⟨2048 + j.val, by omega⟩) := by
  refine Eq.trans ?_ (turned_lower m c j k)
  blk_point [iblk, idx t]

/-- Where window 5's block puts its lane and row. -/
theorem at5 (t : Fin cfg0.N) (j : Fin 1024) (r : Fin 512) :
    (ix4 (bat t) (chunk t) j r : S8x8x1024x512.Idx) = (win0_5.blk t).view.emb (ix4 0 0 j r) := by
  unfold bat chunk
  blk_ext [idx t]

/-- Where window 6's block puts its row and lane. -/
theorem at6 (t : Fin cfg0.N) (r : Fin 512) (j : Fin 1024) :
    (ix3 (bat t) (tok t r) j : S8x4096x1024.Idx) = (win0_6.blk t).view.emb (ix3 0 r j) := by
  unfold bat tok
  blk_ext [idx t]

/-- Where window 7's block puts its lane and row. -/
theorem at7 (t : Fin cfg0.N) (a : Fin 4) (j : Fin 1024) (r : Fin 128) :
    (ix4 (bat t) (part t a) j r : S8x32x1024x128.Idx) = (win0_7.blk t).view.emb (ix4 0 a j r) := by
  unfold bat part
  blk_ext [idx t]

end Cert.Kernel6Ideal.Block

end
-- ==== Proof.NaFinal.lean ====
/-
  The input projection of the neighbourhood mixer: what its three result arrays hold after the run.
-/
module

public import proofs.«01_k».proof.Proof.NaArray

@[expose] public section

set_option maxRecDepth 16384

noncomputable section

open Idealize.ShloMosaic Idealize.ShloMosaic.TcCoe Idealize.SL.Sem
open Idealize.ShloMosaic.Pipeline (Dat)

namespace Cert.Kernel6Ideal.Block

open Cert.Kernel6Ideal Cert.Kernel6Ideal.Gen

variable (m : (ℓ : Loc nD τ sig) → Buf (Elt Ideal) ℓ)

/-- A token's product with one weight column after its norm and modulation. -/
def prod (x : FVec Ideal S8x4096x1024 .f32) (md : FVec Ideal S9x9x1024 .f32) (nw : FVec Ideal S2x3x1024 .f32)
    (w : FVec Ideal S1x1024x3072 .f32) (b : Fin 8) (n : Fin 4096) (j : Fin 3072) : EReal :=
  Proj.col (Ffn.normed (fun k => x (ix3 b n k)) (fun k => nw (ix3 1 1 k)) (fun k => md (ix3 (⟨b.val, by omega⟩ : Fin 9) 4 k))
    (fun k => md (ix3 (⟨b.val, by omega⟩ : Fin 9) 3 k))) (fun k => w (ix3 0 k j))

/-- A block row's product with a query weight column is the token's, -/
theorem prod_query (c : Dev nD) (t : Fin cfg0.N) (r : Fin 512) (j : Fin 1024) :
    Proj.col (row (iblk m c 0 t) (iblk m c 1 t) (iblk m c 2 t) r) (fun k => (iblk m c 4 t : S2048x1024.Idx → EReal) (ix2 ⟨j.val, by omega⟩ k))
      = prod (m ((c : Thread nD τ).loc main_arg0)) (m ((c : Thread nD τ).loc main_arg1)) (m ((c : Thread nD τ).loc main_arg2)) (m ((c : Thread nD τ).loc main_arg3)) (bat t) (tok t r) ⟨j.val, by omega⟩ := by
  unfold row prod
  simp only [w0, w1, w2, w4_upper]

/-- with a key weight column too, -/
theorem prod_key (c : Dev nD) (t : Fin cfg0.N) (r : Fin 512) (j : Fin 3072) :
    Proj.col (row (iblk m c 0 t) (iblk m c 1 t) (iblk m c 2 t) r) (fun k => (iblk m c 3 t : S1024x3072.Idx → EReal) (ix2 k j))
      = prod (m ((c : Thread nD τ).loc main_arg0)) (m ((c : Thread nD τ).loc main_arg1)) (m ((c : Thread nD τ).loc main_arg2)) (m ((c : Thread nD τ).loc main_arg3)) (bat t) (tok t r) j := by
  unfold row prod
  simp only [w0, w1, w2, w3]

/-- and with a value weight column. -/
theorem prod_value (c : Dev nD) (t : Fin cfg0.N) (r : Fin 512) (j : Fin 1024) :
    Proj.col (row (iblk m c 0 t) (iblk m c 1 t) (iblk m c 2 t) r) (fun k => (iblk m c 4 t : S2048x1024.Idx → EReal) (ix2 ⟨1024 + j.val, by omega⟩ k))
      = prod (m ((c : Thread nD τ).loc main_arg0)) (m ((c : Thread nD τ).loc main_arg1)) (m ((c : Thread nD τ).loc main_arg2)) (m ((c : Thread nD τ).loc main_arg3)) (bat t) (tok t r) ⟨2048 + j.val, by omega⟩ := by
  unfold row prod
  simp only [w0, w1, w2, w4_lower]

/-- The three results as functions of the arguments: the scaled queries, lanes first in chunks of 512 tokens, -/
def G5 (x : FVec Ideal S8x4096x1024 .f32) (md : FVec Ideal S9x9x1024 .f32) (nw : FVec Ideal S2x3x1024 .f32)
    (w : FVec Ideal S1x1024x3072 .f32) (b : Fin 8) (g : Fin 8) (j : Fin 1024) (r : Fin 512) : EReal :=
  prod x md nw w b ⟨g.val * 512 + r.val, by omega⟩ ⟨j.val, by omega⟩ * Ideal.ofBits .f32 0x3E38AA3B#32

/-- the keys, -/
def G6 (x : FVec Ideal S8x4096x1024 .f32) (md : FVec Ideal S9x9x1024 .f32) (nw : FVec Ideal S2x3x1024 .f32)
    (w : FVec Ideal S1x1024x3072 .f32) (b : Fin 8) (n : Fin 4096) (j : Fin 1024) : EReal :=
  prod x md nw w b n ⟨1024 + j.val, by omega⟩

/-- and the values, lanes first in chunks of 128 tokens. -/
def G7 (x : FVec Ideal S8x4096x1024 .f32) (md : FVec Ideal S9x9x1024 .f32) (nw : FVec Ideal S2x3x1024 .f32)
    (w : FVec Ideal S1x1024x3072 .f32) (b : Fin 8) (g : Fin 32) (j : Fin 1024) (r : Fin 128) : EReal :=
  prod x md nw w b ⟨g.val * 128 + r.val, by omega⟩ ⟨2048 + j.val, by omega⟩

/-- After the run the query array holds its function of the arguments. -/
theorem final5 (c : Dev nD) : (dats m 0 c).arrAt 5 (cfgs 0).N = (fun i : S8x8x1024x512.Idx =>
    (G5 (m ((c : Thread nD τ).loc main_arg0)) (m ((c : Thread nD τ).loc main_arg1)) (m ((c : Thread nD τ).loc main_arg2)) (m ((c : Thread nD τ).loc main_arg3)) (i 0) (i 1) (i 2) (i 3) : EReal)) := by
  refine (dats m 0 c).arrAt_eq_of_covers 5 _ (by decide +kernel) fun t _ y => ?_
  blk_simp
  rw [after0_5]
  obtain ⟨u, v, j, r, rfl⟩ : ∃ (u : Fin 1) (v : Fin 1) (j : Fin 1024) (r : Fin 512), y = ix4 u v j r := ⟨y 0, y 1, y 2, y 3, eq_ix4 y⟩
  obtain rfl : u = 0 := Subsingleton.elim _ _
  obtain rfl : v = 0 := Subsingleton.elim _ _
  refine (block5 _ _ _ _ _ j r).trans ?_
  rw [prod_query]
  have e := at5 t j r
  dsimp only at e ⊢
  refine Eq.trans ?_ (congrArg (fun i : S8x8x1024x512.Idx => (G5 (m ((c : Thread nD τ).loc main_arg0)) (m ((c : Thread nD τ).loc main_arg1)) (m ((c : Thread nD τ).loc main_arg2)) (m ((c : Thread nD τ).loc main_arg3)) (i 0) (i 1) (i 2) (i 3) : EReal)) e)
  unfold G5
  rfl

/-- After the run the key array holds its function of the arguments. -/
theorem final6 (c : Dev nD) : (dats m 0 c).arrAt 6 (cfgs 0).N = (fun i : S8x4096x1024.Idx =>
    (G6 (m ((c : Thread nD τ).loc main_arg0)) (m ((c : Thread nD τ).loc main_arg1)) (m ((c : Thread nD τ).loc main_arg2)) (m ((c : Thread nD τ).loc main_arg3)) (i 0) (i 1) (i 2) : EReal)) := by
  refine (dats m 0 c).arrAt_eq_of_covers 6 _ (by decide +kernel) fun t _ y => ?_
  blk_simp
  rw [after0_6]
  obtain ⟨u, r, j, rfl⟩ : ∃ (u : Fin 1) (r : Fin 512) (j : Fin 1024), y = ix3 u r j := ⟨y 0, y 1, y 2, eq_ix3 y⟩
  obtain rfl : u = 0 := Subsingleton.elim _ _
  refine (block6 _ _ _ _ _ r j).trans ?_
  refine (prod_key m c t r _).trans ?_
  have e := at6 t r j
  dsimp only at e ⊢
  refine Eq.trans ?_ (congrArg (fun i : S8x4096x1024.Idx => (G6 (m ((c : Thread nD τ).loc main_arg0)) (m ((c : Thread nD τ).loc main_arg1)) (m ((c : Thread nD τ).loc main_arg2)) (m ((c : Thread nD τ).loc main_arg3)) (i 0) (i 1) (i 2) : EReal)) e)
  unfold G6
  rfl

/-- A token counted in chunks of 128 within its chunk of 512. -/
theorem tok_part (t : Fin cfg0.N) (a : Fin 4) (r : Fin 128) : tok t ⟨a.val * 128 + r.val, by omega⟩
    = (⟨(part t a).val * 128 + r.val, by omega⟩ : Fin 4096) :=
  Fin.ext (by unfold tok part; dsimp only; omega)

/-- After the run the value array holds its function of the arguments. -/
theorem final7 (c : Dev nD) : (dats m 0 c).arrAt 7 (cfgs 0).N = (fun i : S8x32x1024x128.Idx =>
    (G7 (m ((c : Thread nD τ).loc main_arg0)) (m ((c : Thread nD τ).loc main_arg1)) (m ((c : Thread nD τ).loc main_arg2)) (m ((c : Thread nD τ).loc main_arg3)) (i 0) (i 1) (i 2) (i 3) : EReal)) := by
  refine (dats m 0 c).arrAt_eq_of_covers 7 _ (by decide +kernel) fun t _ y => ?_
  blk_simp
  rw [after0_7]
  obtain ⟨u, a, j, r, rfl⟩ : ∃ (u : Fin 1) (a : Fin 4) (j : Fin 1024) (r : Fin 128), y = ix4 u a j r := ⟨y 0, y 1, y 2, y 3, eq_ix4 y⟩
  obtain rfl : u = 0 := Subsingleton.elim _ _
  refine (block7 _ _ _ _ _ a j r).trans ?_
  rw [prod_value, tok_part]
  have e := at7 t a j r
  dsimp only at e ⊢
  refine Eq.trans ?_ (congrArg (fun i : S8x32x1024x128.Idx => (G7 (m ((c : Thread nD τ).loc main_arg0)) (m ((c : Thread nD τ).loc main_arg1)) (m ((c : Thread nD τ).loc main_arg2)) (m ((c : Thread nD τ).loc main_arg3)) (i 0) (i 1) (i 2) (i 3) : EReal)) e)
  unfold G7
  rfl

end Cert.Kernel6Ideal.Block

end
-- ==== Proof.NaRef.lean ====
/-
  The reference of the neighbourhood mixer's input projection: its three results, read at a token and a lane.
-/
module

public import proofs.«01_k».proof.Proof.NaFinal
public import proofs.«01_k».proof.Proof.Gen.Reference6Ideal.Run

@[expose] public section

set_option maxRecDepth 16384

noncomputable section

open Idealize.ShloMosaic Idealize.ShloMosaic.TcCoe Idealize.SL.Sem

namespace Cert.Reference6Ideal.RefValue

open Cert.Reference6Ideal Cert.Reference6Ideal.Gen

variable (x : FVec Ideal S8x4096x1024 .f32) (md : FVec Ideal S9x9x1024 .f32) (nw : FVec Ideal S2x3x1024 .f32)
    (w : FVec Ideal S1x1024x3072 .f32)

/-- The projected array as the reference writes it: norm, modulation, product. -/
def proj : FVec Ideal S8x4096x3072 .f32 :=
  Host.dotGeneral dot_S8x4096x1024_S1024x3072_S8x4096x3072_2_0_01_1_n_n none (addf (mulf (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1x1024 ![1, 1, 0] nw slices_S2x3x1024_S1x1x1024_1_1_0) shapeCasts_S1x1x1024_S1024)))) (broadcastInDim S8x4096x1024 ![0, 1, 2] bcast_S8x1x1024_S8x4096x1024_0_1_2 (addf (broadcastInDim S8x1x1024 ![] bcast_S_S8x1x1024 (constant S_ .f32 0x3F800000#32)) (shapeCast _ (extractStridedSlice S8x1x1x1024 ![0, 4, 0, 0] (shapeCast _ (extractStridedSlice S8x9x1024 ![0, 0, 0] md slices_S9x9x1024_S8x9x1024_0_0_0) shapeCasts_S8x9x1024_S8x9x1x1024) slices_S8x9x1x1024_S8x1x1x1024_0_4_0_0) shapeCasts_S8x1x1x1024_S8x1x1024)))) (broadcastInDim S8x4096x1024 ![0, 1, 2] bcast_S8x1x1024_S8x4096x1024_0_1_2 (shapeCast _ (extractStridedSlice S8x1x1x1024 ![0, 3, 0, 0] (shapeCast _ (extractStridedSlice S8x9x1024 ![0, 0, 0] md slices_S9x9x1024_S8x9x1024_0_0_0) shapeCasts_S8x9x1024_S8x9x1x1024) slices_S8x9x1x1024_S8x1x1x1024_0_3_0_0) shapeCasts_S8x1x1x1024_S8x1x1024))) (shapeCast _ w shapeCasts_S1x1024x3072_S1024x3072)

/-- A token and a column of it. -/
theorem projected (b : Fin 8) (n : Fin 4096) (j : Fin 3072) : (proj x md nw w : S8x4096x3072.Idx → EReal) (ix3 b n j)
    = Cert.Kernel6Ideal.Block.prod x md nw w b n j := by
  unfold proj
  pointwise
  rfl

/-- The first result: the scaled queries, lanes first in chunks of 512 tokens. -/
theorem queries (b : Fin 8) (g : Fin 8) (j : Fin 1024) (r : Fin 512) :
    (truncf .bf16 (transpose S8x8x1024x512 [0, 1, 3, 2] (shapeCast S8x8x512x1024 (mulf (extractStridedSlice S8x4096x1024 ![0, 0, 0] (proj x md nw w) slices_S8x4096x3072_S8x4096x1024_0_0_0) (broadcastInDim S8x4096x1024 ![] bcast_S_S8x4096x1024 (constant S_ .f32 0x3E38AA3B#32))) shapeCasts_S8x4096x1024_S8x8x512x1024) transposes_S8x8x512x1024_S8x8x1024x512_0_1_3_2) bitsLt_bf16_f32 : S8x8x1024x512.Idx → EReal) (ix4 b g j r)
      = Cert.Kernel6Ideal.Block.G5 x md nw w b g j r := by
  unfold Cert.Kernel6Ideal.Block.G5
  rw [← projected]
  pointwise

/-- The second result: the keys. -/
theorem keys (b : Fin 8) (n : Fin 4096) (j : Fin 1024) :
    (truncf .bf16 (extractStridedSlice S8x4096x1024 ![0, 0, 1024] (proj x md nw w) slices_S8x4096x3072_S8x4096x1024_0_0_1024) bitsLt_bf16_f32 : S8x4096x1024.Idx → EReal) (ix3 b n j)
      = Cert.Kernel6Ideal.Block.G6 x md nw w b n j := by
  unfold Cert.Kernel6Ideal.Block.G6
  rw [← projected]
  pointwise

/-- The third result: the values, lanes first in chunks of 128 tokens. -/
theorem values (b : Fin 8) (g : Fin 32) (j : Fin 1024) (r : Fin 128) :
    (truncf .bf16 (transpose S8x32x1024x128 [0, 1, 3, 2] (shapeCast S8x32x128x1024 (extractStridedSlice S8x4096x1024 ![0, 0, 2048] (proj x md nw w) slices_S8x4096x3072_S8x4096x1024_0_0_2048) shapeCasts_S8x4096x1024_S8x32x128x1024) transposes_S8x32x128x1024_S8x32x1024x128_0_1_3_2) bitsLt_bf16_f32 : S8x32x1024x128.Idx → EReal) (ix4 b g j r)
      = Cert.Kernel6Ideal.Block.G7 x md nw w b g j r := by
  unfold Cert.Kernel6Ideal.Block.G7
  rw [← projected]
  pointwise

end Cert.Reference6Ideal.RefValue

end
-- ==== Proof.NaClaim.lean ====
/-
  The input projection of the neighbourhood mixer equals its reference: all three result arrays hold the same numbers.
-/
module

public import proofs.«01_k».proof.Defs
public import proofs.«01_k».proof.Proof.NaFinal
public import proofs.«01_k».proof.Proof.NaRef
public import proofs.«01_k».proof.Proof.Gen.Kernel6Ideal.Value

@[expose] public section

set_option maxRecDepth 16384

noncomputable section

open Idealize.ShloMosaic Idealize.ShloMosaic.TcCoe Idealize.SL.Sem

namespace Cert.Proof

/-- The reference run leaves its arguments and its counters as they were. -/
theorem frame_ref6 : Cert.quiescent_Reference6Ideal := fun m ρ _ =>
  (θ_run _ _ _).mono (fun r h => ⟨fun c => (h c).2.2.2, sem_eq_zero_of_no_sems (by decide) r.2⟩) (Cert.Reference6Ideal.Value.run m ρ)

/-- From equal arguments the kernel's three result arrays and the reference's hold the same numbers. -/
theorem algebraic6 : Cert.algebraic_Kernel6Ideal_Reference6Ideal := by
  intro m ρ m' ρ' _ hagree
  refine ⟨fun c => (Cert.Kernel6Ideal.Gen.dats m 0 c).arrAt 5 (Cert.Kernel6Ideal.cfgs 0).N,
    fun c => (Cert.Kernel6Ideal.Gen.dats m 0 c).arrAt 6 (Cert.Kernel6Ideal.cfgs 0).N,
    fun c => (Cert.Kernel6Ideal.Gen.dats m 0 c).arrAt 7 (Cert.Kernel6Ideal.cfgs 0).N, Cert.Kernel6Ideal.Value.run_blocks m ρ, ?_⟩
  refine (θ_run _ _ _).mono (fun r h c => ⟨(h c).1.trans ?_, (h c).2.1.trans ?_, (h c).2.2.1.trans ?_, (h c).2.2.2⟩)
    (Cert.Reference6Ideal.Value.run m' ρ')
  · obtain ⟨h0, h1, h2, h3⟩ := hagree c
    refine Eq.trans ?_ (Cert.Kernel6Ideal.Block.final5 m c).symm
    funext i
    obtain ⟨b, g, j, r, rfl⟩ : ∃ (b : Fin 8) (g : Fin 8) (j : Fin 1024) (r : Fin 512), i = ix4 b g j r := ⟨i 0, i 1, i 2, i 3, eq_ix4 i⟩
    refine (Cert.Reference6Ideal.RefValue.queries (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) b g j r).trans ?_
    rw [h0, h1, h2, h3]
    rfl
  · obtain ⟨h0, h1, h2, h3⟩ := hagree c
    refine Eq.trans ?_ (Cert.Kernel6Ideal.Block.final6 m c).symm
    funext i
    obtain ⟨b, n, j, rfl⟩ : ∃ (b : Fin 8) (n : Fin 4096) (j : Fin 1024), i = ix3 b n j := ⟨i 0, i 1, i 2, eq_ix3 i⟩
    refine (Cert.Reference6Ideal.RefValue.keys (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) b n j).trans ?_
    rw [h0, h1, h2, h3]
    rfl
  · obtain ⟨h0, h1, h2, h3⟩ := hagree c
    refine Eq.trans ?_ (Cert.Kernel6Ideal.Block.final7 m c).symm
    funext i
    obtain ⟨b, g, j, r, rfl⟩ : ∃ (b : Fin 8) (g : Fin 32) (j : Fin 1024) (r : Fin 128), i = ix4 b g j r := ⟨i 0, i 1, i 2, i 3, eq_ix4 i⟩
    refine (Cert.Reference6Ideal.RefValue.values (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) b g j r).trans ?_
    rw [h0, h1, h2, h3]
    rfl

end Cert.Proof

end
-- ==== Proof.CtxFfnBlock.lean ====
/-
  The context's plain feed-forward call (first half step of a layer): what its body stores, row by row.
-/
module

public import proofs.«01_k».proof.Proof.FfnSpec
public import proofs.«01_k».proof.Proof.Gen.Kernel7Ideal.Frame

@[expose] public section

set_option maxRecDepth 16384

noncomputable section

open Idealize.ShloMosaic Idealize.ShloMosaic.TcCoe

namespace Cert.Kernel7Ideal.Block

open Cert.Kernel7Ideal Cert.Kernel7Ideal.Gen

/-- The block that the body stores at a grid point, read at a row and a column: the half step of that row, over the
    rows of the input blocks. -/
theorem block_value (x0 : FVec Ideal S1x256x1024 .f32) (x1 : FVec Ideal S1x9x1024 .f32) (x2 : FVec Ideal S3x1024 .f32)
    (x3 x4 : FVec Ideal S1x1x1024x2816 .bf16) (x5 : FVec Ideal S1x1x2816x1024 .bf16) (r : Fin 256) (j : Fin 1024) :
    (out0_6 (F := Ideal) x0 x1 x2 x3 x4 x5 : S1x256x1024.Idx → EReal) (ix3 0 r j)
      = Ffn.step (fun k => x0 (ix3 0 r k)) (fun k => x2 (ix2 0 k)) (fun k => x1 (ix3 0 1 k)) (fun k => x1 (ix3 0 0 k))
          (fun k => x1 (ix3 0 2 k)) (fun k f => x3 (ix4 0 0 k f)) (fun k f => x4 (ix4 0 0 k f))
          (fun f k => x5 (ix4 0 0 f k)) j := by
  unfold out0_6
  frame_out
  pointwise [k0_pay1, k0_pay2, k0_pay3, k0_pay4, k0_pay5]
  simp only [zero_sub]
  rfl

end Cert.Kernel7Ideal.Block

end
-- ==== Proof.CtxFfnArray.lean ====
/-
  The context's plain feed-forward call: what its result array holds after the run, as one function of the arguments.
-/
module

public import proofs.«01_k».proof.Proof.CtxFfnBlock

@[expose] public section

set_option maxRecDepth 16384

noncomputable section

open Idealize.ShloMosaic Idealize.ShloMosaic.TcCoe Idealize.SL.Sem
open Idealize.ShloMosaic.Pipeline (Dat)

namespace Cert.Kernel7Ideal.Block

open Cert.Kernel7Ideal Cert.Kernel7Ideal.Gen

variable (m : (ℓ : Loc nD τ sig) → Buf (Elt Ideal) ℓ)

/-- Where each window's block lies at a grid point. -/
theorem idx : ∀ t : Fin cfg0.N, win0_0.index t = ![(grid0.coords t 0).val, (grid0.coords t 1).val, 0]
    ∧ win0_1.index t = ![8, 0, 0] ∧ win0_2.index t = ![0, 0]
    ∧ win0_3.index t = ![0, 0, 0, 0] ∧ win0_4.index t = ![0, 0, 0, 0] ∧ win0_5.index t = ![0, 0, 0, 0]
    ∧ win0_6.index t = ![(grid0.coords t 0).val, (grid0.coords t 1).val, 0] :=
  (by decide +kernel : ∀ t : Fin grid0.N, _)

/-- The result as one function of the arguments: at each token the half step of its row. -/
def G (x : FVec Ideal S8x256x1024 .f32) (md : FVec Ideal S9x9x1024 .f32) (nw : FVec Ideal S2x3x1024 .f32)
    (w1 w3 : FVec Ideal S2x2x1024x2816 .f32) (w2 : FVec Ideal S2x2x2816x1024 .f32) (b : Fin 8) (i : Fin 256) (j : Fin 1024) : EReal :=
  Ffn.step (fun k => x (ix3 b i k)) (fun k => nw (ix3 0 0 k)) (fun k => md (ix3 8 1 k))
    (fun k => md (ix3 8 0 k)) (fun k => md (ix3 8 2 k))
    (fun k f => w1 (ix4 0 0 k f)) (fun k f => w3 (ix4 0 0 k f)) (fun f k => w2 (ix4 0 0 f k)) j

/-- After the run the result array holds `G` of the arguments. -/
theorem final (c : Dev nD) : (dats m 0 c).arrAt 6 (cfgs 0).N = (fun i : S8x256x1024.Idx =>
    (G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (i 0) (i 1) (i 2) : EReal)) := by
  refine (dats m 0 c).arrAt_eq_of_covers 6 _ (by decide +kernel) fun t _ y => ?_
  blk_simp
  rw [after0_6]
  obtain ⟨u, r, j, rfl⟩ : ∃ (u : Fin 1) (r : Fin 256) (j : Fin 1024), y = ix3 u r j := ⟨y 0, y 1, y 2, eq_ix3 y⟩
  obtain rfl : u = 0 := Subsingleton.elim _ _
  refine (block_value _ _ _ _ _ _ r j).trans ?_
  unfold G
  blk_point [iblk, V, idx t]

end Cert.Kernel7Ideal.Block

end
-- ==== Proof.CtxFfnRef.lean ====
/-
  The context's plain feed-forward reference: what it computes, row by row.
-/
module

public import proofs.«01_k».proof.Proof.FfnSpec
public import proofs.«01_k».proof.Proof.Gen.Reference7Ideal.Run

@[expose] public section

set_option maxRecDepth 16384

noncomputable section

open Idealize.ShloMosaic Idealize.ShloMosaic.TcCoe Idealize.SL.Sem

namespace Cert.Reference7Ideal.RefValue

open Cert.Reference7Ideal Cert.Reference7Ideal.Gen

/-- The reference's result at a token and a column: the half step of the token's row. -/
theorem ref_value (m : (ℓ : Loc nD τ sig) → Buf (Elt Ideal) ℓ) (c : Dev nD) (x : FVec Ideal S8x256x1024 .f32)
    (md : FVec Ideal S9x9x1024 .f32) (nw : FVec Ideal S2x3x1024 .f32)
    (w1 w3 : FVec Ideal S2x2x1024x2816 .f32) (w2 : FVec Ideal S2x2x2816x1024 .f32)
    (h0 : m ((c : Thread nD τ).loc main_arg0) = x) (h1 : m ((c : Thread nD τ).loc main_arg1) = md)
    (h2 : m ((c : Thread nD τ).loc main_arg2) = nw) (h3 : m ((c : Thread nD τ).loc main_arg3) = w1)
    (h4 : m ((c : Thread nD τ).loc main_arg4) = w3) (h5 : m ((c : Thread nD τ).loc main_arg5) = w2)
    (b : Fin 8) (i : Fin 256) (j : Fin 1024) :
    (Value.res_out0 m c : S8x256x1024.Idx → EReal) (ix3 b i j)
      = Ffn.step (fun k => x (ix3 b i k)) (fun k => nw (ix3 0 0 k)) (fun k => md (ix3 8 1 k))
          (fun k => md (ix3 8 0 k)) (fun k => md (ix3 8 2 k))
          (fun k f => w1 (ix4 0 0 k f)) (fun k f => w3 (ix4 0 0 k f)) (fun f k => w2 (ix4 0 0 f k)) j := by
  unfold Value.res_out0 Value.res_main_v44
  rw [h0, h1, h2, h3, h4, h5]
  pointwise
  rfl

end Cert.Reference7Ideal.RefValue

end
-- ==== Proof.CtxFfnClaim.lean ====
/-
  The context's plain feed-forward call equals its reference: both result arrays hold the half step of every token's row.
-/
module

public import proofs.«01_k».proof.Defs
public import proofs.«01_k».proof.Proof.CtxFfnArray
public import proofs.«01_k».proof.Proof.CtxFfnRef
public import proofs.«01_k».proof.Proof.Gen.Kernel7Ideal.Value

@[expose] public section

noncomputable section

open Idealize.ShloMosaic Idealize.ShloMosaic.TcCoe Idealize.SL.Sem

namespace Cert.Proof

/-- The reference run leaves its arguments and its counters as they were. -/
theorem frame_ref7 : Cert.quiescent_Reference7Ideal := fun m ρ _ =>
  (θ_run _ _ _).mono (fun r h => ⟨fun c => (h c).2, sem_eq_zero_of_no_sems (by decide) r.2⟩) (Cert.Reference7Ideal.Value.run m ρ)

/-- From equal arguments the kernel's result array and the reference's hold the same numbers. -/
theorem algebraic7 : Cert.algebraic_Kernel7Ideal_Reference7Ideal := by
  intro m ρ m' ρ' _ hagree
  refine ⟨fun c => (Cert.Kernel7Ideal.Gen.dats m 0 c).arrAt 6 (Cert.Kernel7Ideal.cfgs 0).N, Cert.Kernel7Ideal.Value.run_blocks m ρ, ?_⟩
  refine (θ_run _ _ _).mono (fun r h c => ⟨(h c).1.trans ?_, (h c).2⟩) (Cert.Reference7Ideal.Value.run m' ρ')
  obtain ⟨h0, h1, h2, h3, h4, h5⟩ := hagree c
  refine Eq.trans ?_ (Cert.Kernel7Ideal.Block.final m c).symm
  funext i
  obtain ⟨b, n, j, rfl⟩ : ∃ (b : Fin 8) (n : Fin 256) (j : Fin 1024), i = ix3 b n j := ⟨i 0, i 1, i 2, eq_ix3 i⟩
  exact Cert.Reference7Ideal.RefValue.ref_value m' c _ _ _ _ _ _ h0 h1 h2 h3 h4 h5 b n j

end Cert.Proof

end
-- ==== Proof.CtxMixBlock.lean ====
/-
  The context's feed-forward call that first adds the projected output of two mixers: what its body stores, row by row.
-/
module

public import proofs.«01_k».proof.Proof.FfnSpec
public import proofs.«01_k».proof.Proof.Gen.Kernel8Ideal.Frame

@[expose] public section

set_option maxRecDepth 16384

noncomputable section

open Idealize.ShloMosaic Idealize.ShloMosaic.TcCoe Idealize.SL.Sem

namespace Cert.Kernel8Ideal.Block

open Cert.Kernel8Ideal Cert.Kernel8Ideal.Gen

/-- The block that the body stores at a grid point, read at a row and a column: the half step of the row to which the two
    mixers' product with the upper and the lower half of the output weights has been added. -/
theorem block_value (x0 : FVec Ideal S1x256x1024 .f32) (x1 : FVec Ideal S1x9x1024 .f32) (x2 : FVec Ideal S3x1024 .f32)
    (x3 x4 : FVec Ideal S1x1x1024x2816 .bf16) (x5 : FVec Ideal S1x1x2816x1024 .bf16) (x6 x7 : FVec Ideal S1x256x512 .bf16)
    (x8 : FVec Ideal S1024x1024 .bf16) (r : Fin 256) (j : Fin 1024) :
    (out0_9 (F := Ideal) x0 x1 x2 x3 x4 x5 x6 x7 x8 : S1x256x1024.Idx → EReal) (ix3 0 r j)
      = Ffn.step (Ffn.mixed (fun k => x0 (ix3 0 r k)) (fun k => x1 (ix3 0 5 k))
            (fun k => (∑ q : Fin 512, x6 (ix3 0 r q) * x8 (ix2 ⟨q.val, by omega⟩ k)) + ∑ q : Fin 512, x7 (ix3 0 r q) * x8 (ix2 ⟨512 + q.val, by omega⟩ k)))
          (fun k => x2 (ix2 2 k)) (fun k => x1 (ix3 0 7 k)) (fun k => x1 (ix3 0 6 k))
          (fun k => x1 (ix3 0 8 k)) (fun k f => x3 (ix4 0 0 k f)) (fun k f => x4 (ix4 0 0 k f))
          (fun f k => x5 (ix4 0 0 f k)) j := by
  unfold_out out0_9
  frame_out
  pointwise [k0_pay1, k0_pay2, k0_pay3, k0_pay4, k0_pay5, k0_pay6, k0_pay7, k0_pay8, k0_pay9]
  simp only [zero_sub]
  rfl

end Cert.Kernel8Ideal.Block

end
-- ==== Proof.CtxMixArray.lean ====
/-
  The feed-forward call behind the two mixers at the context: what its result array holds after the run, as one function of the arguments.
-/
module

public import proofs.«01_k».proof.Proof.CtxMixBlock

@[expose] public section

set_option maxRecDepth 16384

noncomputable section

open Idealize.ShloMosaic Idealize.ShloMosaic.TcCoe Idealize.SL.Sem
open Idealize.ShloMosaic.Pipeline (Dat)

namespace Cert.Kernel8Ideal.Block

open Cert.Kernel8Ideal Cert.Kernel8Ideal.Gen

variable (m : (ℓ : Loc nD τ sig) → Buf (Elt Ideal) ℓ)

/-- Where each window's block lies at a grid point. -/
theorem idx : ∀ t : Fin cfg0.N, win0_0.index t = ![(grid0.coords t 0).val, (grid0.coords t 1).val, 0]
    ∧ win0_1.index t = ![8, 0, 0]
    ∧ win0_2.index t = ![0, 0]
    ∧ win0_3.index t = ![0, 1, 0, 0]
    ∧ win0_4.index t = ![0, 1, 0, 0]
    ∧ win0_5.index t = ![0, 1, 0, 0]
    ∧ win0_6.index t = ![(grid0.coords t 0).val, (grid0.coords t 1).val, 0]
    ∧ win0_7.index t = ![(grid0.coords t 0).val, (grid0.coords t 1).val, 0]
    ∧ win0_8.index t = ![0, 0]
    ∧ win0_9.index t = ![(grid0.coords t 0).val, (grid0.coords t 1).val, 0] :=
  (by decide +kernel : ∀ t : Fin grid0.N, _)

/-- The result as one function of the arguments, token by token. -/
def G (x : FVec Ideal S8x256x1024 .f32) (md : FVec Ideal S9x9x1024 .f32) (nw : FVec Ideal S2x3x1024 .f32)
    (w1 w3 : FVec Ideal S2x2x1024x2816 .f32) (w2 : FVec Ideal S2x2x2816x1024 .f32) (a : FVec Ideal S8x256x512 .f32) (bb : FVec Ideal S8x256x512 .f32) (wo : FVec Ideal S1x1024x1024 .f32)
    (b : Fin 8) (i : Fin 256) (j : Fin 1024) : EReal :=
  Ffn.step (Ffn.mixed (fun k => x (ix3 b i k)) (fun k => md (ix3 8 5 k))
      (fun k => (∑ q : Fin 512, a (ix3 b i q) * wo (ix3 0 ⟨q.val, by omega⟩ k)) + ∑ q : Fin 512, bb (ix3 b i q) * wo (ix3 0 ⟨512 + q.val, by omega⟩ k)))
    (fun k => nw (ix3 0 2 k)) (fun k => md (ix3 8 7 k)) (fun k => md (ix3 8 6 k)) (fun k => md (ix3 8 8 k))
    (fun k f => w1 (ix4 0 1 k f)) (fun k f => w3 (ix4 0 1 k f)) (fun f k => w2 (ix4 0 1 f k)) j

/-- After the run the result array holds `G` of the arguments. -/
theorem final (c : Dev nD) : (dats m 0 c).arrAt 9 (cfgs 0).N = (fun i : S8x256x1024.Idx =>
    (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1) (i 2) : EReal)) := by
  refine (dats m 0 c).arrAt_eq_of_covers 9 _ (by decide +kernel) fun t _ y => ?_
  blk_simp
  rw [after0_9]
  obtain ⟨u, r, j, rfl⟩ : ∃ (u : Fin 1) (r : Fin 256) (j : Fin 1024), y = ix3 u r j := ⟨y 0, y 1, y 2, eq_ix3 y⟩
  obtain rfl : u = 0 := Subsingleton.elim _ _
  refine (block_value _ _ _ _ _ _ _ _ _ r j).trans ?_
  unfold G
  blk_point [iblk, V, idx t]

end Cert.Kernel8Ideal.Block

end
-- ==== Proof.CtxMixRef.lean ====
/-
  The reference of the feed-forward call behind the two mixers at the context: its printed term cut in stages, and what each stage computes row by row.
-/
module

public import proofs.«01_k».proof.Proof.FfnSpec
public import proofs.«01_k».proof.Proof.Gen.Reference8Ideal.Run

@[expose] public section

set_option maxRecDepth 16384

noncomputable section

open Idealize.ShloMosaic Idealize.ShloMosaic.TcCoe Idealize.SL.Sem

namespace Cert.Reference8Ideal.RefValue

open Cert.Reference8Ideal Cert.Reference8Ideal.Gen

/-- The rows with the projected mixer output added. -/
def refMixed (x : FVec Ideal S8x256x1024 .f32) (md : FVec Ideal S9x9x1024 .f32) (a : FVec Ideal S8x256x512 .f32) (bb : FVec Ideal S8x256x512 .f32) (wo : FVec Ideal S1x1024x1024 .f32) : FVec Ideal S8x256x1024 .f32 :=
  addf x (mulf (broadcastInDim S8x256x1024 ![0, 1, 2] bcast_S1x1x1024_S8x256x1024_0_1_2 (shapeCast _ (extractStridedSlice S1x1x1x1024 ![0, 5, 0, 0] (shapeCast _ (extractStridedSlice S1x9x1024 ![8, 0, 0] md slices_S9x9x1024_S1x9x1024_8_0_0) shapeCasts_S1x9x1024_S1x9x1x1024) slices_S1x9x1x1024_S1x1x1x1024_0_5_0_0) shapeCasts_S1x1x1x1024_S1x1x1024)) (Host.dotGeneral dot_S8x256x1024_S1024x1024_S8x256x1024_2_0_01_1_n_n none (concatenate S8x256x1024 2 [⟨S8x256x512, a⟩, ⟨S8x256x512, bb⟩] concatenates_S8x256x512_S8x256x512_S8x256x1024_d2) (shapeCast _ wo shapeCasts_S1x1024x1024_S1024x1024)))

/-- The rows normed, scaled and shifted. -/
def refNormed (X : FVec Ideal S8x256x1024 .f32) (md : FVec Ideal S9x9x1024 .f32) (nw : FVec Ideal S2x3x1024 .f32) : FVec Ideal S8x256x1024 .f32 :=
  addf (mulf (mulf (mulf X (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf X X) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ (extractStridedSlice S1x1x1024 ![0, 2, 0] nw slices_S2x3x1024_S1x1x1024_0_2_0) shapeCasts_S1x1x1024_S1024)))) (broadcastInDim S8x256x1024 ![0, 1, 2] bcast_S1x1x1024_S8x256x1024_0_1_2 (addf (broadcastInDim S1x1x1024 ![] bcast_S_S1x1x1024 (constant S_ .f32 0x3F800000#32)) (shapeCast _ (extractStridedSlice S1x1x1x1024 ![0, 7, 0, 0] (shapeCast _ (extractStridedSlice S1x9x1024 ![8, 0, 0] md slices_S9x9x1024_S1x9x1024_8_0_0) shapeCasts_S1x9x1024_S1x9x1x1024) slices_S1x9x1x1024_S1x1x1x1024_0_7_0_0) shapeCasts_S1x1x1x1024_S1x1x1024)))) (broadcastInDim S8x256x1024 ![0, 1, 2] bcast_S1x1x1024_S8x256x1024_0_1_2 (shapeCast _ (extractStridedSlice S1x1x1x1024 ![0, 6, 0, 0] (shapeCast _ (extractStridedSlice S1x9x1024 ![8, 0, 0] md slices_S9x9x1024_S1x9x1024_8_0_0) shapeCasts_S1x9x1024_S1x9x1x1024) slices_S1x9x1x1024_S1x1x1x1024_0_6_0_0) shapeCasts_S1x1x1x1024_S1x1x1024))

/-- The rows after the half step. -/
def refStep (X : FVec Ideal S8x256x1024 .f32) (N : FVec Ideal S8x256x1024 .f32) (md : FVec Ideal S9x9x1024 .f32) (w1 : FVec Ideal S2x2x1024x2816 .f32) (w3 : FVec Ideal S2x2x1024x2816 .f32) (w2 : FVec Ideal S2x2x2816x1024 .f32) : FVec Ideal S8x256x1024 .f32 :=
  addf X (mulf (broadcastInDim S8x256x1024 ![0, 1, 2] bcast_S1x1x1024_S8x256x1024_0_1_2 (mulf (broadcastInDim S1x1x1024 ![] bcast_S_S1x1x1024 (constant S_ .f32 0x3F000000#32)) (shapeCast _ (extractStridedSlice S1x1x1x1024 ![0, 8, 0, 0] (shapeCast _ (extractStridedSlice S1x9x1024 ![8, 0, 0] md slices_S9x9x1024_S1x9x1024_8_0_0) shapeCasts_S1x9x1024_S1x9x1x1024) slices_S1x9x1x1024_S1x1x1x1024_0_8_0_0) shapeCasts_S1x1x1x1024_S1x1x1024))) (Host.dotGeneral dot_S8x256x2816_S2816x1024_S8x256x1024_2_0_01_1_n_n none (mulf (mulf (Host.dotGeneral dot_S8x256x1024_S1024x2816_S8x256x2816_2_0_01_1_n_n none N (shapeCast _ (extractStridedSlice S1x1x1024x2816 ![0, 1, 0, 0] w1 slices_S2x2x1024x2816_S1x1x1024x2816_0_1_0_0) shapeCasts_S1x1x1024x2816_S1024x2816)) (Host.divf (broadcastInDim S8x256x2816 ![] bcast_S_S8x256x2816 (constant S_ .f32 0x3F800000#32)) (addf (broadcastInDim S8x256x2816 ![] bcast_S_S8x256x2816 (constant S_ .f32 0x3F800000#32)) (Host.exp (Host.negf (Host.dotGeneral dot_S8x256x1024_S1024x2816_S8x256x2816_2_0_01_1_n_n none N (shapeCast _ (extractStridedSlice S1x1x1024x2816 ![0, 1, 0, 0] w1 slices_S2x2x1024x2816_S1x1x1024x2816_0_1_0_0) shapeCasts_S1x1x1024x2816_S1024x2816))))))) (Host.dotGeneral dot_S8x256x1024_S1024x2816_S8x256x2816_2_0_01_1_n_n none N (shapeCast _ (extractStridedSlice S1x1x1024x2816 ![0, 1, 0, 0] w3 slices_S2x2x1024x2816_S1x1x1024x2816_0_1_0_0) shapeCasts_S1x1x1024x2816_S1024x2816))) (shapeCast _ (extractStridedSlice S1x1x2816x1024 ![0, 1, 0, 0] w2 slices_S2x2x2816x1024_S1x1x2816x1024_0_1_0_0) shapeCasts_S1x1x2816x1024_S2816x1024)))

theorem refMixed_apply (x : FVec Ideal S8x256x1024 .f32) (md : FVec Ideal S9x9x1024 .f32) (a : FVec Ideal S8x256x512 .f32) (bb : FVec Ideal S8x256x512 .f32) (wo : FVec Ideal S1x1024x1024 .f32) (b : Fin 8) (i : Fin 256) (k : Fin 1024) :
    refMixed x md a bb wo (ix3 b i k) = Ffn.mixed (fun k => x (ix3 b i k)) (fun k => md (ix3 8 5 k)) (fun k => (∑ q : Fin 512, a (ix3 b i q) * wo (ix3 0 ⟨q.val, by omega⟩ k)) + ∑ q : Fin 512, bb (ix3 b i q) * wo (ix3 0 ⟨512 + q.val, by omega⟩ k)) k := by
  pointwise [refMixed]
  rfl

theorem refNormed_apply (X : FVec Ideal S8x256x1024 .f32) (md : FVec Ideal S9x9x1024 .f32) (nw : FVec Ideal S2x3x1024 .f32) (b : Fin 8) (i : Fin 256) (k : Fin 1024) :
    refNormed X md nw (ix3 b i k) = Ffn.normed (fun k => X (ix3 b i k)) (fun k => nw (ix3 0 2 k)) (fun k => md (ix3 8 7 k)) (fun k => md (ix3 8 6 k)) k := by
  pointwise [refNormed]
  rfl

theorem refStep_apply (X : FVec Ideal S8x256x1024 .f32) (N : FVec Ideal S8x256x1024 .f32) (md : FVec Ideal S9x9x1024 .f32) (w1 : FVec Ideal S2x2x1024x2816 .f32) (w3 : FVec Ideal S2x2x1024x2816 .f32) (w2 : FVec Ideal S2x2x2816x1024 .f32) (b : Fin 8) (i : Fin 256) (j : Fin 1024) :
    refStep X N md w1 w3 w2 (ix3 b i j) = X (ix3 b i j) + Ideal.ofBits .f32 0x3F000000#32 * md (ix3 8 8 j) *
      ∑ f, Ffn.silu (Ffn.up (fun k => N (ix3 b i k)) (fun k f => w1 (ix4 0 1 k f)) f) *
        Ffn.up (fun k => N (ix3 b i k)) (fun k f => w3 (ix4 0 1 k f)) f * w2 (ix4 0 1 f j) := by
  pointwise [refStep]
  rfl

/-- The half step of the mixed rows, read at a token and a column. -/
theorem refHalf_apply (x : FVec Ideal S8x256x1024 .f32) (md : FVec Ideal S9x9x1024 .f32) (a : FVec Ideal S8x256x512 .f32) (bb : FVec Ideal S8x256x512 .f32) (wo : FVec Ideal S1x1024x1024 .f32) (nw : FVec Ideal S2x3x1024 .f32) (w1 : FVec Ideal S2x2x1024x2816 .f32) (w3 : FVec Ideal S2x2x1024x2816 .f32) (w2 : FVec Ideal S2x2x2816x1024 .f32) (b : Fin 8) (i : Fin 256) (j : Fin 1024) :
    refStep (refMixed x md a bb wo) (refNormed (refMixed x md a bb wo) md nw) md w1 w3 w2 (ix3 b i j) = Ffn.step (Ffn.mixed (fun k => x (ix3 b i k)) (fun k => md (ix3 8 5 k)) (fun k => (∑ q : Fin 512, a (ix3 b i q) * wo (ix3 0 ⟨q.val, by omega⟩ k)) + ∑ q : Fin 512, bb (ix3 b i q) * wo (ix3 0 ⟨512 + q.val, by omega⟩ k))) (fun k => nw (ix3 0 2 k)) (fun k => md (ix3 8 7 k)) (fun k => md (ix3 8 6 k)) (fun k => md (ix3 8 8 k))
          (fun k f => w1 (ix4 0 1 k f)) (fun k f => w3 (ix4 0 1 k f)) (fun f k => w2 (ix4 0 1 f k)) j := by
  rw [refStep_apply]
  simp only [refNormed_apply, refMixed_apply]
  rfl

/-- The reference's result at a token and a column. -/
theorem ref_value (m : (ℓ : Loc nD τ sig) → Buf (Elt Ideal) ℓ) (c : Dev nD)
    (x : FVec Ideal S8x256x1024 .f32) (md : FVec Ideal S9x9x1024 .f32) (nw : FVec Ideal S2x3x1024 .f32) (w1 : FVec Ideal S2x2x1024x2816 .f32) (w3 : FVec Ideal S2x2x1024x2816 .f32) (w2 : FVec Ideal S2x2x2816x1024 .f32) (a : FVec Ideal S8x256x512 .f32) (bb : FVec Ideal S8x256x512 .f32) (wo : FVec Ideal S1x1024x1024 .f32)
    (h0 : m ((c : Thread nD τ).loc main_arg0) = x)
    (h1 : m ((c : Thread nD τ).loc main_arg1) = md)
    (h2 : m ((c : Thread nD τ).loc main_arg2) = nw)
    (h3 : m ((c : Thread nD τ).loc main_arg3) = w1)
    (h4 : m ((c : Thread nD τ).loc main_arg4) = w3)
    (h5 : m ((c : Thread nD τ).loc main_arg5) = w2)
    (h6 : m ((c : Thread nD τ).loc main_arg6) = a)
    (h7 : m ((c : Thread nD τ).loc main_arg7) = bb)
    (h8 : m ((c : Thread nD τ).loc main_arg8) = wo)
    (b : Fin 8) (i : Fin 256) (j : Fin 1024) :
    (Value.res_out0 m c : S8x256x1024.Idx → EReal) (ix3 b i j)
      = Ffn.step (Ffn.mixed (fun k => x (ix3 b i k)) (fun k => md (ix3 8 5 k)) (fun k => (∑ q : Fin 512, a (ix3 b i q) * wo (ix3 0 ⟨q.val, by omega⟩ k)) + ∑ q : Fin 512, bb (ix3 b i q) * wo (ix3 0 ⟨512 + q.val, by omega⟩ k))) (fun k => nw (ix3 0 2 k)) (fun k => md (ix3 8 7 k)) (fun k => md (ix3 8 6 k)) (fun k => md (ix3 8 8 k))
          (fun k f => w1 (ix4 0 1 k f)) (fun k f => w3 (ix4 0 1 k f)) (fun f k => w2 (ix4 0 1 f k)) j := by
  have e : (Value.res_out0 m c : S8x256x1024.Idx → EReal) = refStep (refMixed x md a bb wo) (refNormed (refMixed x md a bb wo) md nw) md w1 w3 w2 := by
    subst h0 h1 h2 h3 h4 h5 h6 h7 h8
    rfl
  rw [e]
  exact refHalf_apply x md a bb wo nw w1 w3 w2 b i j

end Cert.Reference8Ideal.RefValue

end
-- ==== Proof.CtxMixClaim.lean ====
/-
  The feed-forward call behind the two mixers at the context equals its reference: both result arrays hold the half step of every token's
  mixed row.
-/
module

public import proofs.«01_k».proof.Defs
public import proofs.«01_k».proof.Proof.CtxMixArray
public import proofs.«01_k».proof.Proof.CtxMixRef
public import proofs.«01_k».proof.Proof.Gen.Kernel8Ideal.Value

@[expose] public section

noncomputable section

open Idealize.ShloMosaic Idealize.ShloMosaic.TcCoe Idealize.SL.Sem

namespace Cert.Proof

/-- The reference run leaves its arguments and its counters as they were. -/
theorem frame_ref8 : Cert.quiescent_Reference8Ideal := fun m ρ _ =>
  (θ_run _ _ _).mono (fun r h => ⟨fun c => (h c).2, sem_eq_zero_of_no_sems (by decide) r.2⟩) (Cert.Reference8Ideal.Value.run m ρ)

/-- From equal arguments the kernel's result array and the reference's hold the same numbers. -/
theorem algebraic8 : Cert.algebraic_Kernel8Ideal_Reference8Ideal := by
  intro m ρ m' ρ' _ hagree
  refine ⟨fun c => (Cert.Kernel8Ideal.Gen.dats m 0 c).arrAt 9 (Cert.Kernel8Ideal.cfgs 0).N, Cert.Kernel8Ideal.Value.run_blocks m ρ, ?_⟩
  refine (θ_run _ _ _).mono (fun r h c => ⟨(h c).1.trans ?_, (h c).2⟩) (Cert.Reference8Ideal.Value.run m' ρ')
  obtain ⟨h0, h1, h2, h3, h4, h5, h6, h7, h8⟩ := hagree c
  refine Eq.trans ?_ (Cert.Kernel8Ideal.Block.final m c).symm
  funext i
  obtain ⟨b, n, j, rfl⟩ : ∃ (b : Fin 8) (n : Fin 256) (j : Fin 1024), i = ix3 b n j := ⟨i 0, i 1, i 2, eq_ix3 i⟩
  exact Cert.Reference8Ideal.RefValue.ref_value m' c _ _ _ _ _ _ _ _ _ h0 h1 h2 h3 h4 h5 h6 h7 h8 b n j

end Cert.Proof

end
-- ==== Proof.CtxProjBlock.lean ====
/-
  The input projection of layer 0's context: what its body stores into each result block.
-/
module

public import proofs.«01_k».proof.Proof.ProjSpec
public import proofs.«01_k».proof.Proof.Gen.Kernel9Ideal.Value

@[expose] public section

set_option maxRecDepth 16384

noncomputable section

open Idealize.ShloMosaic Idealize.ShloMosaic.TcCoe Idealize.SL.Sem

namespace Cert.Kernel9Ideal.Block

open Cert.Kernel9Ideal Cert.Kernel9Ideal.Gen

variable (x0 : FVec Ideal S1x256x1024 .f32) (x1 : FVec Ideal S1x9x1024 .f32) (x2 : FVec Ideal S3x1024 .f32)
    (x3 : FVec Ideal S1024x3072 .bf16)

/-- A row of a block normed and modulated. -/
abbrev row (r : Fin 256) : Fin 1024 → EReal :=
  Ffn.normed (fun k => x0 (ix3 0 r k)) (fun k => x2 (ix2 1 k)) (fun k => x1 (ix3 0 4 k)) (fun k => x1 (ix3 0 3 k))

/-- What the body stores for the queries: the row's products with its weight columns. -/
theorem block4 (r : Fin 256) (j : Fin 512) : (out0_4 (F := Ideal) x0 x1 x2 x3 : S1x256x512.Idx → EReal) (ix3 0 r j)
      = Proj.col (row x0 x1 x2 r) (fun k => x3 (ix2 k ⟨j.val, by omega⟩)) * Ideal.ofBits .f32 0x3E38AA3B#32 := by
  unfold_out out0_4
  frame_out
  pointwise [k0_pay4, k0_pay5]
  rfl

/-- What the body stores for the keys: the row's products with its weight columns. -/
theorem block5 (r : Fin 256) (j : Fin 512) : (out0_5 (F := Ideal) x0 x1 x2 x3 : S1x256x512.Idx → EReal) (ix3 0 r j)
      = Proj.col (row x0 x1 x2 r) (fun k => x3 (ix2 k ⟨512 + j.val, by omega⟩)) := by
  unfold_out out0_5
  frame_out
  pointwise [k0_pay4, k0_pay1]
  rfl

/-- What the body stores for the values: the row's products with its weight columns. -/
theorem block6 (r : Fin 256) (j : Fin 512) : (out0_6 (F := Ideal) x0 x1 x2 x3 : S1x256x512.Idx → EReal) (ix3 0 r j)
      = Proj.col (row x0 x1 x2 r) (fun k => x3 (ix2 k ⟨1024 + j.val, by omega⟩)) := by
  unfold_out out0_6
  frame_out
  pointwise [k0_pay4, k0_pay2]
  rfl

/-- What the body stores for the second branch's input: the row's products with its weight columns. -/
theorem block7 (r : Fin 256) (j : Fin 1536) : (out0_7 (F := Ideal) x0 x1 x2 x3 : S1x256x1536.Idx → EReal) (ix3 0 r j)
      = Proj.col (row x0 x1 x2 r) (fun k => x3 (ix2 k ⟨1536 + j.val, by omega⟩)) := by
  unfold_out out0_7
  frame_out
  pointwise [k0_pay4, k0_pay3]
  rfl

end Cert.Kernel9Ideal.Block

end
-- ==== Proof.CtxProjArray.lean ====
/-
  The input projection of layer 0's context: where the blocks of its windows lie in their arrays.
-/
module

public import proofs.«01_k».proof.Proof.CtxProjBlock

@[expose] public section

set_option maxRecDepth 16384

noncomputable section

open Idealize.ShloMosaic Idealize.ShloMosaic.TcCoe Idealize.SL.Sem Idealize.ShloMosaic.StableHlo

namespace Cert.Kernel9Ideal.Block

open Cert.Kernel9Ideal Cert.Kernel9Ideal.Gen

variable (m : (ℓ : Loc nD τ sig) → Buf (Elt Ideal) ℓ)

/-- The projection weights that the host hands over. -/
theorem weight_table (c : Dev nD) (k : Fin 1024) (j : Fin 3072) :
    (V m c main_v1 : S1024x3072.Idx → EReal) (ix2 k j) = (m ((c : Thread nD τ).loc main_arg3) : S1x1024x3072.Idx → EReal) (ix3 0 k j) := by
  unfold V
  simp only [hostOps0, List.flatten_cons, List.flatten_nil, List.append_nil, List.cons_append, List.nil_append, TRef.binary, TRef.nullary, TRef.ternary, TRef.unary, TRef.toBuf, TRef.ofBuf, cast_eq]
  after_results_simp
  pointwise

/-- The layer's norm weights that the host slices and hands over. -/
theorem norm_table (c : Dev nD) (a : Fin 3) (k : Fin 1024) :
    (V m c main_v3 : S3x1024.Idx → EReal) (ix2 a k) = (m ((c : Thread nD τ).loc main_arg2) : S2x3x1024.Idx → EReal) (ix3 0 a k) := by
  unfold V
  simp only [hostOps0, List.flatten_cons, List.flatten_nil, List.append_nil, List.cons_append, List.nil_append, TRef.binary, TRef.nullary, TRef.ternary, TRef.unary, TRef.toBuf, TRef.ofBuf, cast_eq]
  after_results_simp
  pointwise

/-- Where each window's block lies at a grid point. -/
theorem idx : ∀ t : Fin cfg0.N, win0_0.index t = ![(grid0.coords t 0).val, (grid0.coords t 1).val, 0]
    ∧ win0_1.index t = ![8, 0, 0] ∧ win0_2.index t = ![0, 0] ∧ win0_3.index t = ![0, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0] :=
  (by decide +kernel : ∀ t : Fin grid0.N, _)

/-- The batch entry of a grid point. -/
def bat (t : Fin cfg0.N) : Fin 8 := ⟨(grid0.coords t 0).val, (grid0.coords t 0).isLt⟩

/-- The token of a grid point's row. -/
def tok (t : Fin cfg0.N) (r : Fin 256) : Fin 256 :=
  ⟨(grid0.coords t 1).val * 256 + r.val, by have h : (grid0.coords t 1).val < 1 := (grid0.coords t 1).isLt; omega⟩

/-- The context block's row is the token's row. -/
theorem w0 (c : Dev nD) (t : Fin cfg0.N) (r : Fin 256) (k : Fin 1024) : (iblk m c 0 t : S1x256x1024.Idx → EReal) (ix3 0 r k)
    = (m ((c : Thread nD τ).loc main_arg0) : S8x256x1024.Idx → EReal) (ix3 (bat t) (tok t r) k) := by
  rw [← V_main_arg0 m c]
  unfold bat tok
  blk_point [iblk, idx t]

/-- The modulation block is the last one. -/
theorem w1 (c : Dev nD) (t : Fin cfg0.N) (a : Fin 9) (k : Fin 1024) : (iblk m c 1 t : S1x9x1024.Idx → EReal) (ix3 0 a k)
    = (m ((c : Thread nD τ).loc main_arg1) : S9x9x1024.Idx → EReal) (ix3 8 a k) := by
  rw [← V_main_arg1 m c]
  blk_point [iblk, idx t]

/-- The norm weights, whole. -/
theorem w2 (c : Dev nD) (t : Fin cfg0.N) (a : Fin 3) (k : Fin 1024) : (iblk m c 2 t : S3x1024.Idx → EReal) (ix2 a k)
    = (m ((c : Thread nD τ).loc main_arg2) : S2x3x1024.Idx → EReal) (ix3 0 a k) := by
  refine Eq.trans ?_ (norm_table m c a k)
  blk_point [iblk, idx t]

/-- The projection weights, whole. -/
theorem w3 (c : Dev nD) (t : Fin cfg0.N) (k : Fin 1024) (j : Fin 3072) : (iblk m c 3 t : S1024x3072.Idx → EReal) (ix2 k j)
    = (m ((c : Thread nD τ).loc main_arg3) : S1x1024x3072.Idx → EReal) (ix3 0 k j) := by
  refine Eq.trans ?_ (weight_table m c k j)
  blk_point [iblk, idx t]

/-- Where window 4's block puts its row and lane. -/
theorem at4 (t : Fin cfg0.N) (r : Fin 256) (j : Fin 512) :
    (ix3 (bat t) (tok t r) j : S8x256x512.Idx) = (win0_4.blk t).view.emb (ix3 0 r j) := by
  unfold bat tok
  blk_ext [idx t]

/-- Where window 5's block puts its row and lane. -/
theorem at5 (t : Fin cfg0.N) (r : Fin 256) (j : Fin 512) :
    (ix3 (bat t) (tok t r) j : S8x256x512.Idx) = (win0_5.blk t).view.emb (ix3 0 r j) := by
  unfold bat tok
  blk_ext [idx t]

/-- Where window 6's block puts its row and lane. -/
theorem at6 (t : Fin cfg0.N) (r : Fin 256) (j : Fin 512) :
    (ix3 (bat t) (tok t r) j : S8x256x512.Idx) = (win0_6.blk t).view.emb (ix3 0 r j) := by
  unfold bat tok
  blk_ext [idx t]

/-- Where window 7's block puts its row and lane. -/
theorem at7 (t : Fin cfg0.N) (r : Fin 256) (j : Fin 1536) :
    (ix3 (bat t) (tok t r) j : S8x256x1536.Idx) = (win0_7.blk t).view.emb (ix3 0 r j) := by
  unfold bat tok
  blk_ext [idx t]

end Cert.Kernel9Ideal.Block

end
-- ==== Proof.CtxProjFinal.lean ====
/-
  The input projection of layer 0's context: what its result arrays hold after the run, as functions of the arguments.
-/
module

public import proofs.«01_k».proof.Proof.CtxProjArray

@[expose] public section

set_option maxRecDepth 16384

noncomputable section

open Idealize.ShloMosaic Idealize.ShloMosaic.TcCoe Idealize.SL.Sem

namespace Cert.Kernel9Ideal.Block

open Cert.Kernel9Ideal Cert.Kernel9Ideal.Gen

variable (m : (ℓ : Loc nD τ sig) → Buf (Elt Ideal) ℓ)

/-- A token's product with one weight column after its norm and modulation; all tokens take the last row of the modulation. -/
def prod (x : FVec Ideal S8x256x1024 .f32) (md : FVec Ideal S9x9x1024 .f32) (nw : FVec Ideal S2x3x1024 .f32)
    (w : FVec Ideal S1x1024x3072 .f32) (b : Fin 8) (n : Fin 256) (j : Fin 3072) : EReal :=
  Proj.col (Ffn.normed (fun k => x (ix3 b n k)) (fun k => nw (ix3 0 1 k)) (fun k => md (ix3 8 4 k))
    (fun k => md (ix3 8 3 k))) (fun k => w (ix3 0 k j))

/-- A block row's product with a weight column is the token's. -/
theorem prod_eq (c : Dev nD) (t : Fin cfg0.N) (r : Fin 256) (j : Fin 3072) :
    Proj.col (row (iblk m c 0 t) (iblk m c 1 t) (iblk m c 2 t) r) (fun k => (iblk m c 3 t : S1024x3072.Idx → EReal) (ix2 k j))
      = prod (m ((c : Thread nD τ).loc main_arg0)) (m ((c : Thread nD τ).loc main_arg1)) (m ((c : Thread nD τ).loc main_arg2)) (m ((c : Thread nD τ).loc main_arg3)) (bat t) (tok t r) j := by
  unfold row prod
  simp only [w0, w1, w2, w3]

/-- The queries as a function of the arguments. -/
def G4 (x : FVec Ideal S8x256x1024 .f32) (md : FVec Ideal S9x9x1024 .f32) (nw : FVec Ideal S2x3x1024 .f32)
    (w : FVec Ideal S1x1024x3072 .f32) (b : Fin 8) (n : Fin 256) (j : Fin 512) : EReal :=
  prod x md nw w b n ⟨j.val, by omega⟩ * Ideal.ofBits .f32 0x3E38AA3B#32

/-- The keys as a function of the arguments. -/
def G5 (x : FVec Ideal S8x256x1024 .f32) (md : FVec Ideal S9x9x1024 .f32) (nw : FVec Ideal S2x3x1024 .f32)
    (w : FVec Ideal S1x1024x3072 .f32) (b : Fin 8) (n : Fin 256) (j : Fin 512) : EReal :=
  prod x md nw w b n ⟨512 + j.val, by omega⟩

/-- The values as a function of the arguments. -/
def G6 (x : FVec Ideal S8x256x1024 .f32) (md : FVec Ideal S9x9x1024 .f32) (nw : FVec Ideal S2x3x1024 .f32)
    (w : FVec Ideal S1x1024x3072 .f32) (b : Fin 8) (n : Fin 256) (j : Fin 512) : EReal :=
  prod x md nw w b n ⟨1024 + j.val, by omega⟩

/-- The second branch's input as a function of the arguments. -/
def G7 (x : FVec Ideal S8x256x1024 .f32) (md : FVec Ideal S9x9x1024 .f32) (nw : FVec Ideal S2x3x1024 .f32)
    (w : FVec Ideal S1x1024x3072 .f32) (b : Fin 8) (n : Fin 256) (j : Fin 1536) : EReal :=
  prod x md nw w b n ⟨1536 + j.val, by omega⟩

/-- After the run the queries array holds its function of the arguments. -/
theorem final4 (c : Dev nD) : (dats m 0 c).arrAt 4 (cfgs 0).N = (fun i : S8x256x512.Idx =>
    (G4 (m ((c : Thread nD τ).loc main_arg0)) (m ((c : Thread nD τ).loc main_arg1)) (m ((c : Thread nD τ).loc main_arg2)) (m ((c : Thread nD τ).loc main_arg3)) (i 0) (i 1) (i 2) : EReal)) := by
  refine (dats m 0 c).arrAt_eq_of_covers 4 _ (by decide +kernel) fun t _ y => ?_
  blk_simp
  rw [after0_4]
  obtain ⟨u, r, j, rfl⟩ : ∃ (u : Fin 1) (r : Fin 256) (j : Fin 512), y = ix3 u r j := ⟨y 0, y 1, y 2, eq_ix3 y⟩
  obtain rfl : u = 0 := Subsingleton.elim _ _
  refine (block4  _ _ _ _ r j).trans ?_
  rw [prod_eq]
  have e := at4 t r j
  dsimp only at e ⊢
  refine Eq.trans ?_ (congrArg (fun i : S8x256x512.Idx => (G4 (m ((c : Thread nD τ).loc main_arg0)) (m ((c : Thread nD τ).loc main_arg1)) (m ((c : Thread nD τ).loc main_arg2)) (m ((c : Thread nD τ).loc main_arg3)) (i 0) (i 1) (i 2) : EReal)) e)
  unfold G4
  rfl

/-- After the run the keys array holds its function of the arguments. -/
theorem final5 (c : Dev nD) : (dats m 0 c).arrAt 5 (cfgs 0).N = (fun i : S8x256x512.Idx =>
    (G5 (m ((c : Thread nD τ).loc main_arg0)) (m ((c : Thread nD τ).loc main_arg1)) (m ((c : Thread nD τ).loc main_arg2)) (m ((c : Thread nD τ).loc main_arg3)) (i 0) (i 1) (i 2) : EReal)) := by
  refine (dats m 0 c).arrAt_eq_of_covers 5 _ (by decide +kernel) fun t _ y => ?_
  blk_simp
  rw [after0_5]
  obtain ⟨u, r, j, rfl⟩ : ∃ (u : Fin 1) (r : Fin 256) (j : Fin 512), y = ix3 u r j := ⟨y 0, y 1, y 2, eq_ix3 y⟩
  obtain rfl : u = 0 := Subsingleton.elim _ _
  refine (block5  _ _ _ _ r j).trans ?_
  rw [prod_eq]
  have e := at5 t r j
  dsimp only at e ⊢
  refine Eq.trans ?_ (congrArg (fun i : S8x256x512.Idx => (G5 (m ((c : Thread nD τ).loc main_arg0)) (m ((c : Thread nD τ).loc main_arg1)) (m ((c : Thread nD τ).loc main_arg2)) (m ((c : Thread nD τ).loc main_arg3)) (i 0) (i 1) (i 2) : EReal)) e)
  unfold G5
  rfl

/-- After the run the values array holds its function of the arguments. -/
theorem final6 (c : Dev nD) : (dats m 0 c).arrAt 6 (cfgs 0).N = (fun i : S8x256x512.Idx =>
    (G6 (m ((c : Thread nD τ).loc main_arg0)) (m ((c : Thread nD τ).loc main_arg1)) (m ((c : Thread nD τ).loc main_arg2)) (m ((c : Thread nD τ).loc main_arg3)) (i 0) (i 1) (i 2) : EReal)) := by
  refine (dats m 0 c).arrAt_eq_of_covers 6 _ (by decide +kernel) fun t _ y => ?_
  blk_simp
  rw [after0_6]
  obtain ⟨u, r, j, rfl⟩ : ∃ (u : Fin 1) (r : Fin 256) (j : Fin 512), y = ix3 u r j := ⟨y 0, y 1, y 2, eq_ix3 y⟩
  obtain rfl : u = 0 := Subsingleton.elim _ _
  refine (block6  _ _ _ _ r j).trans ?_
  rw [prod_eq]
  have e := at6 t r j
  dsimp only at e ⊢
  refine Eq.trans ?_ (congrArg (fun i : S8x256x512.Idx => (G6 (m ((c : Thread nD τ).loc main_arg0)) (m ((c : Thread nD τ).loc main_arg1)) (m ((c : Thread nD τ).loc main_arg2)) (m ((c : Thread nD τ).loc main_arg3)) (i 0) (i 1) (i 2) : EReal)) e)
  unfold G6
  rfl

/-- After the run the second branch's input array holds its function of the arguments. -/
theorem final7 (c : Dev nD) : (dats m 0 c).arrAt 7 (cfgs 0).N = (fun i : S8x256x1536.Idx =>
    (G7 (m ((c : Thread nD τ).loc main_arg0)) (m ((c : Thread nD τ).loc main_arg1)) (m ((c : Thread nD τ).loc main_arg2)) (m ((c : Thread nD τ).loc main_arg3)) (i 0) (i 1) (i 2) : EReal)) := by
  refine (dats m 0 c).arrAt_eq_of_covers 7 _ (by decide +kernel) fun t _ y => ?_
  blk_simp
  rw [after0_7]
  obtain ⟨u, r, j, rfl⟩ : ∃ (u : Fin 1) (r : Fin 256) (j : Fin 1536), y = ix3 u r j := ⟨y 0, y 1, y 2, eq_ix3 y⟩
  obtain rfl : u = 0 := Subsingleton.elim _ _
  refine (block7  _ _ _ _ r j).trans ?_
  rw [prod_eq]
  have e := at7 t r j
  dsimp only at e ⊢
  refine Eq.trans ?_ (congrArg (fun i : S8x256x1536.Idx => (G7 (m ((c : Thread nD τ).loc main_arg0)) (m ((c : Thread nD τ).loc main_arg1)) (m ((c : Thread nD τ).loc main_arg2)) (m ((c : Thread nD τ).loc main_arg3)) (i 0) (i 1) (i 2) : EReal)) e)
  unfold G7
  rfl

end Cert.Kernel9Ideal.Block

end
-- ==== Proof.CtxProjRef.lean ====
/-
  The reference of the projection of layer 0's context: what each of its results holds.
-/
module

public import proofs.«01_k».proof.Proof.CtxProjFinal
public import proofs.«01_k».proof.Proof.Gen.Reference9Ideal.Run

@[expose] public section

set_option maxRecDepth 16384

noncomputable section

open Idealize.ShloMosaic Idealize.ShloMosaic.TcCoe Idealize.SL.Sem

namespace Cert.Reference9Ideal.RefValue

open Cert.Reference9Ideal Cert.Reference9Ideal.Gen

variable (x : FVec Ideal S8x256x1024 .f32) (md : FVec Ideal S9x9x1024 .f32) (nw : FVec Ideal S2x3x1024 .f32)
    (w : FVec Ideal S1x1024x3072 .f32)

/-- The projected array as the reference writes it: norm, modulation, product. -/
def proj : FVec Ideal S8x256x3072 .f32 :=
  Host.dotGeneral dot_S8x256x1024_S1024x3072_S8x256x3072_2_0_01_1_n_n none (addf (mulf (mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ (extractStridedSlice S1x1x1024 ![0, 1, 0] nw slices_S2x3x1024_S1x1x1024_0_1_0) shapeCasts_S1x1x1024_S1024)))) (broadcastInDim S8x256x1024 ![0, 1, 2] bcast_S1x1x1024_S8x256x1024_0_1_2 (addf (broadcastInDim S1x1x1024 ![] bcast_S_S1x1x1024 (constant S_ .f32 0x3F800000#32)) (shapeCast _ (extractStridedSlice S1x1x1x1024 ![0, 4, 0, 0] (shapeCast _ (extractStridedSlice S1x9x1024 ![8, 0, 0] md slices_S9x9x1024_S1x9x1024_8_0_0) shapeCasts_S1x9x1024_S1x9x1x1024) slices_S1x9x1x1024_S1x1x1x1024_0_4_0_0) shapeCasts_S1x1x1x1024_S1x1x1024)))) (broadcastInDim S8x256x1024 ![0, 1, 2] bcast_S1x1x1024_S8x256x1024_0_1_2 (shapeCast _ (extractStridedSlice S1x1x1x1024 ![0, 3, 0, 0] (shapeCast _ (extractStridedSlice S1x9x1024 ![8, 0, 0] md slices_S9x9x1024_S1x9x1024_8_0_0) shapeCasts_S1x9x1024_S1x9x1x1024) slices_S1x9x1x1024_S1x1x1x1024_0_3_0_0) shapeCasts_S1x1x1x1024_S1x1x1024))) (shapeCast _ w shapeCasts_S1x1024x3072_S1024x3072)

/-- A token and a column of it. -/
theorem projected (b : Fin 8) (n : Fin 256) (j : Fin 3072) : (proj x md nw w : S8x256x3072.Idx → EReal) (ix3 b n j)
    = Cert.Kernel9Ideal.Block.prod x md nw w b n j := by
  unfold proj
  pointwise
  rfl

/-- The queries. -/
theorem queries (b : Fin 8) (n : Fin 256) (j : Fin 512) :
    (truncf .bf16 (mulf (extractStridedSlice S8x256x512 ![0, 0, 0] (proj x md nw w) slices_S8x256x3072_S8x256x512_0_0_0) (broadcastInDim S8x256x512 ![] bcast_S_S8x256x512 (constant S_ .f32 0x3E38AA3B#32))) bitsLt_bf16_f32 : S8x256x512.Idx → EReal) (ix3 b n j)
      = Cert.Kernel9Ideal.Block.G4 x md nw w b n j := by
  unfold Cert.Kernel9Ideal.Block.G4
  rw [← projected]
  pointwise

/-- The keys. -/
theorem keys (b : Fin 8) (n : Fin 256) (j : Fin 512) :
    (truncf .bf16 (extractStridedSlice S8x256x512 ![0, 0, 512] (proj x md nw w) slices_S8x256x3072_S8x256x512_0_0_512) bitsLt_bf16_f32 : S8x256x512.Idx → EReal) (ix3 b n j)
      = Cert.Kernel9Ideal.Block.G5 x md nw w b n j := by
  unfold Cert.Kernel9Ideal.Block.G5
  rw [← projected]
  pointwise

/-- The values. -/
theorem values (b : Fin 8) (n : Fin 256) (j : Fin 512) :
    (truncf .bf16 (extractStridedSlice S8x256x512 ![0, 0, 1024] (proj x md nw w) slices_S8x256x3072_S8x256x512_0_0_1024) bitsLt_bf16_f32 : S8x256x512.Idx → EReal) (ix3 b n j)
      = Cert.Kernel9Ideal.Block.G6 x md nw w b n j := by
  unfold Cert.Kernel9Ideal.Block.G6
  rw [← projected]
  pointwise

/-- The second branch's input. -/
theorem branch (b : Fin 8) (n : Fin 256) (j : Fin 1536) :
    (truncf .bf16 (extractStridedSlice S8x256x1536 ![0, 0, 1536] (proj x md nw w) slices_S8x256x3072_S8x256x1536_0_0_1536) bitsLt_bf16_f32 : S8x256x1536.Idx → EReal) (ix3 b n j)
      = Cert.Kernel9Ideal.Block.G7 x md nw w b n j := by
  unfold Cert.Kernel9Ideal.Block.G7
  rw [← projected]
  pointwise

end Cert.Reference9Ideal.RefValue

end
-- ==== Proof.CtxProjClaim.lean ====
/-
  The input projection of layer 0's context equals its reference.
-/
module

public import proofs.«01_k».proof.Defs
public import proofs.«01_k».proof.Proof.CtxProjRef
public import proofs.«01_k».proof.Proof.Gen.Kernel9Ideal.Value

@[expose] public section

set_option maxRecDepth 16384

noncomputable section

open Idealize.ShloMosaic Idealize.ShloMosaic.TcCoe Idealize.SL.Sem

namespace Cert.Proof

/-- The reference run leaves its arguments and its counters as they were. -/
theorem frame_ref9 : Cert.quiescent_Reference9Ideal := fun m ρ _ =>
  (θ_run _ _ _).mono (fun r h => ⟨fun c => (h c).2.2.2.2, sem_eq_zero_of_no_sems (by decide) r.2⟩) (Cert.Reference9Ideal.Value.run m ρ)

/-- From equal arguments the kernel's four result arrays and the reference's hold the same numbers. -/
theorem algebraic9 : Cert.algebraic_Kernel9Ideal_Reference9Ideal := by
  intro m ρ m' ρ' _ hagree
  refine ⟨fun c => (Cert.Kernel9Ideal.Gen.dats m 0 c).arrAt 4 (Cert.Kernel9Ideal.cfgs 0).N,
    fun c => (Cert.Kernel9Ideal.Gen.dats m 0 c).arrAt 5 (Cert.Kernel9Ideal.cfgs 0).N,
    fun c => (Cert.Kernel9Ideal.Gen.dats m 0 c).arrAt 6 (Cert.Kernel9Ideal.cfgs 0).N,
    fun c => (Cert.Kernel9Ideal.Gen.dats m 0 c).arrAt 7 (Cert.Kernel9Ideal.cfgs 0).N, Cert.Kernel9Ideal.Value.run_blocks m ρ, ?_⟩
  refine (θ_run _ _ _).mono (fun r h c => ⟨(h c).1.trans ?_, (h c).2.1.trans ?_, (h c).2.2.1.trans ?_, (h c).2.2.2.1.trans ?_, (h c).2.2.2.2⟩)
    (Cert.Reference9Ideal.Value.run m' ρ')
  · obtain ⟨h0, h1, h2, h3⟩ := hagree c
    refine Eq.trans ?_ (Cert.Kernel9Ideal.Block.final4 m c).symm
    funext i
    obtain ⟨b, n, j, rfl⟩ : ∃ (b : Fin 8) (n : Fin 256) (j : Fin 512), i = ix3 b n j := ⟨i 0, i 1, i 2, eq_ix3 i⟩
    refine (Cert.Reference9Ideal.RefValue.queries (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) b n j).trans ?_
    rw [h0, h1, h2, h3]
    rfl
  · obtain ⟨h0, h1, h2, h3⟩ := hagree c
    refine Eq.trans ?_ (Cert.Kernel9Ideal.Block.final5 m c).symm
    funext i
    obtain ⟨b, n, j, rfl⟩ : ∃ (b : Fin 8) (n : Fin 256) (j : Fin 512), i = ix3 b n j := ⟨i 0, i 1, i 2, eq_ix3 i⟩
    refine (Cert.Reference9Ideal.RefValue.keys (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) b n j).trans ?_
    rw [h0, h1, h2, h3]
    rfl
  · obtain ⟨h0, h1, h2, h3⟩ := hagree c
    refine Eq.trans ?_ (Cert.Kernel9Ideal.Block.final6 m c).symm
    funext i
    obtain ⟨b, n, j, rfl⟩ : ∃ (b : Fin 8) (n : Fin 256) (j : Fin 512), i = ix3 b n j := ⟨i 0, i 1, i 2, eq_ix3 i⟩
    refine (Cert.Reference9Ideal.RefValue.values (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) b n j).trans ?_
    rw [h0, h1, h2, h3]
    rfl
  · obtain ⟨h0, h1, h2, h3⟩ := hagree c
    refine Eq.trans ?_ (Cert.Kernel9Ideal.Block.final7 m c).symm
    funext i
    obtain ⟨b, n, j, rfl⟩ : ∃ (b : Fin 8) (n : Fin 256) (j : Fin 1536), i = ix3 b n j := ⟨i 0, i 1, i 2, eq_ix3 i⟩
    refine (Cert.Reference9Ideal.RefValue.branch (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) b n j).trans ?_
    rw [h0, h1, h2, h3]
    rfl

end Cert.Proof

end
-- ==== Proof.CtxNaBlock.lean ====
/-
  The input projection of layer 1's context: what its body stores into each result block.
-/
module

public import proofs.«01_k».proof.Proof.ProjSpec
public import proofs.«01_k».proof.Proof.Gen.Kernel10Ideal.Value

@[expose] public section

set_option maxRecDepth 16384

noncomputable section

open Idealize.ShloMosaic Idealize.ShloMosaic.TcCoe Idealize.SL.Sem

namespace Cert.Kernel10Ideal.Block

open Cert.Kernel10Ideal Cert.Kernel10Ideal.Gen

variable (x0 : FVec Ideal S1x256x1024 .f32) (x1 : FVec Ideal S1x9x1024 .f32) (x2 : FVec Ideal S3x1024 .f32)
    (x3 : FVec Ideal S1024x2048 .bf16) (x4 : FVec Ideal S1024x1024 .bf16)

/-- A row of a block normed and modulated. -/
abbrev row (r : Fin 256) : Fin 1024 → EReal :=
  Ffn.normed (fun k => x0 (ix3 0 r k)) (fun k => x2 (ix2 1 k)) (fun k => x1 (ix3 0 4 k)) (fun k => x1 (ix3 0 3 k))

/-- A weight row times a token row is the token row times the weight row. -/
theorem col_comm (y w : Fin 1024 → EReal) : ∑ k, w k * y k = Proj.col y w :=
  Finset.sum_congr rfl fun k _ => mul_comm _ _

/-- What the body stores for the keys: the row's products with the first 1024 weight columns it is given. -/
theorem block5 (r : Fin 256) (j : Fin 1024) : (out0_5 (F := Ideal) x0 x1 x2 x3 x4 : S1x256x1024.Idx → EReal) (ix3 0 r j)
      = Proj.col (row x0 x1 x2 r) (fun k => x3 (ix2 k ⟨j.val, by omega⟩)) := by
  unfold_out out0_5
  frame_out
  pointwise [k0_pay4, k0_pay5]
  rfl

/-- What the body stores for the values, lanes first in chunks of 128 rows: the row's products with the turned weights. -/
theorem block6 (a : Fin 2) (j : Fin 1024) (r : Fin 128) : (out0_6 (F := Ideal) x0 x1 x2 x3 x4 : S1x2x1024x128.Idx → EReal) (ix4 0 a j r)
      = Proj.col (row x0 x1 x2 ⟨a.val * 128 + r.val, by omega⟩) (fun k => x4 (ix2 j k)) := by
  unfold_out out0_6
  refine (Value.canon6_eq _ _ _ _ _ (ix4 0 a j r)).trans ?_
  have e : Value.ix6_0 (ix4 0 a j r) = ix2 j (⟨a.val * 128 + r.val, by omega⟩ : Fin 256) := by
    funext q
    match q with
    | ⟨0, _⟩ => rfl
    | ⟨1, _⟩ => rfl
  show (k0_pay1 (F := Ideal) (k0_pay4 (F := Ideal) _ _ _ _) _ : S1024x256.Idx → EReal) (Value.ix6_0 (ix4 0 a j r)) = _
  rw [e]
  rw [← col_comm]
  pointwise [k0_pay1, k0_pay4]
  rfl

end Cert.Kernel10Ideal.Block

end
-- ==== Proof.CtxNaArray.lean ====
/-
  The input projection of layer 1's context: where the blocks of its windows lie in their arrays.
-/
module

public import proofs.«01_k».proof.Proof.CtxNaBlock

@[expose] public section

set_option maxRecDepth 16384

noncomputable section

open Idealize.ShloMosaic Idealize.ShloMosaic.TcCoe Idealize.SL.Sem Idealize.ShloMosaic.StableHlo

namespace Cert.Kernel10Ideal.Block

open Cert.Kernel10Ideal Cert.Kernel10Ideal.Gen

variable (m : (ℓ : Loc nD τ sig) → Buf (Elt Ideal) ℓ)

/-- The projection weights that the host hands over, without the query columns. -/
theorem weight_table (c : Dev nD) (k : Fin 1024) (j : Fin 2048) :
    (V m c main_v4 : S1024x2048.Idx → EReal) (ix2 k j) = (m ((c : Thread nD τ).loc main_arg3) : S1x1024x3072.Idx → EReal) (ix3 0 k ⟨1024 + j.val, by omega⟩) := by
  unfold V
  simp only [hostOps0, List.flatten_cons, List.flatten_nil, List.append_nil, List.cons_append, List.nil_append, TRef.binary, TRef.nullary, TRef.ternary, TRef.unary, TRef.toBuf, TRef.ofBuf, cast_eq]
  after_results_simp
  pointwise

/-- The value weights, turned. -/
theorem turned_table (c : Dev nD) (j k : Fin 1024) :
    (V m c main_v6 : S1024x1024.Idx → EReal) (ix2 j k) = (m ((c : Thread nD τ).loc main_arg3) : S1x1024x3072.Idx → EReal) (ix3 0 k ⟨2048 + j.val, by omega⟩) := by
  have e : (⟨2048 + j.val, by omega⟩ : Fin 3072) = ⟨1024 + (1024 + j.val), by omega⟩ := Fin.ext (by dsimp only; omega)
  rw [e]
  unfold V
  simp only [hostOps0, List.flatten_cons, List.flatten_nil, List.append_nil, List.cons_append, List.nil_append, TRef.binary, TRef.nullary, TRef.ternary, TRef.unary, TRef.toBuf, TRef.ofBuf, cast_eq]
  after_results_simp
  pointwise

/-- The layer's norm weights that the host slices and hands over. -/
theorem norm_table (c : Dev nD) (a : Fin 3) (k : Fin 1024) :
    (V m c main_v3 : S3x1024.Idx → EReal) (ix2 a k) = (m ((c : Thread nD τ).loc main_arg2) : S2x3x1024.Idx → EReal) (ix3 1 a k) := by
  unfold V
  simp only [hostOps0, List.flatten_cons, List.flatten_nil, List.append_nil, List.cons_append, List.nil_append, TRef.binary, TRef.nullary, TRef.ternary, TRef.unary, TRef.toBuf, TRef.ofBuf, cast_eq]
  after_results_simp
  pointwise

/-- Where each window's block lies at a grid point. -/
theorem idx : ∀ t : Fin cfg0.N, win0_0.index t = ![(grid0.coords t 0).val, (grid0.coords t 1).val, 0]
    ∧ win0_1.index t = ![8, 0, 0] ∧ win0_2.index t = ![0, 0] ∧ win0_3.index t = ![0, 0] ∧ win0_4.index t = ![0, 0]
    ∧ win0_5.index t = ![(grid0.coords t 0).val, (grid0.coords t 1).val, 0]
    ∧ win0_6.index t = ![(grid0.coords t 0).val, (grid0.coords t 1).val, 0, 0] :=
  (by decide +kernel : ∀ t : Fin grid0.N, _)

/-- The chunks of 128 tokens of a grid point. -/
def part (t : Fin cfg0.N) (a : Fin 2) : Fin 2 :=
  ⟨(grid0.coords t 1).val * 2 + a.val, by have h : (grid0.coords t 1).val < 1 := (grid0.coords t 1).isLt; omega⟩

/-- The batch entry of a grid point. -/
def bat (t : Fin cfg0.N) : Fin 8 := ⟨(grid0.coords t 0).val, (grid0.coords t 0).isLt⟩

/-- The token of a grid point's row. -/
def tok (t : Fin cfg0.N) (r : Fin 256) : Fin 256 :=
  ⟨(grid0.coords t 1).val * 256 + r.val, by have h : (grid0.coords t 1).val < 1 := (grid0.coords t 1).isLt; omega⟩

/-- The context block's row is the token's row. -/
theorem w0 (c : Dev nD) (t : Fin cfg0.N) (r : Fin 256) (k : Fin 1024) : (iblk m c 0 t : S1x256x1024.Idx → EReal) (ix3 0 r k)
    = (m ((c : Thread nD τ).loc main_arg0) : S8x256x1024.Idx → EReal) (ix3 (bat t) (tok t r) k) := by
  rw [← V_main_arg0 m c]
  unfold bat tok
  blk_point [iblk, idx t]

/-- The modulation block is the last one. -/
theorem w1 (c : Dev nD) (t : Fin cfg0.N) (a : Fin 9) (k : Fin 1024) : (iblk m c 1 t : S1x9x1024.Idx → EReal) (ix3 0 a k)
    = (m ((c : Thread nD τ).loc main_arg1) : S9x9x1024.Idx → EReal) (ix3 8 a k) := by
  rw [← V_main_arg1 m c]
  blk_point [iblk, idx t]

/-- The norm weights, whole. -/
theorem w2 (c : Dev nD) (t : Fin cfg0.N) (a : Fin 3) (k : Fin 1024) : (iblk m c 2 t : S3x1024.Idx → EReal) (ix2 a k)
    = (m ((c : Thread nD τ).loc main_arg2) : S2x3x1024.Idx → EReal) (ix3 1 a k) := by
  refine Eq.trans ?_ (norm_table m c a k)
  blk_point [iblk, idx t]

/-- The key and value weights, whole, -/
theorem w3 (c : Dev nD) (t : Fin cfg0.N) (k : Fin 1024) (j : Fin 2048) : (iblk m c 3 t : S1024x2048.Idx → EReal) (ix2 k j)
    = (m ((c : Thread nD τ).loc main_arg3) : S1x1024x3072.Idx → EReal) (ix3 0 k ⟨1024 + j.val, by omega⟩) := by
  refine Eq.trans ?_ (weight_table m c k j)
  blk_point [iblk, idx t]

/-- and the turned value weights. -/
theorem w4 (c : Dev nD) (t : Fin cfg0.N) (j k : Fin 1024) : (iblk m c 4 t : S1024x1024.Idx → EReal) (ix2 j k)
    = (m ((c : Thread nD τ).loc main_arg3) : S1x1024x3072.Idx → EReal) (ix3 0 k ⟨2048 + j.val, by omega⟩) := by
  refine Eq.trans ?_ (turned_table m c j k)
  blk_point [iblk, idx t]

/-- Where window 5's block puts its row and lane. -/
theorem at5 (t : Fin cfg0.N) (r : Fin 256) (j : Fin 1024) :
    (ix3 (bat t) (tok t r) j : S8x256x1024.Idx) = (win0_5.blk t).view.emb (ix3 0 r j) := by
  unfold bat tok
  blk_ext [idx t]

/-- Where window 6's block puts its lane and row. -/
theorem at6 (t : Fin cfg0.N) (a : Fin 2) (j : Fin 1024) (r : Fin 128) :
    (ix4 (bat t) (part t a) j r : S8x2x1024x128.Idx) = (win0_6.blk t).view.emb (ix4 0 a j r) := by
  unfold bat part
  blk_ext [idx t]

end Cert.Kernel10Ideal.Block

end
-- ==== Proof.CtxNaFinal.lean ====
/-
  The input projection of layer 1's context: what its result arrays hold after the run, as functions of the arguments.
-/
module

public import proofs.«01_k».proof.Proof.CtxNaArray

@[expose] public section

set_option maxRecDepth 16384

noncomputable section

open Idealize.ShloMosaic Idealize.ShloMosaic.TcCoe Idealize.SL.Sem

namespace Cert.Kernel10Ideal.Block

open Cert.Kernel10Ideal Cert.Kernel10Ideal.Gen

variable (m : (ℓ : Loc nD τ sig) → Buf (Elt Ideal) ℓ)

/-- A token's product with one weight column after its norm and modulation; all tokens take the last row of the modulation. -/
def prod (x : FVec Ideal S8x256x1024 .f32) (md : FVec Ideal S9x9x1024 .f32) (nw : FVec Ideal S2x3x1024 .f32)
    (w : FVec Ideal S1x1024x3072 .f32) (b : Fin 8) (n : Fin 256) (j : Fin 3072) : EReal :=
  Proj.col (Ffn.normed (fun k => x (ix3 b n k)) (fun k => nw (ix3 1 1 k)) (fun k => md (ix3 8 4 k))
    (fun k => md (ix3 8 3 k))) (fun k => w (ix3 0 k j))

/-- A block row's product with a key weight column is the token's, -/
theorem prod_key (c : Dev nD) (t : Fin cfg0.N) (r : Fin 256) (j : Fin 2048) :
    Proj.col (row (iblk m c 0 t) (iblk m c 1 t) (iblk m c 2 t) r) (fun k => (iblk m c 3 t : S1024x2048.Idx → EReal) (ix2 k j))
      = prod (m ((c : Thread nD τ).loc main_arg0)) (m ((c : Thread nD τ).loc main_arg1)) (m ((c : Thread nD τ).loc main_arg2)) (m ((c : Thread nD τ).loc main_arg3)) (bat t) (tok t r) ⟨1024 + j.val, by omega⟩ := by
  unfold row prod
  simp only [w0, w1, w2, w3]

/-- and with a value weight column too. -/
theorem prod_value (c : Dev nD) (t : Fin cfg0.N) (r : Fin 256) (j : Fin 1024) :
    Proj.col (row (iblk m c 0 t) (iblk m c 1 t) (iblk m c 2 t) r) (fun k => (iblk m c 4 t : S1024x1024.Idx → EReal) (ix2 j k))
      = prod (m ((c : Thread nD τ).loc main_arg0)) (m ((c : Thread nD τ).loc main_arg1)) (m ((c : Thread nD τ).loc main_arg2)) (m ((c : Thread nD τ).loc main_arg3)) (bat t) (tok t r) ⟨2048 + j.val, by omega⟩ := by
  unfold row prod
  simp only [w0, w1, w2, w4]

/-- The keys as a function of the arguments, -/
def G5 (x : FVec Ideal S8x256x1024 .f32) (md : FVec Ideal S9x9x1024 .f32) (nw : FVec Ideal S2x3x1024 .f32)
    (w : FVec Ideal S1x1024x3072 .f32) (b : Fin 8) (n : Fin 256) (j : Fin 1024) : EReal :=
  prod x md nw w b n ⟨1024 + j.val, by omega⟩

/-- and the values, lanes first in chunks of 128 tokens. -/
def G6 (x : FVec Ideal S8x256x1024 .f32) (md : FVec Ideal S9x9x1024 .f32) (nw : FVec Ideal S2x3x1024 .f32)
    (w : FVec Ideal S1x1024x3072 .f32) (b : Fin 8) (g : Fin 2) (j : Fin 1024) (r : Fin 128) : EReal :=
  prod x md nw w b ⟨g.val * 128 + r.val, by omega⟩ ⟨2048 + j.val, by omega⟩

/-- After the run the key array holds its function of the arguments. -/
theorem final5 (c : Dev nD) : (dats m 0 c).arrAt 5 (cfgs 0).N = (fun i : S8x256x1024.Idx =>
    (G5 (m ((c : Thread nD τ).loc main_arg0)) (m ((c : Thread nD τ).loc main_arg1)) (m ((c : Thread nD τ).loc main_arg2)) (m ((c : Thread nD τ).loc main_arg3)) (i 0) (i 1) (i 2) : EReal)) := by
  refine (dats m 0 c).arrAt_eq_of_covers 5 _ (by decide +kernel) fun t _ y => ?_
  blk_simp
  rw [after0_5]
  obtain ⟨u, r, j, rfl⟩ : ∃ (u : Fin 1) (r : Fin 256) (j : Fin 1024), y = ix3 u r j := ⟨y 0, y 1, y 2, eq_ix3 y⟩
  obtain rfl : u = 0 := Subsingleton.elim _ _
  refine (block5  _ _ _ _ _ r j).trans ?_
  rw [prod_key]
  have e := at5 t r j
  dsimp only at e ⊢
  refine Eq.trans ?_ (congrArg (fun i : S8x256x1024.Idx => (G5 (m ((c : Thread nD τ).loc main_arg0)) (m ((c : Thread nD τ).loc main_arg1)) (m ((c : Thread nD τ).loc main_arg2)) (m ((c : Thread nD τ).loc main_arg3)) (i 0) (i 1) (i 2) : EReal)) e)
  unfold G5
  rfl

/-- A token counted in chunks of 128 within its block. -/
theorem tok_part (t : Fin cfg0.N) (a : Fin 2) (r : Fin 128) : tok t ⟨a.val * 128 + r.val, by omega⟩
    = (⟨(part t a).val * 128 + r.val, by omega⟩ : Fin 256) :=
  Fin.ext (by unfold tok part; dsimp only; omega)

/-- After the run the value array holds its function of the arguments. -/
theorem final6 (c : Dev nD) : (dats m 0 c).arrAt 6 (cfgs 0).N = (fun i : S8x2x1024x128.Idx =>
    (G6 (m ((c : Thread nD τ).loc main_arg0)) (m ((c : Thread nD τ).loc main_arg1)) (m ((c : Thread nD τ).loc main_arg2)) (m ((c : Thread nD τ).loc main_arg3)) (i 0) (i 1) (i 2) (i 3) : EReal)) := by
  refine (dats m 0 c).arrAt_eq_of_covers 6 _ (by decide +kernel) fun t _ y => ?_
  blk_simp
  rw [after0_6]
  obtain ⟨u, a, j, r, rfl⟩ : ∃ (u : Fin 1) (a : Fin 2) (j : Fin 1024) (r : Fin 128), y = ix4 u a j r := ⟨y 0, y 1, y 2, y 3, eq_ix4 y⟩
  obtain rfl : u = 0 := Subsingleton.elim _ _
  refine (block6 _ _ _ _ _ a j r).trans ?_
  rw [prod_value, tok_part]
  have e := at6 t a j r
  dsimp only at e ⊢
  refine Eq.trans ?_ (congrArg (fun i : S8x2x1024x128.Idx => (G6 (m ((c : Thread nD τ).loc main_arg0)) (m ((c : Thread nD τ).loc main_arg1)) (m ((c : Thread nD τ).loc main_arg2)) (m ((c : Thread nD τ).loc main_arg3)) (i 0) (i 1) (i 2) (i 3) : EReal)) e)
  unfold G6
  rfl

end Cert.Kernel10Ideal.Block

end
-- ==== Proof.CtxNaRef.lean ====
/-
  The reference of the projection of layer 1's context: what each of its results holds.
-/
module

public import proofs.«01_k».proof.Proof.CtxNaFinal
public import proofs.«01_k».proof.Proof.Gen.Reference10Ideal.Run

@[expose] public section

set_option maxRecDepth 16384

noncomputable section

open Idealize.ShloMosaic Idealize.ShloMosaic.TcCoe Idealize.SL.Sem

namespace Cert.Reference10Ideal.RefValue

open Cert.Reference10Ideal Cert.Reference10Ideal.Gen

variable (x : FVec Ideal S8x256x1024 .f32) (md : FVec Ideal S9x9x1024 .f32) (nw : FVec Ideal S2x3x1024 .f32)
    (w : FVec Ideal S1x1024x3072 .f32)

/-- The projected array as the reference writes it: norm, modulation, product. -/
def proj : FVec Ideal S8x256x2048 .f32 :=
  Host.dotGeneral dot_S8x256x1024_S1024x2048_S8x256x2048_2_0_01_1_n_n none (addf (mulf (mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ (extractStridedSlice S1x1x1024 ![1, 1, 0] nw slices_S2x3x1024_S1x1x1024_1_1_0) shapeCasts_S1x1x1024_S1024)))) (broadcastInDim S8x256x1024 ![0, 1, 2] bcast_S1x1x1024_S8x256x1024_0_1_2 (addf (broadcastInDim S1x1x1024 ![] bcast_S_S1x1x1024 (constant S_ .f32 0x3F800000#32)) (shapeCast _ (extractStridedSlice S1x1x1x1024 ![0, 4, 0, 0] (shapeCast _ (extractStridedSlice S1x9x1024 ![8, 0, 0] md slices_S9x9x1024_S1x9x1024_8_0_0) shapeCasts_S1x9x1024_S1x9x1x1024) slices_S1x9x1x1024_S1x1x1x1024_0_4_0_0) shapeCasts_S1x1x1x1024_S1x1x1024)))) (broadcastInDim S8x256x1024 ![0, 1, 2] bcast_S1x1x1024_S8x256x1024_0_1_2 (shapeCast _ (extractStridedSlice S1x1x1x1024 ![0, 3, 0, 0] (shapeCast _ (extractStridedSlice S1x9x1024 ![8, 0, 0] md slices_S9x9x1024_S1x9x1024_8_0_0) shapeCasts_S1x9x1024_S1x9x1x1024) slices_S1x9x1x1024_S1x1x1x1024_0_3_0_0) shapeCasts_S1x1x1x1024_S1x1x1024))) (shapeCast _ (extractStridedSlice S1x1024x2048 ![0, 0, 1024] w slices_S1x1024x3072_S1x1024x2048_0_0_1024) shapeCasts_S1x1024x2048_S1024x2048)

/-- A token and a column of it. -/
theorem projected (b : Fin 8) (n : Fin 256) (j : Fin 2048) : (proj x md nw w : S8x256x2048.Idx → EReal) (ix3 b n j)
    = Cert.Kernel10Ideal.Block.prod x md nw w b n ⟨1024 + j.val, by omega⟩ := by
  unfold proj
  pointwise
  rfl

/-- The first result: the keys. -/
theorem keys (b : Fin 8) (n : Fin 256) (j : Fin 1024) :
    (truncf .bf16 (extractStridedSlice S8x256x1024 ![0, 0, 0] (proj x md nw w) slices_S8x256x2048_S8x256x1024_0_0_0) bitsLt_bf16_f32 : S8x256x1024.Idx → EReal) (ix3 b n j)
      = Cert.Kernel10Ideal.Block.G5 x md nw w b n j := by
  unfold Cert.Kernel10Ideal.Block.G5
  refine Eq.trans ?_ (projected x md nw w b n ⟨j.val, by omega⟩)
  pointwise

/-- The second result: the values, lanes first in chunks of 128 tokens. -/
theorem values (b : Fin 8) (g : Fin 2) (j : Fin 1024) (r : Fin 128) :
    (truncf .bf16 (transpose S8x2x1024x128 [0, 1, 3, 2] (shapeCast S8x2x128x1024 (extractStridedSlice S8x256x1024 ![0, 0, 1024] (proj x md nw w) slices_S8x256x2048_S8x256x1024_0_0_1024) shapeCasts_S8x256x1024_S8x2x128x1024) transposes_S8x2x128x1024_S8x2x1024x128_0_1_3_2) bitsLt_bf16_f32 : S8x2x1024x128.Idx → EReal) (ix4 b g j r)
      = Cert.Kernel10Ideal.Block.G6 x md nw w b g j r := by
  have e : (⟨2048 + j.val, by omega⟩ : Fin 3072) = ⟨1024 + (1024 + j.val), by omega⟩ := Fin.ext (by dsimp only; omega)
  unfold Cert.Kernel10Ideal.Block.G6
  rw [e]
  refine Eq.trans ?_ (projected x md nw w b ⟨g.val * 128 + r.val, by omega⟩ ⟨1024 + j.val, by omega⟩)
  pointwise

end Cert.Reference10Ideal.RefValue

end
-- ==== Proof.CtxNaClaim.lean ====
/-
  The input projection of layer 1's context equals its reference.
-/
module

public import proofs.«01_k».proof.Defs
public import proofs.«01_k».proof.Proof.CtxNaRef
public import proofs.«01_k».proof.Proof.Gen.Kernel10Ideal.Value

@[expose] public section

set_option maxRecDepth 16384

noncomputable section

open Idealize.ShloMosaic Idealize.ShloMosaic.TcCoe Idealize.SL.Sem

namespace Cert.Proof

/-- The reference run leaves its arguments and its counters as they were. -/
theorem frame_ref10 : Cert.quiescent_Reference10Ideal := fun m ρ _ =>
  (θ_run _ _ _).mono (fun r h => ⟨fun c => (h c).2.2, sem_eq_zero_of_no_sems (by decide) r.2⟩) (Cert.Reference10Ideal.Value.run m ρ)

/-- From equal arguments the kernel's two result arrays and the reference's hold the same numbers. -/
theorem algebraic10 : Cert.algebraic_Kernel10Ideal_Reference10Ideal := by
  intro m ρ m' ρ' _ hagree
  refine ⟨fun c => (Cert.Kernel10Ideal.Gen.dats m 0 c).arrAt 5 (Cert.Kernel10Ideal.cfgs 0).N,
    fun c => (Cert.Kernel10Ideal.Gen.dats m 0 c).arrAt 6 (Cert.Kernel10Ideal.cfgs 0).N, Cert.Kernel10Ideal.Value.run_blocks m ρ, ?_⟩
  refine (θ_run _ _ _).mono (fun r h c => ⟨(h c).1.trans ?_, (h c).2.1.trans ?_, (h c).2.2⟩)
    (Cert.Reference10Ideal.Value.run m' ρ')
  · obtain ⟨h0, h1, h2, h3⟩ := hagree c
    refine Eq.trans ?_ (Cert.Kernel10Ideal.Block.final5 m c).symm
    funext i
    obtain ⟨b, n, j, rfl⟩ : ∃ (b : Fin 8) (n : Fin 256) (j : Fin 1024), i = ix3 b n j := ⟨i 0, i 1, i 2, eq_ix3 i⟩
    refine (Cert.Reference10Ideal.RefValue.keys (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) b n j).trans ?_
    rw [h0, h1, h2, h3]
    rfl
  · obtain ⟨h0, h1, h2, h3⟩ := hagree c
    refine Eq.trans ?_ (Cert.Kernel10Ideal.Block.final6 m c).symm
    funext i
    obtain ⟨b, g, j, r, rfl⟩ : ∃ (b : Fin 8) (g : Fin 2) (j : Fin 1024) (r : Fin 128), i = ix4 b g j r := ⟨i 0, i 1, i 2, i 3, eq_ix4 i⟩
    refine (Cert.Reference10Ideal.RefValue.values (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) b g j r).trans ?_
    rw [h0, h1, h2, h3]
    rfl

end Cert.Proof

end
-- ==== Proof.lean ====
/- The certificate: the four programs' frames, the two agreements of the printed kernels with their
   readings over the reals, and the value claims, each proved in its own module, put together. -/
module

public import proofs.«01_k».proof.Defs
public import proofs.«01_k».proof.Proof.Gen.Kernel
public import proofs.«01_k».proof.Proof.Gen.Kernel.Frame
public import proofs.«01_k».proof.Proof.Gen.Kernel2
public import proofs.«01_k».proof.Proof.Gen.Kernel2.Frame
public import proofs.«01_k».proof.Proof.Gen.Kernel3
public import proofs.«01_k».proof.Proof.Gen.Kernel3.Frame
public import proofs.«01_k».proof.Proof.Gen.Kernel4
public import proofs.«01_k».proof.Proof.Gen.Kernel4.Frame
public import proofs.«01_k».proof.Proof.Gen.KernelIdeal
public import proofs.«01_k».proof.Proof.Gen.KernelIdeal.Value
public import proofs.«01_k».proof.Proof.Gen.Kernel2Ideal
public import proofs.«01_k».proof.Proof.Gen.Kernel2Ideal.Value
public import proofs.«01_k».proof.Proof.Gen.Kernel3Ideal
public import proofs.«01_k».proof.Proof.Gen.Kernel3Ideal.Value
public import proofs.«01_k».proof.Proof.Gen.Kernel4Ideal
public import proofs.«01_k».proof.Proof.Gen.Kernel4Ideal.Value
public import proofs.«01_k».proof.Proof.Gen.ReferenceIdeal
public import proofs.«01_k».proof.Proof.Gen.ReferenceIdeal.Run
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.AttnClaim
public import proofs.«01_k».proof.Proof.Ffn2Claim
public import proofs.«01_k».proof.Proof.Ffn3Claim
public import proofs.«01_k».proof.Proof.Ffn4Claim
public import Idealize.ShloMosaic.Adequacy
public import proofs.«01_k».proof.Proof.ProjClaim
public import proofs.«01_k».proof.Proof.NaClaim
public import proofs.«01_k».proof.Proof.CtxFfnClaim
public import proofs.«01_k».proof.Proof.CtxMixClaim
public import proofs.«01_k».proof.Proof.CtxProjClaim
public import proofs.«01_k».proof.Proof.CtxNaClaim
public import Idealize.ShloMosaic.Init

@[expose] public section

noncomputable section

namespace Cert.Proof

open Idealize.ShloMosaic Idealize.SL.Sem

/-- The attention kernel's scale, given as a single-precision literal in the program, is read over the reals as
`(1/8) / log 2`. -/
theorem preserves : Cert.preserves_Kernel_KernelIdeal :=
  IdealRules.named_const.statement Cert.KernelIdeal.κ "qk_scale" .f32 0x3E38AA3B#32 _ rfl

/-- The attention reference finishes on every core and leaves its arguments and the result as the program says. -/
theorem frame_ref : Cert.quiescent_ReferenceIdeal := fun m ρ _ =>
  (θ_run _ _ _).mono (fun r h => ⟨fun c => (h c).2, sem_eq_zero_of_no_sems (by decide) r.2⟩)
    (Cert.ReferenceIdeal.Value.run m ρ)

/-- The same of the runs whose arguments have real entries. -/
theorem frame_ref_finite : Cert.quiescent_ReferenceIdeal_pre_finite := fun m ρ _ => frame_ref m ρ trivial

/-- All the claims of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts, Cert.Pre_finite.facts,
    fun m ρ _ => Cert.Kernel.Gen.frame m ρ, fun m ρ _ => Cert.KernelIdeal.Gen.frame m ρ, fun m ρ _ => Cert.KernelIdeal.Gen.frame m ρ, frame_ref, frame_ref_finite,
    fun m ρ _ => Cert.Kernel2.Gen.frame m ρ, fun m ρ _ => Cert.Kernel2Ideal.Gen.frame m ρ, frame_ref2,
    fun m ρ _ => Cert.Kernel3.Gen.frame m ρ, fun m ρ _ => Cert.Kernel3Ideal.Gen.frame m ρ, frame_ref3,
    fun m ρ _ => Cert.Kernel4.Gen.frame m ρ, fun m ρ _ => Cert.Kernel4Ideal.Gen.frame m ρ, frame_ref4,
    fun m ρ _ => Cert.Kernel5.Gen.frame m ρ, fun m ρ _ => Cert.Kernel5Ideal.Gen.frame m ρ, frame_ref5,
    fun m ρ _ => Cert.Kernel6.Gen.frame m ρ, fun m ρ _ => Cert.Kernel6Ideal.Gen.frame m ρ, frame_ref6,
    fun m ρ _ => Cert.Kernel7.Gen.frame m ρ, fun m ρ _ => Cert.Kernel7Ideal.Gen.frame m ρ, frame_ref7,
    fun m ρ _ => Cert.Kernel8.Gen.frame m ρ, fun m ρ _ => Cert.Kernel8Ideal.Gen.frame m ρ, frame_ref8,
    fun m ρ _ => Cert.Kernel9.Gen.frame m ρ, fun m ρ _ => Cert.Kernel9Ideal.Gen.frame m ρ, frame_ref9,
    fun m ρ _ => Cert.Kernel10.Gen.frame m ρ, fun m ρ _ => Cert.Kernel10Ideal.Gen.frame m ρ, frame_ref10,
    preserves, algebraic1, trivial, algebraic2, trivial, algebraic3, trivial, algebraic4, trivial, algebraic5, trivial, algebraic6,
    trivial, algebraic7, trivial, algebraic8, trivial, algebraic9, trivial, algebraic10⟩

end Cert.Proof

end
